-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v114)) (v2 : (c : Dev Cert.KernelIdeal.nD) → Buf (Elt Ideal) ((c.tc : Thread Cert.KernelIdeal.nD Cert.KernelIdeal.τ).loc Cert.KernelIdeal.main_v116)) (v3 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_v116) = v2 c
          ∧ r.2.mem ((c.tc : Thread Cert.KernelIdeal.nD Cert.KernelIdeal.τ).loc Cert.KernelIdeal.main_v108) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v24) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v20) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x2048x16x64 : Shape := ⟨4, ![2, 2048, 16, 64]⟩
abbrev S2x2048x16 : Shape := ⟨3, ![2, 2048, 16]⟩
abbrev S_ : Shape := ⟨0, ![]⟩

class Facts : Prop where
  bcast_S_S2x2048x16x64 : S_.BroadcastsInDim S2x2048x16x64 (![] : Fin 0 → Fin S2x2048x16x64.rank)
  reducesTo_S2x2048x16x64_S_d0_1_2_3 : S2x2048x16x64.ReducesTo [0, 1, 2, 3] S_
  h_S_ : 0 < S_.numel
  bcast_S_S2x2048x16 : S_.BroadcastsInDim S2x2048x16 (![] : Fin 0 → Fin S2x2048x16.rank)
  reducesTo_S2x2048x16_S_d0_1_2 : S2x2048x16.ReducesTo [0, 1, 2] S_

variable [Facts]

def fn_part1 {F : FTy → Type} [FloatOps F] (main_arg4 : FVec F S2x2048x16x64 .f32) (main_v13 : IVec S_ 1) (main_v16 : IVec S2x2048x16 1) : IVec S_ 1 :=
  let main_c_5 : IVec S_ 1 := constantI S_ 1 1#1
  let main_v17 : IVec S_ 1 := (fun x v => Host.reduce IntOp.andi x v reducesTo_S2x2048x16_S_d0_1_2 h_S_) main_v16 main_c_5
  let main_v18 : IVec S_ 1 := andi main_v13 main_v17
  let main_v19 : FVec F S2x2048x16x64 .f32 := Host.absf main_arg4
  let main_cst_6 : FVec F S_ .f32 := constant S_ .f32 0x7F800000#32
  let main_v20 : FVec F S2x2048x16x64 .f32 := broadcastInDim S2x2048x16x64 ![] bcast_S_S2x2048x16x64 main_cst_6
  let main_v21 : IVec S2x2048x16x64 1 := cmpf .olt main_v19 main_v20
  let main_c_7 : IVec S_ 1 := constantI S_ 1 1#1
  let main_v22 : IVec S_ 1 := (fun x v => Host.reduce IntOp.andi x v reducesTo_S2x2048x16x64_S_d0_1_2_3 h_S_) main_v21 main_c_7
  let main_v23 : IVec S_ 1 := andi main_v18 main_v22
  main_v23

def fn {F : FTy → Type} [FloatOps F] (main_arg0 : FVec F S2x2048x16x64 .f32) (main_arg1 : FVec F S2x2048x16x64 .f32) (main_arg2 : FVec F S2x2048x16x64 .f32) (main_arg3 : FVec F S2x2048x16 .f32) (main_arg4 : FVec F S2x2048x16x64 .f32) : IVec S_ 1 :=
  let main_v0 : FVec F S2x2048x16x64 .f32 := Host.absf main_arg0
  let main_cst : FVec F S_ .f32 := constant S_ .f32 0x7F800000#32
  let main_v1 : FVec F S2x2048x16x64 .f32 := broadcastInDim S2x2048x16x64 ![] bcast_S_S2x2048x16x64 main_cst
  let main_v2 : IVec S2x2048x16x64 1 := cmpf .olt main_v0 main_v1
  let main_c : IVec S_ 1 := constantI S_ 1 1#1
  let main_v3 : IVec S_ 1 := (fun x v => Host.reduce IntOp.andi x v reducesTo_S2x2048x16x64_S_d0_1_2_3 h_S_) main_v2 main_c
  let main_v4 : FVec F S2x2048x16x64 .f32 := Host.absf main_arg1
  let main_cst_0 : FVec F S_ .f32 := constant S_ .f32 0x7F800000#32
  let main_v5 : FVec F S2x2048x16x64 .f32 := broadcastInDim S2x2048x16x64 ![] bcast_S_S2x2048x16x64 main_cst_0
  let main_v6 : IVec S2x2048x16x64 1 := cmpf .olt main_v4 main_v5
  let main_c_1 : IVec S_ 1 := constantI S_ 1 1#1
  let main_v7 : IVec S_ 1 := (fun x v => Host.reduce IntOp.andi x v reducesTo_S2x2048x16x64_S_d0_1_2_3 h_S_) main_v6 main_c_1
  let main_v8 : IVec S_ 1 := andi main_v3 main_v7
  let main_v9 : FVec F S2x2048x16x64 .f32 := Host.absf main_arg2
  let main_cst_2 : FVec F S_ .f32 := constant S_ .f32 0x7F800000#32
  let main_v10 : FVec F S2x2048x16x64 .f32 := broadcastInDim S2x2048x16x64 ![] bcast_S_S2x2048x16x64 main_cst_2
  let main_v11 : IVec S2x2048x16x64 1 := cmpf .olt main_v9 main_v10
  let main_c_3 : IVec S_ 1 := constantI S_ 1 1#1
  let main_v12 : IVec S_ 1 := (fun x v => Host.reduce IntOp.andi x v reducesTo_S2x2048x16x64_S_d0_1_2_3 h_S_) main_v11 main_c_3
  let main_v13 : IVec S_ 1 := andi main_v8 main_v12
  let main_v14 : FVec F S2x2048x16 .f32 := Host.absf main_arg3
  let main_cst_4 : FVec F S_ .f32 := constant S_ .f32 0x7F800000#32
  let main_v15 : FVec F S2x2048x16 .f32 := broadcastInDim S2x2048x16 ![] bcast_S_S2x2048x16 main_cst_4
  let main_v16 : IVec S2x2048x16 1 := cmpf .olt main_v14 main_v15
  fn_part1 (F := F) main_arg4 main_v13 main_v16
-- ==== Kernel.lean ====
abbrev S2x2048x16x64 : Shape := ⟨4, ![2, 2048, 16, 64]⟩
abbrev S2x2048x16 : Shape := ⟨3, ![2, 2048, 16]⟩
abbrev S2x16x2048 : Shape := ⟨3, ![2, 16, 2048]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x2048x64 : Shape := ⟨4, ![2, 16, 2048, 64]⟩
abbrev S2x16x2048x3 : Shape := ⟨4, ![2, 16, 2048, 3]⟩
abbrev S2x16x2048x55 : Shape := ⟨4, ![2, 16, 2048, 55]⟩
abbrev S2x16x2048x128 : Shape := ⟨4, ![2, 16, 2048, 128]⟩
abbrev S2x16x2048x61 : Shape := ⟨4, ![2, 16, 2048, 61]⟩
abbrev S1x4x2048x128 : Shape := ⟨4, ![1, 4, 2048, 128]⟩
abbrev S1x1x2048x128 : Shape := ⟨4, ![1, 1, 2048, 128]⟩
abbrev S2048x128 : Shape := ⟨2, ![2048, 128]⟩
abbrev S512x128 : Shape := ⟨2, ![512, 128]⟩
abbrev S1x1x512x128 : Shape := ⟨4, ![1, 1, 512, 128]⟩
abbrev S512x512 : Shape := ⟨2, ![512, 512]⟩
abbrev S1536x128 : Shape := ⟨2, ![1536, 128]⟩
abbrev S1024x128 : Shape := ⟨2, ![1024, 128]⟩
abbrev S1024x512 : Shape := ⟨2, ![1024, 512]⟩
abbrev S1536x512 : Shape := ⟨2, ![1536, 512]⟩
abbrev S2048x512 : Shape := ⟨2, ![2048, 512]⟩

abbrev nBuf : Space → Nat
  | .hbm => 142
  | .vmem => 14
  | .smem => 0
  | _ => 0

abbrev hbmTy0_0 (i : Nat) : BufTy := match i % 128 with
  | 0 => ⟨S2x2048x16x64, .f32⟩
  | 1 => ⟨S2x2048x16x64, .f32⟩
  | 2 => ⟨S2x2048x16x64, .f32⟩
  | 3 => ⟨S2x2048x16, .f32⟩
  | 4 => ⟨S2x2048x16x64, .f32⟩
  | 5 => ⟨S2x16x2048, .f32⟩
  | 6 => ⟨S2x16x2048x2048, .f32⟩
  | 7 => ⟨S_, .f32⟩
  | 8 => ⟨S2x16x2048x2048, .f32⟩
  | 9 => ⟨S2x16x2048x2048, .f32⟩
  | 10 => ⟨S2x16x2048x1, .f32⟩
  | 11 => ⟨S2x16x1x2048, .f32⟩
  | 12 => ⟨S2x16x2048x2048, .f32⟩
  | 13 => ⟨S2x16x2048x2048, .f32⟩
  | 14 => ⟨S2x16x2048x2048, .f32⟩
  | 15 => ⟨S2x16x2048x2048, .f32⟩
  | 16 => ⟨S2048, .i32⟩
  | 17 => ⟨S1x2048, .i32⟩
  | 18 => ⟨S2048x1, .i32⟩
  | 19 => ⟨S2048x2048, .i32⟩
  | 20 => ⟨S2048x2048, .i32⟩
  | 21 => ⟨S2048x2048, .i1⟩
  | 22 => ⟨S_, .f32⟩
  | 23 => ⟨S_, .f32⟩
  | 24 => ⟨S2x16x2048x2048, .i1⟩
  | 25 => ⟨S2x16x2048x2048, .f32⟩
  | 26 => ⟨S2x16x2048x2048, .f32⟩
  | 27 => ⟨S_, .f32⟩
  | 28 => ⟨S2x16x2048, .f32⟩
  | 29 => ⟨S2x16x2048x1, .f32⟩
  | 30 => ⟨S2x16x2048x2048, .f32⟩
  | 31 => ⟨S2x16x2048x2048, .f32⟩
  | 32 => ⟨S2x16x2048x2048, .f32⟩
  | 33 => ⟨S_, .f32⟩
  | 34 => ⟨S2x16x2048, .f32⟩
  | 35 => ⟨S2x16x2048x1, .f32⟩
  | 36 => ⟨S2x16x2048x2048, .f32⟩
  | 37 => ⟨S2x16x2048x2048, .f32⟩
  | 38 => ⟨S2x16x2048x64, .f32⟩
  | 39 => ⟨S2x16x2048x1, .f32⟩
  | 40 => ⟨S2x16x2048x1, .f32⟩
  | 41 => ⟨S2x16x2048x64, .f32⟩
  | 42 => ⟨S2x16x2048x64, .f32⟩
  | 43 => ⟨S_, .f32⟩
  | 44 => ⟨S2x16x2048, .f32⟩
  | 45 => ⟨S2x16x2048x1, .f32⟩
  | 46 => ⟨S2x16x2048x1, .f32⟩
  | 47 => ⟨S2x16x2048x1, .f32⟩
  | 48 => ⟨S2x16x2048x64, .f32⟩
  | 49 => ⟨S_, .f32⟩
  | 50 => ⟨S2x16x2048x64, .f32⟩
  | 51 => ⟨S2x16x2048x64, .f32⟩
  | 52 => ⟨S2x16x2048x1, .bf16⟩
  | 53 => ⟨S2x16x2048x1, .f32⟩
  | 54 => ⟨S2x16x2048x1, .f32⟩
  | 55 => ⟨S2x16x2048x1, .bf16⟩
  | 56 => ⟨S2x16x2048x1, .f32⟩
  | 57 => ⟨S2x16x2048x1, .f32⟩
  | 58 => ⟨S2x16x2048x1, .bf16⟩
  | 59 => ⟨S2x16x2048x1, .f32⟩
  | 60 => ⟨S2x16x2048x1, .f32⟩
  | 61 => ⟨S2x16x2048x1, .f32⟩
  | 62 => ⟨S2x16x2048x3, .f32⟩
  | 63 => ⟨S_, .f32⟩
  | 64 => ⟨S2x16x2048x3, .f32⟩
  | 65 => ⟨S2x16x2048x1, .f32⟩
  | 66 => ⟨S2x16x2048x1, .bf16⟩
  | 67 => ⟨S2x16x2048x1, .f32⟩
  | 68 => ⟨S2x16x2048x1, .f32⟩
  | 69 => ⟨S2x16x2048x1, .bf16⟩
  | 70 => ⟨S2x16x2048x1, .f32⟩
  | 71 => ⟨S2x16x2048x1, .f32⟩
  | 72 => ⟨S2x16x2048x1, .bf16⟩
  | 73 => ⟨S2x16x2048x1, .f32⟩
  | 74 => ⟨S2x16x2048x1, .f32⟩
  | 75 => ⟨S2x16x2048x1, .f32⟩
  | 76 => ⟨S2x16x2048x3, .f32⟩
  | 77 => ⟨S_, .f32⟩
  | 78 => ⟨S2x16x2048x55, .f32⟩
  | 79 => ⟨S2x16x2048x128, .f32⟩
  | 80 => ⟨S2x16x2048x128, .bf16⟩
  | 81 => ⟨S2x16x2048x64, .f32⟩
  | 82 => ⟨S_, .f32⟩
  | 83 => ⟨S2x16x2048x3, .f32⟩
  | 84 => ⟨S2x16x2048x1, .f32⟩
  | 85 => ⟨S2x16x2048x1, .bf16⟩
  | 86 => ⟨S2x16x2048x1, .f32⟩
  | 87 => ⟨S2x16x2048x1, .f32⟩
  | 88 => ⟨S2x16x2048x1, .bf16⟩
  | 89 => ⟨S2x16x2048x1, .f32⟩
  | 90 => ⟨S2x16x2048x1, .f32⟩
  | 91 => ⟨S2x16x2048x1, .bf16⟩
  | 92 => ⟨S2x16x2048x1, .f32⟩
  | 93 => ⟨S2x16x2048x1, .f32⟩
  | 94 => ⟨S2x16x2048x1, .f32⟩
  | 95 => ⟨S2x16x2048x3, .f32⟩
  | 96 => ⟨S_, .f32⟩
  | 97 => ⟨S2x16x2048x3, .f32⟩
  | 98 => ⟨S_, .f32⟩
  | 99 => ⟨S2x16x2048x55, .f32⟩
  | 100 => ⟨S2x16x2048x128, .f32⟩
  | 101 => ⟨S2x16x2048x128, .bf16⟩
  | 102 => ⟨S2x16x2048x64, .f32⟩
  | 103 => ⟨S_, .f32⟩
  | 104 => ⟨S2x16x2048x3, .f32⟩
  | 105 => ⟨S_, .f32⟩
  | 106 => ⟨S2x16x2048x61, .f32⟩
  | 107 => ⟨S2x16x2048x128, .f32⟩
  | 108 => ⟨S2x16x2048x128, .bf16⟩
  | 109 => ⟨S2x16x2048x1, .bf16⟩
  | 110 => ⟨S2x16x2048x1, .f32⟩
  | 111 => ⟨S2x16x2048x1, .f32⟩
  | 112 => ⟨S2x16x2048x1, .bf16⟩
  | 113 => ⟨S2x16x2048x1, .f32⟩
  | 114 => ⟨S2x16x2048x1, .f32⟩
  | 115 => ⟨S2x16x2048x1, .bf16⟩
  | 116 => ⟨S2x16x2048x1, .f32⟩
  | 117 => ⟨S2x16x2048x1, .f32⟩
  | 118 => ⟨S2x16x2048x1, .f32⟩
  | 119 => ⟨S2x16x2048x3, .f32⟩
  | 120 => ⟨S_, .f32⟩
  | 121 => ⟨S2x16x2048x61, .f32⟩
  | 122 => ⟨S2x16x2048x128, .f32⟩
  | 123 => ⟨S2x16x2048x128, .bf16⟩
  | 124 => ⟨S2x16x2048x128, .f32⟩
  | 125 => ⟨S2x16x2048x128, .f32⟩
  | 126 => ⟨S2x16x2048x128, .f32⟩
  | 127 => ⟨S2x16x2048x1, .f32⟩
  | _ => ⟨S2x2048x16x64, .f32⟩

abbrev hbmTy0_1 (i : Nat) : BufTy := match i % 128 with
  | 0 => ⟨S2x16x2048, .f32⟩
  | 1 => ⟨S2x16x2048x1, .f32⟩
  | 2 => ⟨S2x16x2048, .f32⟩
  | 3 => ⟨S2x16x2048, .f32⟩
  | 4 => ⟨S2x2048x16, .f32⟩
  | 5 => ⟨S2x16x2048x64, .f32⟩
  | 6 => ⟨S2x2048x16x64, .f32⟩
  | 7 => ⟨S_, .f32⟩
  | 8 => ⟨S2x2048x16x64, .f32⟩
  | 9 => ⟨S2x2048x16x64, .f32⟩
  | 10 => ⟨S2x16x2048x64, .f32⟩
  | 11 => ⟨S2x2048x16x64, .f32⟩
  | 12 => ⟨S2x16x2048x64, .f32⟩
  | 13 => ⟨S2x2048x16x64, .f32⟩
  | _ => ⟨S2x2048x16x64, .f32⟩

abbrev hbmTy (i : Nat) : BufTy := match i / 128 with
  | 0 => hbmTy0_0 i
  | 1 => hbmTy0_1 i
  | _ => ⟨S2x2048x16x64, .f32⟩

abbrev bufTy : (tb : Table) → Fin (tcTables nBuf tb) → BufTy
  | .hbm, ⟨i, _⟩ => hbmTy i
  | .local _ .vmem, ⟨0, _⟩ => ⟨S1x4x2048x128, .bf16⟩
  | .local _ .vmem, ⟨1, _⟩ => ⟨S1x4x2048x128, .bf16⟩
  | .local _ .vmem, ⟨2, _⟩ => ⟨S1x4x2048x128, .bf16⟩
  | .local _ .vmem, ⟨3, _⟩ => ⟨S1x4x2048x128, .bf16⟩
  | .local _ .vmem, ⟨4, _⟩ => ⟨S1x4x2048x128, .bf16⟩
  | .local _ .vmem, ⟨5, _⟩ => ⟨S1x4x2048x128, .bf16⟩
  | .local _ .vmem, ⟨6, _⟩ => ⟨S1x4x2048x128, .bf16⟩
  | .local _ .vmem, ⟨7, _⟩ => ⟨S1x4x2048x128, .bf16⟩
  | .local _ .vmem, ⟨8, _⟩ => ⟨S1x4x2048x128, .f32⟩
  | .local _ .vmem, ⟨9, _⟩ => ⟨S1x4x2048x128, .f32⟩
  | .local _ .vmem, ⟨10, _⟩ => ⟨S1x4x2048x128, .f32⟩
  | .local _ .vmem, ⟨11, _⟩ => ⟨S1x4x2048x128, .f32⟩
  | .local _ .vmem, ⟨12, _⟩ => ⟨S1x4x2048x128, .f32⟩
  | .local _ .vmem, ⟨13, _⟩ => ⟨S1x4x2048x128, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_10 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_12 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102_0 : Ref sig .tc := ⟨.hbm, 124, rfl⟩
abbrev main_v102_1 : Ref sig .tc := ⟨.hbm, 125, rfl⟩
abbrev main_v102_2 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_13 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def k0_mult1 (i : grid0.Coords) : BitVec 32 :=
  let arg2 : BitVec 32 := BitVec.ofNat 32 (i 2).val
  let c2048_i32 : BitVec 32 := 2048#32
  let v20 : BitVec 32 := Scalar.muli arg2 c2048_i32
  let c0_i32_29 : BitVec 32 := 0#32
  let v21 : BitVec 32 := Scalar.addi v20 c0_i32_29
  v21
def k0_off1 (i : grid0.Coords) (c0_i32_29 : BitVec 32) : Fin 4 → Nat :=
  let c0_30 : Index := 0#32
  let c0_31 : Index := 0#32
  let arg2 : BitVec 32 := BitVec.ofNat 32 (i 2).val
  let c2048_i32 : BitVec 32 := 2048#32
  let v20 : BitVec 32 := Scalar.muli arg2 c2048_i32
  let v21 : BitVec 32 := Scalar.addi v20 c0_i32_29
  let v22 : BitVec 32 := v21
  let v25 : Index := Scalar.indexCast v22
  let c0_32 : Index := 0#32
  ![0, 0, v25.toNat, 0]
def k0_off2 (i : grid0.Coords) (c0_i32_29 : BitVec 32) : Fin 4 → Nat :=
  let c0_49 : Index := 0#32
  let c1_50 : Index := 1#32
  let arg2 : BitVec 32 := BitVec.ofNat 32 (i 2).val
  let c2048_i32 : BitVec 32 := 2048#32
  let v20 : BitVec 32 := Scalar.muli arg2 c2048_i32
  let v21 : BitVec 32 := Scalar.addi v20 c0_i32_29
  let v22 : BitVec 32 := v21
  let v65 : Index := Scalar.indexCast v22
  let c0_51 : Index := 0#32
  ![0, 1, v65.toNat, 0]
def k0_off3 (i : grid0.Coords) (c0_i32_29 : BitVec 32) : Fin 4 → Nat :=
  let c0_68 : Index := 0#32
  let c2_69 : Index := 2#32
  let arg2 : BitVec 32 := BitVec.ofNat 32 (i 2).val
  let c2048_i32 : BitVec 32 := 2048#32
  let v20 : BitVec 32 := Scalar.muli arg2 c2048_i32
  let v21 : BitVec 32 := Scalar.addi v20 c0_i32_29
  let v22 : BitVec 32 := v21
  let v105 : Index := Scalar.indexCast v22
  let c0_70 : Index := 0#32
  ![0, 2, v105.toNat, 0]
def k0_off4 (i : grid0.Coords) (c0_i32_29 : BitVec 32) : Fin 4 → Nat :=
  let c0_87 : Index := 0#32
  let c3_88 : Index := 3#32
  let arg2 : BitVec 32 := BitVec.ofNat 32 (i 2).val
  let c2048_i32 : BitVec 32 := 2048#32
  let v20 : BitVec 32 := Scalar.muli arg2 c2048_i32
  let v21 : BitVec 32 := Scalar.addi v20 c0_i32_29
  let v22 : BitVec 32 := v21
  let v145 : Index := Scalar.indexCast v22
  let c0_89 : Index := 0#32
  ![0, 3, v145.toNat, 0]
def k0_mult2 (i : grid0.Coords) : BitVec 32 :=
  let arg2 : BitVec 32 := BitVec.ofNat 32 (i 2).val
  let c2048_i32_106 : BitVec 32 := 2048#32
  let v183 : BitVec 32 := Scalar.muli arg2 c2048_i32_106
  let c512_i32 : BitVec 32 := 512#32
  let v184 : BitVec 32 := Scalar.addi v183 c512_i32
  v184
def k0_mult3 (i : grid0.Coords) : BitVec 32 :=
  let arg2 : BitVec 32 := BitVec.ofNat 32 (i 2).val
  let c2048_i32_183 : BitVec 32 := 2048#32
  let v346 : BitVec 32 := Scalar.muli arg2 c2048_i32_183
  let c1024_i32 : BitVec 32 := 1024#32
  let v347 : BitVec 32 := Scalar.addi v346 c1024_i32
  v347
def k0_mult4 (i : grid0.Coords) : BitVec 32 :=
  let arg2 : BitVec 32 := BitVec.ofNat 32 (i 2).val
  let c2048_i32_260 : BitVec 32 := 2048#32
  let v509 : BitVec 32 := Scalar.muli arg2 c2048_i32_260
  let c1536_i32 : BitVec 32 := 1536#32
  let v510 : BitVec 32 := Scalar.addi v509 c1536_i32
  v510
@[reducible] def k0_t1_loop (i : grid0.Coords) : Scf.Loop 32 :=
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_339 : BitVec 32 := 1#32
  ⟨v641, v646, c1_i32_339⟩
def k0_mult5 (i : grid0.Coords) (k0_t1 : Fin (k0_t1_loop i).trips) : BitVec 32 :=
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  v673
def k0_off5 (i : grid0.Coords) (k0_t1 : Fin (k0_t1_loop i).trips) : Fin 4 → Nat :=
  let c0_374 : Index := 0#32
  let c0_375 : Index := 0#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  let v674 : BitVec 32 := v673
  let v675 : Index := Scalar.indexCast v674
  let c0_376 : Index := 0#32
  ![0, 0, v675.toNat, 0]
def k0_off6 (i : grid0.Coords) (k0_t1 : Fin (k0_t1_loop i).trips) : Fin 4 → Nat :=
  let c0_391 : Index := 0#32
  let c1_392 : Index := 1#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  let v674 : BitVec 32 := v673
  let v700 : Index := Scalar.indexCast v674
  let c0_393 : Index := 0#32
  ![0, 1, v700.toNat, 0]
def k0_off7 (i : grid0.Coords) (k0_t1 : Fin (k0_t1_loop i).trips) : Fin 4 → Nat :=
  let c0_408 : Index := 0#32
  let c2_409 : Index := 2#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  let v674 : BitVec 32 := v673
  let v725 : Index := Scalar.indexCast v674
  let c0_410 : Index := 0#32
  ![0, 2, v725.toNat, 0]
def k0_off8 (i : grid0.Coords) (k0_t1 : Fin (k0_t1_loop i).trips) : Fin 4 → Nat :=
  let c0_425 : Index := 0#32
  let c3_426 : Index := 3#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  let v674 : BitVec 32 := v673
  let v750 : Index := Scalar.indexCast v674
  let c0_427 : Index := 0#32
  ![0, 3, v750.toNat, 0]
@[reducible] def k0_t2_loop (i : grid0.Coords) : Scf.Loop 32 :=
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let v643 : BitVec 32 := Scalar.addi v641 v642
  let c1_i32_340 : BitVec 32 := 1#32
  ⟨v646, v643, c1_i32_340⟩
def k0_mult6 (i : grid0.Coords) (k0_t2 : Fin (k0_t2_loop i).trips) : BitVec 32 :=
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  v673
def k0_off9 (i : grid0.Coords) (k0_t2 : Fin (k0_t2_loop i).trips) : Fin 4 → Nat :=
  let c0_374 : Index := 0#32
  let c0_375 : Index := 0#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  let v674 : BitVec 32 := v673
  let v675 : Index := Scalar.indexCast v674
  let c0_376 : Index := 0#32
  ![0, 0, v675.toNat, 0]
def k0_off10 (i : grid0.Coords) (k0_t2 : Fin (k0_t2_loop i).trips) : Fin 4 → Nat :=
  let c0_391 : Index := 0#32
  let c1_392 : Index := 1#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  let v674 : BitVec 32 := v673
  let v700 : Index := Scalar.indexCast v674
  let c0_393 : Index := 0#32
  ![0, 1, v700.toNat, 0]
def k0_off11 (i : grid0.Coords) (k0_t2 : Fin (k0_t2_loop i).trips) : Fin 4 → Nat :=
  let c0_408 : Index := 0#32
  let c2_409 : Index := 2#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  let v674 : BitVec 32 := v673
  let v725 : Index := Scalar.indexCast v674
  let c0_410 : Index := 0#32
  ![0, 2, v725.toNat, 0]
def k0_off12 (i : grid0.Coords) (k0_t2 : Fin (k0_t2_loop i).trips) : Fin 4 → Nat :=
  let c0_425 : Index := 0#32
  let c3_426 : Index := 3#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  let v674 : BitVec 32 := v673
  let v750 : Index := Scalar.indexCast v674
  let c0_427 : Index := 0#32
  ![0, 3, v750.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x2048x16x64 : Shape := ⟨4, ![2, 2048, 16, 64]⟩
abbrev S2x2048x16 : Shape := ⟨3, ![2, 2048, 16]⟩
abbrev S2x16x2048 : Shape := ⟨3, ![2, 16, 2048]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x64x2048 : Shape := ⟨4, ![2, 16, 64, 2048]⟩
abbrev S2x16x2048x64 : Shape := ⟨4, ![2, 16, 2048, 64]⟩

abbrev nBuf : Space → Nat
  | .hbm => 111
  | .vmem => 0
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x2048x16, .f32⟩
  | .hbm, ⟨4, _⟩ => ⟨S2x2048x16x64, .f32⟩
  | .hbm, ⟨5, _⟩ => ⟨S2x16x2048, .f32⟩
  | .hbm, ⟨6, _⟩ => ⟨S2x16x2048x2048, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x1, .f32⟩
  | .hbm, ⟨11, _⟩ => ⟨S2x16x1x2048, .f32⟩
  | .hbm, ⟨12, _⟩ => ⟨S2x16x2048x2048, .f32⟩
  | .hbm, ⟨13, _⟩ => ⟨S2x16x2048x2048, .f32⟩
  | .hbm, ⟨14, _⟩ => ⟨S2x16x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2x16x2048x2048, .f32⟩
  | .hbm, ⟨23, _⟩ => ⟨S_, .f32⟩
  | .hbm, ⟨24, _⟩ => ⟨S_, .f32⟩
  | .hbm, ⟨25, _⟩ => ⟨S2x16x2048x2048, .i1⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .i1⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S_, .f32⟩
  | .hbm, ⟨39, _⟩ => ⟨S2x16x2048, .f32⟩
  | .hbm, ⟨40, _⟩ => ⟨S2x16x2048, .f32⟩
  | .hbm, ⟨41, _⟩ => ⟨S_, .f32⟩
  | .hbm, ⟨42, _⟩ => ⟨S2x16x2048, .f32⟩
  | .hbm, ⟨43, _⟩ => ⟨S2x16x2048, .i1⟩
  | .hbm, ⟨44, _⟩ => ⟨S_, .f32⟩
  | .hbm, ⟨45, _⟩ => ⟨S2x16x2048, .f32⟩
  | .hbm, ⟨46, _⟩ => ⟨S2x16x2048, .i1⟩
  | .hbm, ⟨47, _⟩ => ⟨S_, .f32⟩
  | .hbm, ⟨48, _⟩ => ⟨S2x16x2048, .f32⟩
  | .hbm, ⟨49, _⟩ => ⟨S_, .f32⟩
  | .hbm, ⟨50, _⟩ => ⟨S2x16x2048, .f32⟩
  | .hbm, ⟨51, _⟩ => ⟨S_, .f32⟩
  | .hbm, ⟨52, _⟩ => ⟨S2x16x2048, .f32⟩
  | .hbm, ⟨53, _⟩ => ⟨S2x16x2048, .f32⟩
  | .hbm, ⟨54, _⟩ => ⟨S2x16x2048, .f32⟩
  | .hbm, ⟨55, _⟩ => ⟨S2x16x2048x1, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S_, .f32⟩
  | .hbm, ⟨60, _⟩ => ⟨S2x16x2048, .f32⟩
  | .hbm, ⟨61, _⟩ => ⟨S2x16x2048x1, .f32⟩
  | .hbm, ⟨62, _⟩ => ⟨S2x16x2048x2048, .f32⟩
  | .hbm, ⟨63, _⟩ => ⟨S2x16x2048x2048, .f32⟩
  | .hbm, ⟨64, _⟩ => ⟨S2x16x2048x1, .f32⟩
  | .hbm, ⟨65, _⟩ => ⟨S_, .f32⟩
  | .hbm, ⟨66, _⟩ => ⟨S2x16x2048x1, .f32⟩
  | .hbm, ⟨67, _⟩ => ⟨S2x16x2048x1, .f32⟩
  | .hbm, ⟨68, _⟩ => ⟨S2x16x64x2048, .f32⟩
  | .hbm, ⟨69, _⟩ => ⟨S2x2048x16x64, .f32⟩
  | .hbm, ⟨70, _⟩ => ⟨S2x16x64x2048, .f32⟩
  | .hbm, ⟨71, _⟩ => ⟨S2x16x2048x2048, .f32⟩
  | .hbm, ⟨72, _⟩ => ⟨S2x16x64x2048, .f32⟩
  | .hbm, ⟨73, _⟩ => ⟨S2x2048x16x64, .f32⟩
  | .hbm, ⟨74, _⟩ => ⟨S2x16x2048x2048, .f32⟩
  | .hbm, ⟨75, _⟩ => ⟨S2x16x2048x2048, .f32⟩
  | .hbm, ⟨76, _⟩ => ⟨S2x16x2048x2048, .f32⟩
  | .hbm, ⟨77, _⟩ => ⟨S_, .f32⟩
  | .hbm, ⟨78, _⟩ => ⟨S2x16x2048, .f32⟩
  | .hbm, ⟨79, _⟩ => ⟨S2x16x2048x1, .f32⟩
  | .hbm, ⟨80, _⟩ => ⟨S2x16x2048x1, .f32⟩
  | .hbm, ⟨81, _⟩ => ⟨S2x16x2048x2048, .f32⟩
  | .hbm, ⟨82, _⟩ => ⟨S2x16x2048x2048, .f32⟩
  | .hbm, ⟨83, _⟩ => ⟨S_, .f32⟩
  | .hbm, ⟨84, _⟩ => ⟨S2x16x2048, .f32⟩
  | .hbm, ⟨85, _⟩ => ⟨S2x16x2048x2048, .f32⟩
  | .hbm, ⟨86, _⟩ => ⟨S2x16x2048x2048, .f32⟩
  | .hbm, ⟨87, _⟩ => ⟨S2x16x2048x2048, .f32⟩
  | .hbm, ⟨88, _⟩ => ⟨S_, .f32⟩
  | .hbm, ⟨89, _⟩ => ⟨S2x16x2048x2048, .f32⟩
  | .hbm, ⟨90, _⟩ => ⟨S2x16x2048x2048, .f32⟩
  | .hbm, ⟨91, _⟩ => ⟨S_, .f32⟩
  | .hbm, ⟨92, _⟩ => ⟨S2x16x2048, .f32⟩
  | .hbm, ⟨93, _⟩ => ⟨S2x16x2048x1, .f32⟩
  | .hbm, ⟨94, _⟩ => ⟨S2x16x2048x2048, .f32⟩
  | .hbm, ⟨95, _⟩ => ⟨S_, .f32⟩
  | .hbm, ⟨96, _⟩ => ⟨S2x16x2048, .f32⟩
  | .hbm, ⟨97, _⟩ => ⟨S2x16x1x2048, .f32⟩
  | .hbm, ⟨98, _⟩ => ⟨S_, .f32⟩
  | .hbm, ⟨99, _⟩ => ⟨S2x16x2048, .f32⟩
  | .hbm, ⟨100, _⟩ => ⟨S_, .f32⟩
  | .hbm, ⟨101, _⟩ => ⟨S2x16x2048, .f32⟩
  | .hbm, ⟨102, _⟩ => ⟨S2x16x2048, .f32⟩
  | .hbm, ⟨103, _⟩ => ⟨S_, .f32⟩
  | .hbm, ⟨104, _⟩ => ⟨S2x16x2048x2048, .f32⟩
  | .hbm, ⟨105, _⟩ => ⟨S2x16x2048x2048, .f32⟩
  | .hbm, ⟨106, _⟩ => ⟨S2x16x2048x64, .f32⟩
  | .hbm, ⟨107, _⟩ => ⟨S2x2048x16x64, .f32⟩
  | .hbm, ⟨108, _⟩ => ⟨S2x16x2048x64, .f32⟩
  | .hbm, ⟨109, _⟩ => ⟨S2x2048x16x64, .f32⟩
  | .hbm, ⟨110, _⟩ => ⟨S2x2048x16, .f32⟩
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x7184 : Shape := ⟨2, ![1024, 7184]⟩
abbrev S4096x7184 : Shape := ⟨2, ![4096, 7184]⟩
abbrev S7184x1024 : Shape := ⟨2, ![7184, 1024]⟩
abbrev S3072x1024 : Shape := ⟨2, ![3072, 1024]⟩
abbrev S7168x1024 : Shape := ⟨2, ![7168, 1024]⟩
abbrev S16x1024 : Shape := ⟨2, ![16, 1024]⟩
abbrev S_ : Shape := ⟨0, ![]⟩
abbrev S128x1024 : Shape := ⟨2, ![128, 1024]⟩
abbrev S4096x16 : Shape := ⟨2, ![4096, 16]⟩
abbrev S4096x128 : Shape := ⟨2, ![4096, 128]⟩
abbrev S8x1024 : Shape := ⟨2, ![8, 1024]⟩
abbrev S512x1024 : Shape := ⟨2, ![512, 1024]⟩
abbrev S512x128 : Shape := ⟨2, ![512, 128]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 28
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7184, .f32⟩
  | .hbm, ⟨3, _⟩ => ⟨S4096x7184, .f32⟩
  | .hbm, ⟨4, _⟩ => ⟨S4096x1024, .f32⟩
  | .hbm, ⟨5, _⟩ => ⟨S7184x1024, .f32⟩
  | .hbm, ⟨6, _⟩ => ⟨S7184x1024, .bf16⟩
  | .hbm, ⟨7, _⟩ => ⟨S3072x1024, .bf16⟩
  | .hbm, ⟨8, _⟩ => ⟨S4096x1024, .bf16⟩
  | .hbm, ⟨9, _⟩ => ⟨S7168x1024, .bf16⟩
  | .hbm, ⟨10, _⟩ => ⟨S16x1024, .bf16⟩
  | .hbm, ⟨11, _⟩ => ⟨S_, .i32⟩
  | .hbm, ⟨12, _⟩ => ⟨S_, .bf16⟩
  | .hbm, ⟨13, _⟩ => ⟨S128x1024, .bf16⟩
  | .hbm, ⟨14, _⟩ => ⟨S4096x7184, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x16, .bf16⟩
  | .hbm, ⟨23, _⟩ => ⟨S_, .i32⟩
  | .hbm, ⟨24, _⟩ => ⟨S_, .bf16⟩
  | .hbm, ⟨25, _⟩ => ⟨S4096x128, .bf16⟩
  | .hbm, ⟨26, _⟩ => ⟨S4096x1024, .f32⟩
  | .hbm, ⟨27, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x128, .bf16⟩
  | .local _ .vmem, ⟨15, _⟩ => ⟨S512x128, .bf16⟩
  | .local _ .vmem, ⟨16, _⟩ => ⟨S1024x1024, .bf16⟩
  | .local _ .vmem, ⟨17, _⟩ => ⟨S1024x1024, .bf16⟩
  | .local _ .vmem, ⟨18, _⟩ => ⟨S128x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨2, ![8, 7], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond5 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_7 : BitVec 32 := 0#32
  let v16 : BitVec 1 := Scalar.cmpi .ne v15 c0_i32_7
  v16

def k0_cond6 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_8 : BitVec 32 := 0#32
  let v19 : BitVec 1 := Scalar.cmpi .ne v18 c0_i32_8
  v19

def k0_cond7 (i : grid0.Coords) : BitVec 1 :=
  let arg1 : BitVec 32 := BitVec.ofNat 32 (i 1).val
  let c4_i32 : BitVec 32 := 4#32
  let v20 : BitVec 1 := Scalar.cmpi .eq arg1 c4_i32
  let v21 : BitVec 32 := Scalar.extui v20
  let c0_i32_9 : BitVec 32 := 0#32
  let v22 : BitVec 1 := Scalar.cmpi .ne v21 c0_i32_9
  v22

def k0_cond8 (i : grid0.Coords) : BitVec 1 :=
  let arg1 : BitVec 32 := BitVec.ofNat 32 (i 1).val
  let c5_i32 : BitVec 32 := 5#32
  let v23 : BitVec 1 := Scalar.cmpi .eq arg1 c5_i32
  let v24 : BitVec 32 := Scalar.extui v23
  let c0_i32_10 : BitVec 32 := 0#32
  let v25 : BitVec 1 := Scalar.cmpi .ne v24 c0_i32_10
  v25

def k0_cond9 (i : grid0.Coords) : BitVec 1 :=
  let arg1 : BitVec 32 := BitVec.ofNat 32 (i 1).val
  let c6_i32 : BitVec 32 := 6#32
  let v26 : BitVec 1 := Scalar.cmpi .eq arg1 c6_i32
  let v27 : BitVec 32 := Scalar.extui v26
  let c0_i32_11 : BitVec 32 := 0#32
  let v28 : BitVec 1 := Scalar.cmpi .ne v27 c0_i32_11
  v28

def k0_cond10 (i : grid0.Coords) : BitVec 1 :=
  let arg1 : BitVec 32 := BitVec.ofNat 32 (i 1).val
  let c6_i32_12 : BitVec 32 := 6#32
  let v29 : BitVec 1 := Scalar.cmpi .eq arg1 c6_i32_12
  let v30 : BitVec 32 := Scalar.extui v29
  let c0_i32_13 : BitVec 32 := 0#32
  let v31 : BitVec 1 := Scalar.cmpi .ne v30 c0_i32_13
  v31

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference3Ideal.lean ====
abbrev S4096x1024 : Shape := ⟨2, ![4096, 1024]⟩
abbrev S1x1024 : Shape := ⟨2, ![1, 1024]⟩
abbrev S1024x7184 : Shape := ⟨2, ![1024, 7184]⟩
abbrev S4096x7184 : Shape := ⟨2, ![4096, 7184]⟩
abbrev S1024 : Shape := ⟨1, ![1024]⟩
abbrev S_ : Shape := ⟨0, ![]⟩
abbrev S4096 : Shape := ⟨1, ![4096]⟩
abbrev S4096x1 : Shape := ⟨2, ![4096, 1]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7184, .f32⟩
  | .hbm, ⟨3, _⟩ => ⟨S4096x7184, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x7184, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel4.lean ====
abbrev S4096x1024 : Shape := ⟨2, ![4096, 1024]⟩
abbrev S4096x7184 : Shape := ⟨2, ![4096, 7184]⟩
abbrev S2048x1024 : Shape := ⟨2, ![2048, 1024]⟩
abbrev S4096x3072 : Shape := ⟨2, ![4096, 3072]⟩
abbrev S4096x4096 : Shape := ⟨2, ![4096, 4096]⟩
abbrev S4096x7168 : Shape := ⟨2, ![4096, 7168]⟩
abbrev S4096x2048 : Shape := ⟨2, ![4096, 2048]⟩
abbrev S8x128 : Shape := ⟨2, ![8, 128]⟩
abbrev S256x1024 : Shape := ⟨2, ![256, 1024]⟩
abbrev S256x2048 : Shape := ⟨2, ![256, 2048]⟩
abbrev S1024x1024 : Shape := ⟨2, ![1024, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x7184, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S2048x1024, .f32⟩
  | .hbm, ⟨6, _⟩ => ⟨S4096x3072, .f32⟩
  | .hbm, ⟨7, _⟩ => ⟨S4096x4096, .f32⟩
  | .hbm, ⟨8, _⟩ => ⟨S4096x7168, .f32⟩
  | .hbm, ⟨9, _⟩ => ⟨S4096x1024, .bf16⟩
  | .hbm, ⟨10, _⟩ => ⟨S2048x1024, .bf16⟩
  | .hbm, ⟨11, _⟩ => ⟨S4096x1024, .f32⟩
  | .hbm, ⟨12, _⟩ => ⟨S4096x2048, .f32⟩
  | .hbm, ⟨13, _⟩ => ⟨S2048x1024, .f32⟩
  | .hbm, ⟨14, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S2048x1024, .bf16⟩
  | .local _ .vmem, ⟨11, _⟩ => ⟨S256x1024, .f32⟩
  | .local _ .vmem, ⟨12, _⟩ => ⟨S256x1024, .f32⟩
  | .local _ .vmem, ⟨13, _⟩ => ⟨S256x2048, .f32⟩
  | .local _ .vmem, ⟨14, _⟩ => ⟨S256x2048, .f32⟩
  | .local _ .vmem, ⟨15, _⟩ => ⟨S2048x1024, .f32⟩
  | .local _ .vmem, ⟨16, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x1024 : Shape := ⟨2, ![4096, 1024]⟩
abbrev S4096x7184 : Shape := ⟨2, ![4096, 7184]⟩
abbrev S2048x1024 : Shape := ⟨2, ![2048, 1024]⟩
abbrev S_ : Shape := ⟨0, ![]⟩
abbrev S4096x2048 : Shape := ⟨2, ![4096, 2048]⟩
abbrev S4096 : Shape := ⟨1, ![4096]⟩
abbrev S1024x2048 : Shape := ⟨2, ![1024, 2048]⟩
abbrev S8x128 : Shape := ⟨2, ![8, 128]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7184, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x2048, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S1024x2048, .f32⟩
  | .hbm, ⟨44, _⟩ => ⟨S2048x1024, .f32⟩
  | .hbm, ⟨45, _⟩ => ⟨S4096x2048, .f32⟩
  | .hbm, ⟨46, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_cst_4 : Ref sig .tc := ⟨.hbm, 34, rfl⟩
abbrev main_cst_5 : Ref sig .tc := ⟨.hbm, 35, rfl⟩
abbrev main_v15 : Ref sig .tc := ⟨.hbm, 36, rfl⟩
abbrev main_v16 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x7184 : Shape := ⟨2, ![1024, 7184]⟩
abbrev S7184x1024 : Shape := ⟨2, ![7184, 1024]⟩
abbrev S3072x1024 : Shape := ⟨2, ![3072, 1024]⟩
abbrev S7168x1024 : Shape := ⟨2, ![7168, 1024]⟩
abbrev S16x1024 : Shape := ⟨2, ![16, 1024]⟩
abbrev S_ : Shape := ⟨0, ![]⟩
abbrev S128x1024 : Shape := ⟨2, ![128, 1024]⟩
abbrev S4096x7168 : Shape := ⟨2, ![4096, 7168]⟩
abbrev S4096x128 : Shape := ⟨2, ![4096, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7184, .f32⟩
  | .hbm, ⟨3, _⟩ => ⟨S7184x1024, .f32⟩
  | .hbm, ⟨4, _⟩ => ⟨S7184x1024, .bf16⟩
  | .hbm, ⟨5, _⟩ => ⟨S3072x1024, .bf16⟩
  | .hbm, ⟨6, _⟩ => ⟨S4096x1024, .bf16⟩
  | .hbm, ⟨7, _⟩ => ⟨S7168x1024, .bf16⟩
  | .hbm, ⟨8, _⟩ => ⟨S16x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S4096x7168, .f32⟩
  | .hbm, ⟨13, _⟩ => ⟨S4096x128, .f32⟩
  | .hbm, ⟨14, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S128x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S4096x1024 : Shape := ⟨2, ![4096, 1024]⟩
abbrev S1x1024 : Shape := ⟨2, ![1, 1024]⟩
abbrev S1024x7184 : Shape := ⟨2, ![1024, 7184]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x7184 : Shape := ⟨2, ![4096, 7184]⟩
abbrev S4096x3072 : Shape := ⟨2, ![4096, 3072]⟩
abbrev S4096x4096 : Shape := ⟨2, ![4096, 4096]⟩
abbrev S4096x7168 : Shape := ⟨2, ![4096, 7168]⟩
abbrev S4096x16 : Shape := ⟨2, ![4096, 16]⟩
abbrev S4096x128 : Shape := ⟨2, ![4096, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7184, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x7184, .f32⟩
  | .hbm, ⟨21, _⟩ => ⟨S4096x3072, .f32⟩
  | .hbm, ⟨22, _⟩ => ⟨S4096x4096, .f32⟩
  | .hbm, ⟨23, _⟩ => ⟨S4096x7168, .f32⟩
  | .hbm, ⟨24, _⟩ => ⟨S4096x16, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.Value

/-! What the attention kernel's body leaves in its three output blocks, from its four input blocks.

    A block holds four heads of 2048 rows and 128 lanes. For head `e` and row tile `d` (512 rows) the body
    scores the first `512 (d + 1)` keys against the tile's queries, adds the products to the head's running key
    and value gradients, and stores the tile's query gradient. -/

@[expose] public section

set_option maxRecDepth 16384

noncomputable section

namespace Cert.KernelIdeal.Gen

open Idealize.ShloMosaic Idealize.ShloMosaic.TcCoe

variable {F : FTy → Type} [FloatOps F] [Named F]

/-- Row tile 0: the weights of the first 512 keys for the tile's queries. -/
def pT0 (K : FVec F S2048x128 .bf16) (q : FVec F S512x128 .bf16) : FVec F S512x512 .f32 :=
  exp (select (cmpi .sle (iota .tc S512x512 32 [0] iota_S512x512_d0_w32) (addi (iota .tc S512x512 32 [1] iota_S512x512_d1_w32) (broadcast S512x512 0#32)))
    (matmul dot_S512x128_S512x128_S512x512_1_1_0_0_n_n none (extractStridedSlice S512x128 ![0, 0] K slices_S2048x128_o0_0_S512x128) q (constant S512x512 .f32 0x00000000#32))
    (broadcast S512x512 (Named.named κ "mask" 0xF149F2CA#32)))
/-- The gradients of those scores. -/
def dsT0 (K V : FVec F S2048x128 .bf16) (q o : FVec F S512x128 .bf16) : FVec F S512x512 .bf16 :=
  truncf .bf16 (mulf (pT0 K q) (matmul dot_S512x128_S512x128_S512x512_1_1_0_0_n_n none (extractStridedSlice S512x128 ![0, 0] V slices_S2048x128_o0_0_S512x128) o (constant S512x512 .f32 0x00000000#32))) bitsLt_bf16_f32
/-- The tile's query gradient, added to what was there. -/
def dqT0 (K V : FVec F S2048x128 .bf16) (q o : FVec F S512x128 .bf16) (a : Vec F S1x1x512x128 .f32) : FVec F S1x1x512x128 .f32 :=
  shapeCast S1x1x512x128 (addf (shapeCast S512x128 a shapeCasts_S1x1x512x128_S512x128)
    (matmul dot_S512x512_S512x128_S512x128_0_0_1_1_n_n none (dsT0 K V q o) (extractStridedSlice S512x128 ![0, 0] K slices_S2048x128_o0_0_S512x128) (constant S512x128 .f32 0x00000000#32))) shapeCasts_S512x128_S1x1x512x128
/-- The head's key gradient after the tile, from the one before. -/
def dkT0 (K V : FVec F S2048x128 .bf16) (q o : FVec F S512x128 .bf16) (a : FVec F S2048x128 .f32) : FVec F S2048x128 .f32 :=
  concatenate S2048x128 0 [⟨S512x128, addf (extractStridedSlice S512x128 ![0, 0] a slices_S2048x128_o0_0_S512x128) (matmul dot_S512x512_S512x128_S512x128_1_0_0_1_n_n none (dsT0 K V q o) q (constant S512x128 .f32 0x00000000#32))⟩,
    ⟨S1536x128, extractStridedSlice S1536x128 ![512, 0] a slices_S2048x128_o512_0_S1536x128⟩] concatenates_S512x128_S1536x128_S2048x128_d0
/-- The head's value gradient after the tile, from the one before. -/
def dvT0 (K : FVec F S2048x128 .bf16) (q o : FVec F S512x128 .bf16) (a : FVec F S2048x128 .f32) : FVec F S2048x128 .f32 :=
  concatenate S2048x128 0 [⟨S512x128, addf (extractStridedSlice S512x128 ![0, 0] a slices_S2048x128_o0_0_S512x128) (matmul dot_S512x512_S512x128_S512x128_1_0_0_1_n_n none (truncf .bf16 (pT0 K q) bitsLt_bf16_f32) o (constant S512x128 .f32 0x00000000#32))⟩,
    ⟨S1536x128, extractStridedSlice S1536x128 ![512, 0] a slices_S2048x128_o512_0_S1536x128⟩] concatenates_S512x128_S1536x128_S2048x128_d0

/-- Row tile 1: the weights of the first 1024 keys for the tile's queries. -/
def pT1 (K : FVec F S2048x128 .bf16) (q : FVec F S512x128 .bf16) : FVec F S1024x512 .f32 :=
  exp (select (cmpi .sle (iota .tc S1024x512 32 [0] iota_S1024x512_d0_w32) (addi (iota .tc S1024x512 32 [1] iota_S1024x512_d1_w32) (broadcast S1024x512 512#32)))
    (matmul dot_S1024x128_S512x128_S1024x512_1_1_0_0_n_n none (extractStridedSlice S1024x128 ![0, 0] K slices_S2048x128_o0_0_S1024x128) q (constant S1024x512 .f32 0x00000000#32))
    (broadcast S1024x512 (Named.named κ "mask" 0xF149F2CA#32)))
/-- The gradients of those scores. -/
def dsT1 (K V : FVec F S2048x128 .bf16) (q o : FVec F S512x128 .bf16) : FVec F S1024x512 .bf16 :=
  truncf .bf16 (mulf (pT1 K q) (matmul dot_S1024x128_S512x128_S1024x512_1_1_0_0_n_n none (extractStridedSlice S1024x128 ![0, 0] V slices_S2048x128_o0_0_S1024x128) o (constant S1024x512 .f32 0x00000000#32))) bitsLt_bf16_f32
/-- The tile's query gradient, added to what was there. -/
def dqT1 (K V : FVec F S2048x128 .bf16) (q o : FVec F S512x128 .bf16) (a : Vec F S1x1x512x128 .f32) : FVec F S1x1x512x128 .f32 :=
  shapeCast S1x1x512x128 (addf (shapeCast S512x128 a shapeCasts_S1x1x512x128_S512x128)
    (matmul dot_S1024x512_S1024x128_S512x128_0_0_1_1_n_n none (dsT1 K V q o) (extractStridedSlice S1024x128 ![0, 0] K slices_S2048x128_o0_0_S1024x128) (constant S512x128 .f32 0x00000000#32))) shapeCasts_S512x128_S1x1x512x128
/-- The head's key gradient after the tile, from the one before. -/
def dkT1 (K V : FVec F S2048x128 .bf16) (q o : FVec F S512x128 .bf16) (a : FVec F S2048x128 .f32) : FVec F S2048x128 .f32 :=
  concatenate S2048x128 0 [⟨S1024x128, addf (extractStridedSlice S1024x128 ![0, 0] a slices_S2048x128_o0_0_S1024x128) (matmul dot_S1024x512_S512x128_S1024x128_1_0_0_1_n_n none (dsT1 K V q o) q (constant S1024x128 .f32 0x00000000#32))⟩,
    ⟨S1024x128, extractStridedSlice S1024x128 ![1024, 0] a slices_S2048x128_o1024_0_S1024x128⟩] concatenates_S1024x128_S1024x128_S2048x128_d0
/-- The head's value gradient after the tile, from the one before. -/
def dvT1 (K : FVec F S2048x128 .bf16) (q o : FVec F S512x128 .bf16) (a : FVec F S2048x128 .f32) : FVec F S2048x128 .f32 :=
  concatenate S2048x128 0 [⟨S1024x128, addf (extractStridedSlice S1024x128 ![0, 0] a slices_S2048x128_o0_0_S1024x128) (matmul dot_S1024x512_S512x128_S1024x128_1_0_0_1_n_n none (truncf .bf16 (pT1 K q) bitsLt_bf16_f32) o (constant S1024x128 .f32 0x00000000#32))⟩,
    ⟨S1024x128, extractStridedSlice S1024x128 ![1024, 0] a slices_S2048x128_o1024_0_S1024x128⟩] concatenates_S1024x128_S1024x128_S2048x128_d0

/-- Row tile 2: the weights of the first 1536 keys for the tile's queries. -/
def pT2 (K : FVec F S2048x128 .bf16) (q : FVec F S512x128 .bf16) : FVec F S1536x512 .f32 :=
  exp (select (cmpi .sle (iota .tc S1536x512 32 [0] iota_S1536x512_d0_w32) (addi (iota .tc S1536x512 32 [1] iota_S1536x512_d1_w32) (broadcast S1536x512 1024#32)))
    (matmul dot_S1536x128_S512x128_S1536x512_1_1_0_0_n_n none (extractStridedSlice S1536x128 ![0, 0] K slices_S2048x128_o0_0_S1536x128) q (constant S1536x512 .f32 0x00000000#32))
    (broadcast S1536x512 (Named.named κ "mask" 0xF149F2CA#32)))
/-- The gradients of those scores. -/
def dsT2 (K V : FVec F S2048x128 .bf16) (q o : FVec F S512x128 .bf16) : FVec F S1536x512 .bf16 :=
  truncf .bf16 (mulf (pT2 K q) (matmul dot_S1536x128_S512x128_S1536x512_1_1_0_0_n_n none (extractStridedSlice S1536x128 ![0, 0] V slices_S2048x128_o0_0_S1536x128) o (constant S1536x512 .f32 0x00000000#32))) bitsLt_bf16_f32
/-- The tile's query gradient, added to what was there. -/
def dqT2 (K V : FVec F S2048x128 .bf16) (q o : FVec F S512x128 .bf16) (a : Vec F S1x1x512x128 .f32) : FVec F S1x1x512x128 .f32 :=
  shapeCast S1x1x512x128 (addf (shapeCast S512x128 a shapeCasts_S1x1x512x128_S512x128)
    (matmul dot_S1536x512_S1536x128_S512x128_0_0_1_1_n_n none (dsT2 K V q o) (extractStridedSlice S1536x128 ![0, 0] K slices_S2048x128_o0_0_S1536x128) (constant S512x128 .f32 0x00000000#32))) shapeCasts_S512x128_S1x1x512x128
/-- The head's key gradient after the tile, from the one before. -/
def dkT2 (K V : FVec F S2048x128 .bf16) (q o : FVec F S512x128 .bf16) (a : FVec F S2048x128 .f32) : FVec F S2048x128 .f32 :=
  concatenate S2048x128 0 [⟨S1536x128, addf (extractStridedSlice S1536x128 ![0, 0] a slices_S2048x128_o0_0_S1536x128) (matmul dot_S1536x512_S512x128_S1536x128_1_0_0_1_n_n none (dsT2 K V q o) q (constant S1536x128 .f32 0x00000000#32))⟩,
    ⟨S512x128, extractStridedSlice S512x128 ![1536, 0] a slices_S2048x128_o1536_0_S512x128⟩] concatenates_S1536x128_S512x128_S2048x128_d0
/-- The head's value gradient after the tile, from the one before. -/
def dvT2 (K : FVec F S2048x128 .bf16) (q o : FVec F S512x128 .bf16) (a : FVec F S2048x128 .f32) : FVec F S2048x128 .f32 :=
  concatenate S2048x128 0 [⟨S1536x128, addf (extractStridedSlice S1536x128 ![0, 0] a slices_S2048x128_o0_0_S1536x128) (matmul dot_S1536x512_S512x128_S1536x128_1_0_0_1_n_n none (truncf .bf16 (pT2 K q) bitsLt_bf16_f32) o (constant S1536x128 .f32 0x00000000#32))⟩,
    ⟨S512x128, extractStridedSlice S512x128 ![1536, 0] a slices_S2048x128_o1536_0_S512x128⟩] concatenates_S1536x128_S512x128_S2048x128_d0

/-- Row tile 3: the weights of the first 2048 keys for the tile's queries. -/
def pT3 (K : FVec F S2048x128 .bf16) (q : FVec F S512x128 .bf16) : FVec F S2048x512 .f32 :=
  exp (select (cmpi .sle (iota .tc S2048x512 32 [0] iota_S2048x512_d0_w32) (addi (iota .tc S2048x512 32 [1] iota_S2048x512_d1_w32) (broadcast S2048x512 1536#32)))
    (matmul dot_S2048x128_S512x128_S2048x512_1_1_0_0_n_n none K q (constant S2048x512 .f32 0x00000000#32))
    (broadcast S2048x512 (Named.named κ "mask" 0xF149F2CA#32)))
/-- The gradients of those scores. -/
def dsT3 (K V : FVec F S2048x128 .bf16) (q o : FVec F S512x128 .bf16) : FVec F S2048x512 .bf16 :=
  truncf .bf16 (mulf (pT3 K q) (matmul dot_S2048x128_S512x128_S2048x512_1_1_0_0_n_n none V o (constant S2048x512 .f32 0x00000000#32))) bitsLt_bf16_f32
/-- The tile's query gradient, added to what was there. -/
def dqT3 (K V : FVec F S2048x128 .bf16) (q o : FVec F S512x128 .bf16) (a : Vec F S1x1x512x128 .f32) : FVec F S1x1x512x128 .f32 :=
  shapeCast S1x1x512x128 (addf (shapeCast S512x128 a shapeCasts_S1x1x512x128_S512x128)
    (matmul dot_S2048x512_S2048x128_S512x128_0_0_1_1_n_n none (dsT3 K V q o) K (constant S512x128 .f32 0x00000000#32))) shapeCasts_S512x128_S1x1x512x128
/-- The head's key gradient after the tile, from the one before. -/
def dkT3 (K V : FVec F S2048x128 .bf16) (q o : FVec F S512x128 .bf16) (a : FVec F S2048x128 .f32) : FVec F S2048x128 .f32 :=
  addf a (matmul dot_S2048x512_S512x128_S2048x128_1_0_0_1_n_n none (dsT3 K V q o) q (constant S2048x128 .f32 0x00000000#32))
/-- The head's value gradient after the tile, from the one before. -/
def dvT3 (K : FVec F S2048x128 .bf16) (q o : FVec F S512x128 .bf16) (a : FVec F S2048x128 .f32) : FVec F S2048x128 .f32 :=
  addf a (matmul dot_S2048x512_S512x128_S2048x128_1_0_0_1_n_n none (truncf .bf16 (pT3 K q) bitsLt_bf16_f32) o (constant S2048x128 .f32 0x00000000#32))

/-- The rectangle of head `e` in a block, -/
def headInb (e : Fin 4) : ∀ a, (![0, e.val, 0, 0] : Fin 4 → ℕ) a + S1x1x2048x128.size a ≤ S1x4x2048x128.size a := by
  revert e; decide
abbrev rh (e : Fin 4) : Rect S1x4x2048x128 := Rect.unit (s := S1x4x2048x128) ![0, e.val, 0, 0] S1x1x2048x128.size (headInb e)
/-- and of its row tile `d`. -/
def tileInb (e d : Fin 4) : ∀ a, (![0, e.val, 512 * d.val, 0] : Fin 4 → ℕ) a + S1x1x512x128.size a ≤ S1x4x2048x128.size a := by
  revert e d; decide
abbrev rt (e d : Fin 4) : Rect S1x4x2048x128 := Rect.unit (s := S1x4x2048x128) ![0, e.val, 512 * d.val, 0] S1x1x512x128.size (tileInb e d)
abbrev rw0 : Rect S1x4x2048x128 := Rect.unit (s := S1x4x2048x128) ![0, 0, 0, 0] S1x4x2048x128.size inb_S1x4x2048x128_S1x4x2048x128_0_0_0_0

/-- Head `e` of a block, -/
def hd (x : Vec F S1x4x2048x128 .bf16) (e : Fin 4) : FVec F S2048x128 .bf16 :=
  shapeCast S2048x128 (View.ld x (rh e)) shapeCasts_S1x1x2048x128_S2048x128
/-- and its row tile `d`. -/
def tl (x : Vec F S1x4x2048x128 .bf16) (e d : Fin 4) : FVec F S512x128 .bf16 :=
  shapeCast S512x128 (View.ld x (rt e d)) shapeCasts_S1x1x512x128_S512x128

/-- The zero every block and running gradient starts from. -/
def z0 : FVec F S2048x128 .f32 := broadcast S2048x128 (Scalar.ofBits .f32 0x00000000#32)
def z4 : FVec F S1x4x2048x128 .f32 := broadcast S1x4x2048x128 (Scalar.ofBits .f32 0x00000000#32)
def z1 : FVec F S1x1x512x128 .f32 := fun _ => Scalar.ofBits .f32 0x00000000#32

/-- Tile `(e, d)` of the query gradient, as stored. -/
def dqP (x0 x1 x2 x3 : Vec F S1x4x2048x128 .bf16) (e d : Fin 4) : FVec F S1x1x512x128 .f32 :=
  match d with
  | 0 => dqT0 (hd x1 e) (hd x2 e) (tl x0 e 0) (tl x3 e 0) z1
  | 1 => dqT1 (hd x1 e) (hd x2 e) (tl x0 e 1) (tl x3 e 1) z1
  | 2 => dqT2 (hd x1 e) (hd x2 e) (tl x0 e 2) (tl x3 e 2) z1
  | 3 => dqT3 (hd x1 e) (hd x2 e) (tl x0 e 3) (tl x3 e 3) z1

/-- Head `e` of the key gradient, -/
def dkH (x0 x1 x2 x3 : Vec F S1x4x2048x128 .bf16) (e : Fin 4) : FVec F S2048x128 .f32 :=
  dkT3 (hd x1 e) (hd x2 e) (tl x0 e 3) (tl x3 e 3) (dkT2 (hd x1 e) (hd x2 e) (tl x0 e 2) (tl x3 e 2)
    (dkT1 (hd x1 e) (hd x2 e) (tl x0 e 1) (tl x3 e 1) (dkT0 (hd x1 e) (hd x2 e) (tl x0 e 0) (tl x3 e 0) z0)))
/-- and of the value gradient. -/
def dvH (x0 x1 x2 x3 : Vec F S1x4x2048x128 .bf16) (e : Fin 4) : FVec F S2048x128 .f32 :=
  dvT3 (hd x1 e) (tl x0 e 3) (tl x3 e 3) (dvT2 (hd x1 e) (tl x0 e 2) (tl x3 e 2)
    (dvT1 (hd x1 e) (tl x0 e 1) (tl x3 e 1) (dvT0 (hd x1 e) (tl x0 e 0) (tl x3 e 0) z0)))

/-- A list of stored query-gradient tiles, last first, over the zero fill. -/
def dqL (x0 x1 x2 x3 : Vec F S1x4x2048x128 .bf16) (l : List (Fin 4 × Fin 4)) : List (View.Piece (Elt F) S1x4x2048x128 .f32) :=
  match l with
  | [] => [⟨rw0, z4⟩]
  | (e, d) :: l => ⟨rt e d, dqP x0 x1 x2 x3 e d⟩ :: dqL x0 x1 x2 x3 l

/-- The order of the stores, last first. -/
def tiles : List (Fin 4 × Fin 4) :=
  [(3, 3), (2, 3), (1, 3), (0, 3), (3, 2), (2, 2), (1, 2), (0, 2), (3, 1), (2, 1), (1, 1), (0, 1), (3, 0), (2, 0), (1, 0), (0, 0)]

/-- The query-gradient block, -/
def out0_4 (x0 x1 x2 x3 : Vec F S1x4x2048x128 .bf16) : Vec F S1x4x2048x128 .f32 := View.canon (dqL x0 x1 x2 x3 tiles)
/-- the key-gradient block, -/
def out0_5 (x0 x1 x2 x3 : Vec F S1x4x2048x128 .bf16) : Vec F S1x4x2048x128 .f32 :=
  View.canon [⟨rh 3, shapeCast S1x1x2048x128 (dkH x0 x1 x2 x3 3) shapeCasts_S2048x128_S1x1x2048x128⟩,
    ⟨rh 2, shapeCast S1x1x2048x128 (dkH x0 x1 x2 x3 2) shapeCasts_S2048x128_S1x1x2048x128⟩,
    ⟨rh 1, shapeCast S1x1x2048x128 (dkH x0 x1 x2 x3 1) shapeCasts_S2048x128_S1x1x2048x128⟩,
    ⟨rh 0, shapeCast S1x1x2048x128 (dkH x0 x1 x2 x3 0) shapeCasts_S2048x128_S1x1x2048x128⟩]
/-- and the value-gradient block. -/
def out0_6 (x0 x1 x2 x3 : Vec F S1x4x2048x128 .bf16) : Vec F S1x4x2048x128 .f32 :=
  View.canon [⟨rh 3, shapeCast S1x1x2048x128 (dvH x0 x1 x2 x3 3) shapeCasts_S2048x128_S1x1x2048x128⟩,
    ⟨rh 2, shapeCast S1x1x2048x128 (dvH x0 x1 x2 x3 2) shapeCasts_S2048x128_S1x1x2048x128⟩,
    ⟨rh 1, shapeCast S1x1x2048x128 (dvH x0 x1 x2 x3 1) shapeCasts_S2048x128_S1x1x2048x128⟩,
    ⟨rh 0, shapeCast S1x1x2048x128 (dvH x0 x1 x2 x3 0) shapeCasts_S2048x128_S1x1x2048x128⟩]

/-! ## The tiles' rectangles -/

/-- Two different tiles share no index. -/
theorem rt_disj {e d e' d' : Fin 4} (h : (e, d) ≠ (e', d')) (x : (rt e d).shape.Idx) : (rt e d).emb x ∉ (rt e' d').set := by
  intro hm
  have h1 := Rect.mem_set_unit.1 (show (rt e d).emb x ∈ (rt e d).set from (rt e d).toLoadRect.idx_mem x)
  have h2 := Rect.mem_set_unit.1 hm
  have a1 := h1 1; have b1 := h2 1; have a2 := h1 2; have b2 := h2 2
  generalize (rt e d).emb x = y at *
  have s1 : S1x1x512x128.size 1 = 1 := rfl
  have s2 : S1x1x512x128.size 2 = 512 := rfl
  rw [s1] at a1 b1; rw [s2] at a2 b2
  simp only [Matrix.cons_val_one, Matrix.cons_val_zero, Matrix.cons_val] at a1 b1 a2 b2
  apply h
  refine Prod.ext (Fin.ext ?_) (Fin.ext ?_)
  · show e.val = e'.val; omega
  · show d.val = d'.val; omega

theorem mem_rw0 (y : S1x4x2048x128.Idx) : y ∈ rw0.set := View.mem_set_unit_zero (by funext a; fin_cases a <;> rfl) _ y

/-- A tile not stored yet reads the zero fill. -/
theorem dqL_miss (x0 x1 x2 x3 : Vec F S1x4x2048x128 .bf16) {e d : Fin 4} : ∀ {l : List (Fin 4 × Fin 4)}, (e, d) ∉ l →
    (fun j => View.canon (dqL x0 x1 x2 x3 l) ((rt e d).toLoadRect.idx j)) = z1
  | [], _ => by
    funext j
    obtain ⟨x, hx⟩ := rw0.exists_idx_of_mem (mem_rw0 ((rt e d).toLoadRect.idx j))
    rw [← hx]; exact View.canon_cons_emb rw0 _ _ x
  | (e', d') :: l, h => by
    rw [← dqL_miss x0 x1 x2 x3 (l := l) (fun hm => h (List.mem_cons_of_mem _ hm))]
    funext j
    exact View.canon_cons_of_not_mem _ _ (rt_disj (fun hh => h (hh ▸ List.mem_cons_self)) j)

end Cert.KernelIdeal.Gen

end
-- ==== Proof.Body.lean ====
module

public import proofs.«01_k».proof.Proof.Block
public import proofs.«01_k».proof.Proof.Gen.KernelIdeal.Loops

/-! The attention kernel's body run once: what it leaves in the three output blocks is
    `out0_4`, `out0_5`, `out0_6` of Block.lean. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem t1_trips : ∀ i : grid0.Coords, (k0_t1_loop i).trips = 0 := by decide +kernel
theorem t2_trips : ∀ i : grid0.Coords, (k0_t2_loop i).trips = 0 := by decide +kernel

/-- A counted loop without trips leaves its carried values as they were. -/
@[instance_reducible, sl_loop] def noTrips {M : Type} [RA.URA M] {Mask : Sort*} {E : Type → Type} (Fr : Mask → sProp M) (wpE : Mask → ∀ ⦃β : Type⦄, E β → sWPT M β) (Es : Mask)
    [∀ ⦃β : Type⦄ (e : E β), sWPT.Frameable (wpE Es e)]
    {w : Nat} {σ : Type} (lb ub st : BitVec w) (hok : Scf.OK lb ub st) (init : σ)
    (body : Fin (Scf.trips lb ub st) → σ → Prog E σ) (htr : Scf.trips lb ub st = 0) : LoopInv Fr wpE Es lb ub st hok init body :=
  LoopInv.ofNoTrips Fr wpE Es lb ub st hok init body htr

abbrev cond0_0 (i : grid0.Coords) : Prop := (Scalar.cmpi .ne (Scalar.extui (Scalar.cmpi .eq (BitVec.ofNat 32 (i 2).val) 0#32)) 0#32) = 1#1
theorem hcond0_0 : ∀ i : grid0.Coords, cond0_0 i := by decide +kernel

/-! ## The offsets of the row tiles, and lists of stores -/

theorem off00 : ∀ i : grid0.Coords, k0_off1 i 0#32 = ![0, (0 : Fin 4).val, 512 * (0 : Fin 4).val, 0] := by decide +kernel
theorem off01 : ∀ i : grid0.Coords, k0_off1 i 512#32 = ![0, (0 : Fin 4).val, 512 * (1 : Fin 4).val, 0] := by decide +kernel
theorem off02 : ∀ i : grid0.Coords, k0_off1 i 1024#32 = ![0, (0 : Fin 4).val, 512 * (2 : Fin 4).val, 0] := by decide +kernel
theorem off03 : ∀ i : grid0.Coords, k0_off1 i 1536#32 = ![0, (0 : Fin 4).val, 512 * (3 : Fin 4).val, 0] := by decide +kernel
theorem off10 : ∀ i : grid0.Coords, k0_off2 i 0#32 = ![0, (1 : Fin 4).val, 512 * (0 : Fin 4).val, 0] := by decide +kernel
theorem off11 : ∀ i : grid0.Coords, k0_off2 i 512#32 = ![0, (1 : Fin 4).val, 512 * (1 : Fin 4).val, 0] := by decide +kernel
theorem off12 : ∀ i : grid0.Coords, k0_off2 i 1024#32 = ![0, (1 : Fin 4).val, 512 * (2 : Fin 4).val, 0] := by decide +kernel
theorem off13 : ∀ i : grid0.Coords, k0_off2 i 1536#32 = ![0, (1 : Fin 4).val, 512 * (3 : Fin 4).val, 0] := by decide +kernel
theorem off20 : ∀ i : grid0.Coords, k0_off3 i 0#32 = ![0, (2 : Fin 4).val, 512 * (0 : Fin 4).val, 0] := by decide +kernel
theorem off21 : ∀ i : grid0.Coords, k0_off3 i 512#32 = ![0, (2 : Fin 4).val, 512 * (1 : Fin 4).val, 0] := by decide +kernel
theorem off22 : ∀ i : grid0.Coords, k0_off3 i 1024#32 = ![0, (2 : Fin 4).val, 512 * (2 : Fin 4).val, 0] := by decide +kernel
theorem off23 : ∀ i : grid0.Coords, k0_off3 i 1536#32 = ![0, (2 : Fin 4).val, 512 * (3 : Fin 4).val, 0] := by decide +kernel
theorem off30 : ∀ i : grid0.Coords, k0_off4 i 0#32 = ![0, (3 : Fin 4).val, 512 * (0 : Fin 4).val, 0] := by decide +kernel
theorem off31 : ∀ i : grid0.Coords, k0_off4 i 512#32 = ![0, (3 : Fin 4).val, 512 * (1 : Fin 4).val, 0] := by decide +kernel
theorem off32 : ∀ i : grid0.Coords, k0_off4 i 1024#32 = ![0, (3 : Fin 4).val, 512 * (2 : Fin 4).val, 0] := by decide +kernel
theorem off33 : ∀ i : grid0.Coords, k0_off4 i 1536#32 = ![0, (3 : Fin 4).val, 512 * (3 : Fin 4).val, 0] := by decide +kernel

/-- A row tile read at the body's own offsets. -/
abbrev tlA (x : Vec F S1x4x2048x128 .bf16) (off : Fin 4 → ℕ) (inb : ∀ a, off a + S1x1x512x128.size a ≤ S1x4x2048x128.size a) : FVec F S512x128 .bf16 :=
  shapeCast S512x128 (View.ld x (Rect.unit (s := S1x4x2048x128) off S1x1x512x128.size inb)) shapeCasts_S1x1x512x128_S512x128
theorem tlA_eq (x : Vec F S1x4x2048x128 .bf16) {off : Fin 4 → ℕ} (inb) {e d : Fin 4} (h : off = ![0, e.val, 512 * d.val, 0]) :
    tlA x off inb = tl x e d := by subst h; rfl

theorem cons_eq {off off' : Fin 4 → ℕ} (h : off = off') {inb inb'} {w w' : S1x1x512x128.Idx → Elt F .f32} (hw : w = w')
    {H L : List (View.Piece (Elt F) S1x4x2048x128 .f32)} (hH : H = L) :
    (⟨Rect.unit (s := S1x4x2048x128) off S1x1x512x128.size inb, w⟩ :: H : List (View.Piece (Elt F) S1x4x2048x128 .f32))
      = ⟨Rect.unit (s := S1x4x2048x128) off' S1x1x512x128.size inb', w'⟩ :: L := by subst h hw hH; rfl

theorem acc_eq (v : View sig .tc .vmem S1x4x2048x128 .f32) (x0 x1 x2 x3 : Vec F S1x4x2048x128 .bf16) {off : Fin 4 → ℕ} (inb) {e d : Fin 4}
    (h : off = ![0, e.val, 512 * d.val, 0]) {l : List (Fin 4 × Fin 4)} (hl : (e, d) ∉ l)
    {H : List (View.Piece (Elt F) S1x4x2048x128 .f32)} (hH : H = dqL x0 x1 x2 x3 l) :
    v.readAt (Elt F) (Rect.unit (s := S1x4x2048x128) off S1x1x512x128.size inb).toLoadRect (v.writes (Elt F) v.junk H) = z1 := by
  subst h hH
  rw [View.readAt_writes_junk_eq_canon]
  exact dqL_miss x0 x1 x2 x3 hl

theorem cover_heads (p0 p1 p2 p3 : Vec F S1x1x2048x128 .f32) (y : S1x4x2048x128.Idx) :
    ∃ pc ∈ ([⟨rh 3, p0⟩, ⟨rh 2, p1⟩, ⟨rh 1, p2⟩, ⟨rh 0, p3⟩] : List (View.Piece (Elt F) S1x4x2048x128 .f32)), y ∈ pc.1.set :=
  View.cover_of_tiled [⟨rh 3, p0⟩, ⟨rh 2, p1⟩, ⟨rh 1, p2⟩, ⟨rh 0, p3⟩] S1x1x2048x128.size (by rfl) y

set_option maxHeartbeats 4000000 in
/-- The body on whole staging memrefs, the inputs' at read contents `x0` … `x3` and the outputs' at anything, runs to the
    continuation holding the inputs' as they were and each output's at `out0_W` of the inputs. -/
theorem run_body (c : Dev nD) (E : Set ℕ) (i : grid0.Coords) (arg3 : Memref sig .tc .vmem S1x4x2048x128 .bf16) (harg3 : arg3.IsWhole) (arg4 : Memref sig .tc .vmem S1x4x2048x128 .bf16) (harg4 : arg4.IsWhole) (arg5 : Memref sig .tc .vmem S1x4x2048x128 .bf16) (harg5 : arg5.IsWhole) (arg6 : Memref sig .tc .vmem S1x4x2048x128 .bf16) (harg6 : arg6.IsWhole) (arg7 : Memref sig .tc .vmem S1x4x2048x128 .f32) (harg7 : arg7.IsWhole) (arg8 : Memref sig .tc .vmem S1x4x2048x128 .f32) (harg8 : arg8.IsWhole) (arg9 : Memref sig .tc .vmem S1x4x2048x128 .f32) (harg9 : arg9.IsWhole)
    (x0 : Vec F S1x4x2048x128 .bf16) (x1 : Vec F S1x4x2048x128 .bf16) (x2 : Vec F S1x4x2048x128 .bf16) (x3 : Vec F S1x4x2048x128 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out0_4 x0 x1 x2 x3) ∗ owns (c : Thread nD τ) arg8 fullShare (out0_5 x0 x1 x2 x3) ∗ owns (c : Thread nD τ) arg9 fullShare (out0_6 x0 x1 x2 x3)) -∗ K ⟨⟩))
      ⊢ wp frame (wpE (defs₀ (F := F)) Variants.none c none) E (cc0_attn_bwd i arg3 harg3 arg4 harg4 arg5 harg5 arg6 harg6 arg7 harg7 arg8 harg8 arg9 harg9) K := by
  have hc0 := hcond0_0 i
  have htr1 := t1_trips i
  have htr2 := t2_trips i
  simp only [cc0_attn_bwd_eq_skeleton]; unfold cc0_attn_bwd_skel
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc0)
  sl_step
  have h0 : (run_body.sl.H4_1 (F := F)) = dqL (arg3.view.read (Elt F) f0) (arg4.view.read (Elt F) f1) (arg5.view.read (Elt F) f2) (arg6.view.read (Elt F) f3) [] := rfl
  have h1 : (run_body.sl.H4_2 c i arg3 arg4 arg5 arg6 arg7 f0 f1 f2 f3) = dqL (arg3.view.read (Elt F) f0) (arg4.view.read (Elt F) f1) (arg5.view.read (Elt F) f2) (arg6.view.read (Elt F) f3) [(0, 0)] :=
    cons_eq (off00 i) (show dqT0 (hd (arg4.view.read (Elt F) f1) 0) (hd (arg5.view.read (Elt F) f2) 0) (tlA (arg3.view.read (Elt F) f0) (k0_off1 i 0#32) (k0_off1_inb i 0)) (tlA (arg6.view.read (Elt F) f3) (k0_off1 i 0#32) (k0_off1_inb i 0)) (arg7.view.readAt (Elt F) (Rect.unit (s := S1x4x2048x128) (k0_off1 i 0#32) S1x1x512x128.size (k0_off1_inb i 0)).toLoadRect (arg7.view.writes (Elt F) arg7.view.junk (run_body.sl.H4_1 (F := F)))) = dqP (arg3.view.read (Elt F) f0) (arg4.view.read (Elt F) f1) (arg5.view.read (Elt F) f2) (arg6.view.read (Elt F) f3) 0 0 by
        rw [acc_eq arg7.view (arg3.view.read (Elt F) f0) (arg4.view.read (Elt F) f1) (arg5.view.read (Elt F) f2) (arg6.view.read (Elt F) f3) _ (off00 i) (l := []) (by decide) h0, tlA_eq _ _ (off00 i), tlA_eq _ _ (off00 i)]; rfl) h0
  have h2 : (run_body.sl.H4_3 c i arg3 arg4 arg5 arg6 arg7 f0 f1 f2 f3) = dqL (arg3.view.read (Elt F) f0) (arg4.view.read (Elt F) f1) (arg5.view.read (Elt F) f2) (arg6.view.read (Elt F) f3) [(1, 0), (0, 0)] :=
    cons_eq (off10 i) (show dqT0 (hd (arg4.view.read (Elt F) f1) 1) (hd (arg5.view.read (Elt F) f2) 1) (tlA (arg3.view.read (Elt F) f0) (k0_off2 i 0#32) (k0_off2_inb i 0)) (tlA (arg6.view.read (Elt F) f3) (k0_off2 i 0#32) (k0_off2_inb i 0)) (arg7.view.readAt (Elt F) (Rect.unit (s := S1x4x2048x128) (k0_off2 i 0#32) S1x1x512x128.size (k0_off2_inb i 0)).toLoadRect (arg7.view.writes (Elt F) arg7.view.junk (run_body.sl.H4_2 c i arg3 arg4 arg5 arg6 arg7 f0 f1 f2 f3))) = dqP (arg3.view.read (Elt F) f0) (arg4.view.read (Elt F) f1) (arg5.view.read (Elt F) f2) (arg6.view.read (Elt F) f3) 1 0 by
        rw [acc_eq arg7.view (arg3.view.read (Elt F) f0) (arg4.view.read (Elt F) f1) (arg5.view.read (Elt F) f2) (arg6.view.read (Elt F) f3) _ (off10 i) (l := [(0, 0)]) (by decide) h1, tlA_eq _ _ (off10 i), tlA_eq _ _ (off10 i)]; rfl) h1
  have h3 : (run_body.sl.H4_4 c i arg3 arg4 arg5 arg6 arg7 f0 f1 f2 f3) = dqL (arg3.view.read (Elt F) f0) (arg4.view.read (Elt F) f1) (arg5.view.read (Elt F) f2) (arg6.view.read (Elt F) f3) [(2, 0), (1, 0), (0, 0)] :=
    cons_eq (off20 i) (show dqT0 (hd (arg4.view.read (Elt F) f1) 2) (hd (arg5.view.read (Elt F) f2) 2) (tlA (arg3.view.read (Elt F) f0) (k0_off3 i 0#32) (k0_off3_inb i 0)) (tlA (arg6.view.read (Elt F) f3) (k0_off3 i 0#32) (k0_off3_inb i 0)) (arg7.view.readAt (Elt F) (Rect.unit (s := S1x4x2048x128) (k0_off3 i 0#32) S1x1x512x128.size (k0_off3_inb i 0)).toLoadRect (arg7.view.writes (Elt F) arg7.view.junk (run_body.sl.H4_3 c i arg3 arg4 arg5 arg6 arg7 f0 f1 f2 f3))) = dqP (arg3.view.read (Elt F) f0) (arg4.view.read (Elt F) f1) (arg5.view.read (Elt F) f2) (arg6.view.read (Elt F) f3) 2 0 by
        rw [acc_eq arg7.view (arg3.view.read (Elt F) f0) (arg4.view.read (Elt F) f1) (arg5.view.read (Elt F) f2) (arg6.view.read (Elt F) f3) _ (off20 i) (l := [(1, 0), (0, 0)]) (by decide) h2, tlA_eq _ _ (off20 i), tlA_eq _ _ (off20 i)]; rfl) h2
  have h4 : (run_body.sl.H4_5 c i arg3 arg4 arg5 arg6 arg7 f0 f1 f2 f3) = dqL (arg3.view.read (Elt F) f0) (arg4.view.read (Elt F) f1) (arg5.view.read (Elt F) f2) (arg6.view.read (Elt F) f3) [(3, 0), (2, 0), (1, 0), (0, 0)] :=
    cons_eq (off30 i) (show dqT0 (hd (arg4.view.read (Elt F) f1) 3) (hd (arg5.view.read (Elt F) f2) 3) (tlA (arg3.view.read (Elt F) f0) (k0_off4 i 0#32) (k0_off4_inb i 0)) (tlA (arg6.view.read (Elt F) f3) (k0_off4 i 0#32) (k0_off4_inb i 0)) (arg7.view.readAt (Elt F) (Rect.unit (s := S1x4x2048x128) (k0_off4 i 0#32) S1x1x512x128.size (k0_off4_inb i 0)).toLoadRect (arg7.view.writes (Elt F) arg7.view.junk (run_body.sl.H4_4 c i arg3 arg4 arg5 arg6 arg7 f0 f1 f2 f3))) = dqP (arg3.view.read (Elt F) f0) (arg4.view.read (Elt F) f1) (arg5.view.read (Elt F) f2) (arg6.view.read (Elt F) f3) 3 0 by
        rw [acc_eq arg7.view (arg3.view.read (Elt F) f0) (arg4.view.read (Elt F) f1) (arg5.view.read (Elt F) f2) (arg6.view.read (Elt F) f3) _ (off30 i) (l := [(2, 0), (1, 0), (0, 0)]) (by decide) h3, tlA_eq _ _ (off30 i), tlA_eq _ _ (off30 i)]; rfl) h3
  have h5 : (run_body.sl.H4_6 c i arg3 arg4 arg5 arg6 arg7 f0 f1 f2 f3) = dqL (arg3.view.read (Elt F) f0) (arg4.view.read (Elt F) f1) (arg5.view.read (Elt F) f2) (arg6.view.read (Elt F) f3) [(0, 1), (3, 0), (2, 0), (1, 0), (0, 0)] :=
    cons_eq (off01 i) (show dqT1 (hd (arg4.view.read (Elt F) f1) 0) (hd (arg5.view.read (Elt F) f2) 0) (tlA (arg3.view.read (Elt F) f0) (k0_off1 i 512#32) (k0_off1_inb i 1)) (tlA (arg6.view.read (Elt F) f3) (k0_off1 i 512#32) (k0_off1_inb i 1)) (arg7.view.readAt (Elt F) (Rect.unit (s := S1x4x2048x128) (k0_off1 i 512#32) S1x1x512x128.size (k0_off1_inb i 1)).toLoadRect (arg7.view.writes (Elt F) arg7.view.junk (run_body.sl.H4_5 c i arg3 arg4 arg5 arg6 arg7 f0 f1 f2 f3))) = dqP (arg3.view.read (Elt F) f0) (arg4.view.read (Elt F) f1) (arg5.view.read (Elt F) f2) (arg6.view.read (Elt F) f3) 0 1 by
        rw [acc_eq arg7.view (arg3.view.read (Elt F) f0) (arg4.view.read (Elt F) f1) (arg5.view.read (Elt F) f2) (arg6.view.read (Elt F) f3) _ (off01 i) (l := [(3, 0), (2, 0), (1, 0), (0, 0)]) (by decide) h4, tlA_eq _ _ (off01 i), tlA_eq _ _ (off01 i)]; rfl) h4
  have h6 : (run_body.sl.H4_7 c i arg3 arg4 arg5 arg6 arg7 f0 f1 f2 f3) = dqL (arg3.view.read (Elt F) f0) (arg4.view.read (Elt F) f1) (arg5.view.read (Elt F) f2) (arg6.view.read (Elt F) f3) [(1, 1), (0, 1), (3, 0), (2, 0), (1, 0), (0, 0)] :=
    cons_eq (off11 i) (show dqT1 (hd (arg4.view.read (Elt F) f1) 1) (hd (arg5.view.read (Elt F) f2) 1) (tlA (arg3.view.read (Elt F) f0) (k0_off2 i 512#32) (k0_off2_inb i 1)) (tlA (arg6.view.read (Elt F) f3) (k0_off2 i 512#32) (k0_off2_inb i 1)) (arg7.view.readAt (Elt F) (Rect.unit (s := S1x4x2048x128) (k0_off2 i 512#32) S1x1x512x128.size (k0_off2_inb i 1)).toLoadRect (arg7.view.writes (Elt F) arg7.view.junk (run_body.sl.H4_6 c i arg3 arg4 arg5 arg6 arg7 f0 f1 f2 f3))) = dqP (arg3.view.read (Elt F) f0) (arg4.view.read (Elt F) f1) (arg5.view.read (Elt F) f2) (arg6.view.read (Elt F) f3) 1 1 by
        rw [acc_eq arg7.view (arg3.view.read (Elt F) f0) (arg4.view.read (Elt F) f1) (arg5.view.read (Elt F) f2) (arg6.view.read (Elt F) f3) _ (off11 i) (l := [(0, 1), (3, 0), (2, 0), (1, 0), (0, 0)]) (by decide) h5, tlA_eq _ _ (off11 i), tlA_eq _ _ (off11 i)]; rfl) h5
  have h7 : (run_body.sl.H4_8 c i arg3 arg4 arg5 arg6 arg7 f0 f1 f2 f3) = dqL (arg3.view.read (Elt F) f0) (arg4.view.read (Elt F) f1) (arg5.view.read (Elt F) f2) (arg6.view.read (Elt F) f3) [(2, 1), (1, 1), (0, 1), (3, 0), (2, 0), (1, 0), (0, 0)] :=
    cons_eq (off21 i) (show dqT1 (hd (arg4.view.read (Elt F) f1) 2) (hd (arg5.view.read (Elt F) f2) 2) (tlA (arg3.view.read (Elt F) f0) (k0_off3 i 512#32) (k0_off3_inb i 1)) (tlA (arg6.view.read (Elt F) f3) (k0_off3 i 512#32) (k0_off3_inb i 1)) (arg7.view.readAt (Elt F) (Rect.unit (s := S1x4x2048x128) (k0_off3 i 512#32) S1x1x512x128.size (k0_off3_inb i 1)).toLoadRect (arg7.view.writes (Elt F) arg7.view.junk (run_body.sl.H4_7 c i arg3 arg4 arg5 arg6 arg7 f0 f1 f2 f3))) = dqP (arg3.view.read (Elt F) f0) (arg4.view.read (Elt F) f1) (arg5.view.read (Elt F) f2) (arg6.view.read (Elt F) f3) 2 1 by
        rw [acc_eq arg7.view (arg3.view.read (Elt F) f0) (arg4.view.read (Elt F) f1) (arg5.view.read (Elt F) f2) (arg6.view.read (Elt F) f3) _ (off21 i) (l := [(1, 1), (0, 1), (3, 0), (2, 0), (1, 0), (0, 0)]) (by decide) h6, tlA_eq _ _ (off21 i), tlA_eq _ _ (off21 i)]; rfl) h6
  have h8 : (run_body.sl.H4_9 c i arg3 arg4 arg5 arg6 arg7 f0 f1 f2 f3) = dqL (arg3.view.read (Elt F) f0) (arg4.view.read (Elt F) f1) (arg5.view.read (Elt F) f2) (arg6.view.read (Elt F) f3) [(3, 1), (2, 1), (1, 1), (0, 1), (3, 0), (2, 0), (1, 0), (0, 0)] :=
    cons_eq (off31 i) (show dqT1 (hd (arg4.view.read (Elt F) f1) 3) (hd (arg5.view.read (Elt F) f2) 3) (tlA (arg3.view.read (Elt F) f0) (k0_off4 i 512#32) (k0_off4_inb i 1)) (tlA (arg6.view.read (Elt F) f3) (k0_off4 i 512#32) (k0_off4_inb i 1)) (arg7.view.readAt (Elt F) (Rect.unit (s := S1x4x2048x128) (k0_off4 i 512#32) S1x1x512x128.size (k0_off4_inb i 1)).toLoadRect (arg7.view.writes (Elt F) arg7.view.junk (run_body.sl.H4_8 c i arg3 arg4 arg5 arg6 arg7 f0 f1 f2 f3))) = dqP (arg3.view.read (Elt F) f0) (arg4.view.read (Elt F) f1) (arg5.view.read (Elt F) f2) (arg6.view.read (Elt F) f3) 3 1 by
        rw [acc_eq arg7.view (arg3.view.read (Elt F) f0) (arg4.view.read (Elt F) f1) (arg5.view.read (Elt F) f2) (arg6.view.read (Elt F) f3) _ (off31 i) (l := [(2, 1), (1, 1), (0, 1), (3, 0), (2, 0), (1, 0), (0, 0)]) (by decide) h7, tlA_eq _ _ (off31 i), tlA_eq _ _ (off31 i)]; rfl) h7
  have h9 : (run_body.sl.H4_10 c i arg3 arg4 arg5 arg6 arg7 f0 f1 f2 f3) = dqL (arg3.view.read (Elt F) f0) (arg4.view.read (Elt F) f1) (arg5.view.read (Elt F) f2) (arg6.view.read (Elt F) f3) [(0, 2), (3, 1), (2, 1), (1, 1), (0, 1), (3, 0), (2, 0), (1, 0), (0, 0)] :=
    cons_eq (off02 i) (show dqT2 (hd (arg4.view.read (Elt F) f1) 0) (hd (arg5.view.read (Elt F) f2) 0) (tlA (arg3.view.read (Elt F) f0) (k0_off1 i 1024#32) (k0_off1_inb i 2)) (tlA (arg6.view.read (Elt F) f3) (k0_off1 i 1024#32) (k0_off1_inb i 2)) (arg7.view.readAt (Elt F) (Rect.unit (s := S1x4x2048x128) (k0_off1 i 1024#32) S1x1x512x128.size (k0_off1_inb i 2)).toLoadRect (arg7.view.writes (Elt F) arg7.view.junk (run_body.sl.H4_9 c i arg3 arg4 arg5 arg6 arg7 f0 f1 f2 f3))) = dqP (arg3.view.read (Elt F) f0) (arg4.view.read (Elt F) f1) (arg5.view.read (Elt F) f2) (arg6.view.read (Elt F) f3) 0 2 by
        rw [acc_eq arg7.view (arg3.view.read (Elt F) f0) (arg4.view.read (Elt F) f1) (arg5.view.read (Elt F) f2) (arg6.view.read (Elt F) f3) _ (off02 i) (l := [(3, 1), (2, 1), (1, 1), (0, 1), (3, 0), (2, 0), (1, 0), (0, 0)]) (by decide) h8, tlA_eq _ _ (off02 i), tlA_eq _ _ (off02 i)]; rfl) h8
  have h10 : (run_body.sl.H4_11 c i arg3 arg4 arg5 arg6 arg7 f0 f1 f2 f3) = dqL (arg3.view.read (Elt F) f0) (arg4.view.read (Elt F) f1) (arg5.view.read (Elt F) f2) (arg6.view.read (Elt F) f3) [(1, 2), (0, 2), (3, 1), (2, 1), (1, 1), (0, 1), (3, 0), (2, 0), (1, 0), (0, 0)] :=
    cons_eq (off12 i) (show dqT2 (hd (arg4.view.read (Elt F) f1) 1) (hd (arg5.view.read (Elt F) f2) 1) (tlA (arg3.view.read (Elt F) f0) (k0_off2 i 1024#32) (k0_off2_inb i 2)) (tlA (arg6.view.read (Elt F) f3) (k0_off2 i 1024#32) (k0_off2_inb i 2)) (arg7.view.readAt (Elt F) (Rect.unit (s := S1x4x2048x128) (k0_off2 i 1024#32) S1x1x512x128.size (k0_off2_inb i 2)).toLoadRect (arg7.view.writes (Elt F) arg7.view.junk (run_body.sl.H4_10 c i arg3 arg4 arg5 arg6 arg7 f0 f1 f2 f3))) = dqP (arg3.view.read (Elt F) f0) (arg4.view.read (Elt F) f1) (arg5.view.read (Elt F) f2) (arg6.view.read (Elt F) f3) 1 2 by
        rw [acc_eq arg7.view (arg3.view.read (Elt F) f0) (arg4.view.read (Elt F) f1) (arg5.view.read (Elt F) f2) (arg6.view.read (Elt F) f3) _ (off12 i) (l := [(0, 2), (3, 1), (2, 1), (1, 1), (0, 1), (3, 0), (2, 0), (1, 0), (0, 0)]) (by decide) h9, tlA_eq _ _ (off12 i), tlA_eq _ _ (off12 i)]; rfl) h9
  have h11 : (run_body.sl.H4_12 c i arg3 arg4 arg5 arg6 arg7 f0 f1 f2 f3) = dqL (arg3.view.read (Elt F) f0) (arg4.view.read (Elt F) f1) (arg5.view.read (Elt F) f2) (arg6.view.read (Elt F) f3) [(2, 2), (1, 2), (0, 2), (3, 1), (2, 1), (1, 1), (0, 1), (3, 0), (2, 0), (1, 0), (0, 0)] :=
    cons_eq (off22 i) (show dqT2 (hd (arg4.view.read (Elt F) f1) 2) (hd (arg5.view.read (Elt F) f2) 2) (tlA (arg3.view.read (Elt F) f0) (k0_off3 i 1024#32) (k0_off3_inb i 2)) (tlA (arg6.view.read (Elt F) f3) (k0_off3 i 1024#32) (k0_off3_inb i 2)) (arg7.view.readAt (Elt F) (Rect.unit (s := S1x4x2048x128) (k0_off3 i 1024#32) S1x1x512x128.size (k0_off3_inb i 2)).toLoadRect (arg7.view.writes (Elt F) arg7.view.junk (run_body.sl.H4_11 c i arg3 arg4 arg5 arg6 arg7 f0 f1 f2 f3))) = dqP (arg3.view.read (Elt F) f0) (arg4.view.read (Elt F) f1) (arg5.view.read (Elt F) f2) (arg6.view.read (Elt F) f3) 2 2 by
        rw [acc_eq arg7.view (arg3.view.read (Elt F) f0) (arg4.view.read (Elt F) f1) (arg5.view.read (Elt F) f2) (arg6.view.read (Elt F) f3) _ (off22 i) (l := [(1, 2), (0, 2), (3, 1), (2, 1), (1, 1), (0, 1), (3, 0), (2, 0), (1, 0), (0, 0)]) (by decide) h10, tlA_eq _ _ (off22 i), tlA_eq _ _ (off22 i)]; rfl) h10
  have h12 : (run_body.sl.H4_13 c i arg3 arg4 arg5 arg6 arg7 f0 f1 f2 f3) = dqL (arg3.view.read (Elt F) f0) (arg4.view.read (Elt F) f1) (arg5.view.read (Elt F) f2) (arg6.view.read (Elt F) f3) [(3, 2), (2, 2), (1, 2), (0, 2), (3, 1), (2, 1), (1, 1), (0, 1), (3, 0), (2, 0), (1, 0), (0, 0)] :=
    cons_eq (off32 i) (show dqT2 (hd (arg4.view.read (Elt F) f1) 3) (hd (arg5.view.read (Elt F) f2) 3) (tlA (arg3.view.read (Elt F) f0) (k0_off4 i 1024#32) (k0_off4_inb i 2)) (tlA (arg6.view.read (Elt F) f3) (k0_off4 i 1024#32) (k0_off4_inb i 2)) (arg7.view.readAt (Elt F) (Rect.unit (s := S1x4x2048x128) (k0_off4 i 1024#32) S1x1x512x128.size (k0_off4_inb i 2)).toLoadRect (arg7.view.writes (Elt F) arg7.view.junk (run_body.sl.H4_12 c i arg3 arg4 arg5 arg6 arg7 f0 f1 f2 f3))) = dqP (arg3.view.read (Elt F) f0) (arg4.view.read (Elt F) f1) (arg5.view.read (Elt F) f2) (arg6.view.read (Elt F) f3) 3 2 by
        rw [acc_eq arg7.view (arg3.view.read (Elt F) f0) (arg4.view.read (Elt F) f1) (arg5.view.read (Elt F) f2) (arg6.view.read (Elt F) f3) _ (off32 i) (l := [(2, 2), (1, 2), (0, 2), (3, 1), (2, 1), (1, 1), (0, 1), (3, 0), (2, 0), (1, 0), (0, 0)]) (by decide) h11, tlA_eq _ _ (off32 i), tlA_eq _ _ (off32 i)]; rfl) h11
  have h13 : (run_body.sl.H4_14 c i arg3 arg4 arg5 arg6 arg7 f0 f1 f2 f3) = dqL (arg3.view.read (Elt F) f0) (arg4.view.read (Elt F) f1) (arg5.view.read (Elt F) f2) (arg6.view.read (Elt F) f3) [(0, 3), (3, 2), (2, 2), (1, 2), (0, 2), (3, 1), (2, 1), (1, 1), (0, 1), (3, 0), (2, 0), (1, 0), (0, 0)] :=
    cons_eq (off03 i) (show dqT3 (hd (arg4.view.read (Elt F) f1) 0) (hd (arg5.view.read (Elt F) f2) 0) (tlA (arg3.view.read (Elt F) f0) (k0_off1 i 1536#32) (k0_off1_inb i 3)) (tlA (arg6.view.read (Elt F) f3) (k0_off1 i 1536#32) (k0_off1_inb i 3)) (arg7.view.readAt (Elt F) (Rect.unit (s := S1x4x2048x128) (k0_off1 i 1536#32) S1x1x512x128.size (k0_off1_inb i 3)).toLoadRect (arg7.view.writes (Elt F) arg7.view.junk (run_body.sl.H4_13 c i arg3 arg4 arg5 arg6 arg7 f0 f1 f2 f3))) = dqP (arg3.view.read (Elt F) f0) (arg4.view.read (Elt F) f1) (arg5.view.read (Elt F) f2) (arg6.view.read (Elt F) f3) 0 3 by
        rw [acc_eq arg7.view (arg3.view.read (Elt F) f0) (arg4.view.read (Elt F) f1) (arg5.view.read (Elt F) f2) (arg6.view.read (Elt F) f3) _ (off03 i) (l := [(3, 2), (2, 2), (1, 2), (0, 2), (3, 1), (2, 1), (1, 1), (0, 1), (3, 0), (2, 0), (1, 0), (0, 0)]) (by decide) h12, tlA_eq _ _ (off03 i), tlA_eq _ _ (off03 i)]; rfl) h12
  have h14 : (run_body.sl.H4_15 c i arg3 arg4 arg5 arg6 arg7 f0 f1 f2 f3) = dqL (arg3.view.read (Elt F) f0) (arg4.view.read (Elt F) f1) (arg5.view.read (Elt F) f2) (arg6.view.read (Elt F) f3) [(1, 3), (0, 3), (3, 2), (2, 2), (1, 2), (0, 2), (3, 1), (2, 1), (1, 1), (0, 1), (3, 0), (2, 0), (1, 0), (0, 0)] :=
    cons_eq (off13 i) (show dqT3 (hd (arg4.view.read (Elt F) f1) 1) (hd (arg5.view.read (Elt F) f2) 1) (tlA (arg3.view.read (Elt F) f0) (k0_off2 i 1536#32) (k0_off2_inb i 3)) (tlA (arg6.view.read (Elt F) f3) (k0_off2 i 1536#32) (k0_off2_inb i 3)) (arg7.view.readAt (Elt F) (Rect.unit (s := S1x4x2048x128) (k0_off2 i 1536#32) S1x1x512x128.size (k0_off2_inb i 3)).toLoadRect (arg7.view.writes (Elt F) arg7.view.junk (run_body.sl.H4_14 c i arg3 arg4 arg5 arg6 arg7 f0 f1 f2 f3))) = dqP (arg3.view.read (Elt F) f0) (arg4.view.read (Elt F) f1) (arg5.view.read (Elt F) f2) (arg6.view.read (Elt F) f3) 1 3 by
        rw [acc_eq arg7.view (arg3.view.read (Elt F) f0) (arg4.view.read (Elt F) f1) (arg5.view.read (Elt F) f2) (arg6.view.read (Elt F) f3) _ (off13 i) (l := [(0, 3), (3, 2), (2, 2), (1, 2), (0, 2), (3, 1), (2, 1), (1, 1), (0, 1), (3, 0), (2, 0), (1, 0), (0, 0)]) (by decide) h13, tlA_eq _ _ (off13 i), tlA_eq _ _ (off13 i)]; rfl) h13
  have h15 : (run_body.sl.H4_16 c i arg3 arg4 arg5 arg6 arg7 f0 f1 f2 f3) = dqL (arg3.view.read (Elt F) f0) (arg4.view.read (Elt F) f1) (arg5.view.read (Elt F) f2) (arg6.view.read (Elt F) f3) [(2, 3), (1, 3), (0, 3), (3, 2), (2, 2), (1, 2), (0, 2), (3, 1), (2, 1), (1, 1), (0, 1), (3, 0), (2, 0), (1, 0), (0, 0)] :=
    cons_eq (off23 i) (show dqT3 (hd (arg4.view.read (Elt F) f1) 2) (hd (arg5.view.read (Elt F) f2) 2) (tlA (arg3.view.read (Elt F) f0) (k0_off3 i 1536#32) (k0_off3_inb i 3)) (tlA (arg6.view.read (Elt F) f3) (k0_off3 i 1536#32) (k0_off3_inb i 3)) (arg7.view.readAt (Elt F) (Rect.unit (s := S1x4x2048x128) (k0_off3 i 1536#32) S1x1x512x128.size (k0_off3_inb i 3)).toLoadRect (arg7.view.writes (Elt F) arg7.view.junk (run_body.sl.H4_15 c i arg3 arg4 arg5 arg6 arg7 f0 f1 f2 f3))) = dqP (arg3.view.read (Elt F) f0) (arg4.view.read (Elt F) f1) (arg5.view.read (Elt F) f2) (arg6.view.read (Elt F) f3) 2 3 by
        rw [acc_eq arg7.view (arg3.view.read (Elt F) f0) (arg4.view.read (Elt F) f1) (arg5.view.read (Elt F) f2) (arg6.view.read (Elt F) f3) _ (off23 i) (l := [(1, 3), (0, 3), (3, 2), (2, 2), (1, 2), (0, 2), (3, 1), (2, 1), (1, 1), (0, 1), (3, 0), (2, 0), (1, 0), (0, 0)]) (by decide) h14, tlA_eq _ _ (off23 i), tlA_eq _ _ (off23 i)]; rfl) h14
  have dk0 : shapeCast S1x1x2048x128 (dkT3 (hd (arg4.view.read (Elt F) f1) 0) (hd (arg5.view.read (Elt F) f2) 0) (tlA (arg3.view.read (Elt F) f0) (k0_off1 i 1536#32) (k0_off1_inb i 3)) (tlA (arg6.view.read (Elt F) f3) (k0_off1 i 1536#32) (k0_off1_inb i 3)) (dkT2 (hd (arg4.view.read (Elt F) f1) 0) (hd (arg5.view.read (Elt F) f2) 0) (tlA (arg3.view.read (Elt F) f0) (k0_off1 i 1024#32) (k0_off1_inb i 2)) (tlA (arg6.view.read (Elt F) f3) (k0_off1 i 1024#32) (k0_off1_inb i 2)) (dkT1 (hd (arg4.view.read (Elt F) f1) 0) (hd (arg5.view.read (Elt F) f2) 0) (tlA (arg3.view.read (Elt F) f0) (k0_off1 i 512#32) (k0_off1_inb i 1)) (tlA (arg6.view.read (Elt F) f3) (k0_off1 i 512#32) (k0_off1_inb i 1)) (dkT0 (hd (arg4.view.read (Elt F) f1) 0) (hd (arg5.view.read (Elt F) f2) 0) (tlA (arg3.view.read (Elt F) f0) (k0_off1 i 0#32) (k0_off1_inb i 0)) (tlA (arg6.view.read (Elt F) f3) (k0_off1 i 0#32) (k0_off1_inb i 0)) z0)))) shapeCasts_S2048x128_S1x1x2048x128 = shapeCast S1x1x2048x128 (dkH (arg3.view.read (Elt F) f0) (arg4.view.read (Elt F) f1) (arg5.view.read (Elt F) f2) (arg6.view.read (Elt F) f3) 0) shapeCasts_S2048x128_S1x1x2048x128 := by
    rw [tlA_eq _ _ (off00 i), tlA_eq _ _ (off00 i), tlA_eq _ _ (off01 i), tlA_eq _ _ (off01 i), tlA_eq _ _ (off02 i), tlA_eq _ _ (off02 i), tlA_eq _ _ (off03 i), tlA_eq _ _ (off03 i)]; rfl
  have dk1 : shapeCast S1x1x2048x128 (dkT3 (hd (arg4.view.read (Elt F) f1) 1) (hd (arg5.view.read (Elt F) f2) 1) (tlA (arg3.view.read (Elt F) f0) (k0_off2 i 1536#32) (k0_off2_inb i 3)) (tlA (arg6.view.read (Elt F) f3) (k0_off2 i 1536#32) (k0_off2_inb i 3)) (dkT2 (hd (arg4.view.read (Elt F) f1) 1) (hd (arg5.view.read (Elt F) f2) 1) (tlA (arg3.view.read (Elt F) f0) (k0_off2 i 1024#32) (k0_off2_inb i 2)) (tlA (arg6.view.read (Elt F) f3) (k0_off2 i 1024#32) (k0_off2_inb i 2)) (dkT1 (hd (arg4.view.read (Elt F) f1) 1) (hd (arg5.view.read (Elt F) f2) 1) (tlA (arg3.view.read (Elt F) f0) (k0_off2 i 512#32) (k0_off2_inb i 1)) (tlA (arg6.view.read (Elt F) f3) (k0_off2 i 512#32) (k0_off2_inb i 1)) (dkT0 (hd (arg4.view.read (Elt F) f1) 1) (hd (arg5.view.read (Elt F) f2) 1) (tlA (arg3.view.read (Elt F) f0) (k0_off2 i 0#32) (k0_off2_inb i 0)) (tlA (arg6.view.read (Elt F) f3) (k0_off2 i 0#32) (k0_off2_inb i 0)) z0)))) shapeCasts_S2048x128_S1x1x2048x128 = shapeCast S1x1x2048x128 (dkH (arg3.view.read (Elt F) f0) (arg4.view.read (Elt F) f1) (arg5.view.read (Elt F) f2) (arg6.view.read (Elt F) f3) 1) shapeCasts_S2048x128_S1x1x2048x128 := by
    rw [tlA_eq _ _ (off10 i), tlA_eq _ _ (off10 i), tlA_eq _ _ (off11 i), tlA_eq _ _ (off11 i), tlA_eq _ _ (off12 i), tlA_eq _ _ (off12 i), tlA_eq _ _ (off13 i), tlA_eq _ _ (off13 i)]; rfl
  have dk2 : shapeCast S1x1x2048x128 (dkT3 (hd (arg4.view.read (Elt F) f1) 2) (hd (arg5.view.read (Elt F) f2) 2) (tlA (arg3.view.read (Elt F) f0) (k0_off3 i 1536#32) (k0_off3_inb i 3)) (tlA (arg6.view.read (Elt F) f3) (k0_off3 i 1536#32) (k0_off3_inb i 3)) (dkT2 (hd (arg4.view.read (Elt F) f1) 2) (hd (arg5.view.read (Elt F) f2) 2) (tlA (arg3.view.read (Elt F) f0) (k0_off3 i 1024#32) (k0_off3_inb i 2)) (tlA (arg6.view.read (Elt F) f3) (k0_off3 i 1024#32) (k0_off3_inb i 2)) (dkT1 (hd (arg4.view.read (Elt F) f1) 2) (hd (arg5.view.read (Elt F) f2) 2) (tlA (arg3.view.read (Elt F) f0) (k0_off3 i 512#32) (k0_off3_inb i 1)) (tlA (arg6.view.read (Elt F) f3) (k0_off3 i 512#32) (k0_off3_inb i 1)) (dkT0 (hd (arg4.view.read (Elt F) f1) 2) (hd (arg5.view.read (Elt F) f2) 2) (tlA (arg3.view.read (Elt F) f0) (k0_off3 i 0#32) (k0_off3_inb i 0)) (tlA (arg6.view.read (Elt F) f3) (k0_off3 i 0#32) (k0_off3_inb i 0)) z0)))) shapeCasts_S2048x128_S1x1x2048x128 = shapeCast S1x1x2048x128 (dkH (arg3.view.read (Elt F) f0) (arg4.view.read (Elt F) f1) (arg5.view.read (Elt F) f2) (arg6.view.read (Elt F) f3) 2) shapeCasts_S2048x128_S1x1x2048x128 := by
    rw [tlA_eq _ _ (off20 i), tlA_eq _ _ (off20 i), tlA_eq _ _ (off21 i), tlA_eq _ _ (off21 i), tlA_eq _ _ (off22 i), tlA_eq _ _ (off22 i), tlA_eq _ _ (off23 i), tlA_eq _ _ (off23 i)]; rfl
  have dk3 : shapeCast S1x1x2048x128 (dkT3 (hd (arg4.view.read (Elt F) f1) 3) (hd (arg5.view.read (Elt F) f2) 3) (tlA (arg3.view.read (Elt F) f0) (k0_off4 i 1536#32) (k0_off4_inb i 3)) (tlA (arg6.view.read (Elt F) f3) (k0_off4 i 1536#32) (k0_off4_inb i 3)) (dkT2 (hd (arg4.view.read (Elt F) f1) 3) (hd (arg5.view.read (Elt F) f2) 3) (tlA (arg3.view.read (Elt F) f0) (k0_off4 i 1024#32) (k0_off4_inb i 2)) (tlA (arg6.view.read (Elt F) f3) (k0_off4 i 1024#32) (k0_off4_inb i 2)) (dkT1 (hd (arg4.view.read (Elt F) f1) 3) (hd (arg5.view.read (Elt F) f2) 3) (tlA (arg3.view.read (Elt F) f0) (k0_off4 i 512#32) (k0_off4_inb i 1)) (tlA (arg6.view.read (Elt F) f3) (k0_off4 i 512#32) (k0_off4_inb i 1)) (dkT0 (hd (arg4.view.read (Elt F) f1) 3) (hd (arg5.view.read (Elt F) f2) 3) (tlA (arg3.view.read (Elt F) f0) (k0_off4 i 0#32) (k0_off4_inb i 0)) (tlA (arg6.view.read (Elt F) f3) (k0_off4 i 0#32) (k0_off4_inb i 0)) z0)))) shapeCasts_S2048x128_S1x1x2048x128 = shapeCast S1x1x2048x128 (dkH (arg3.view.read (Elt F) f0) (arg4.view.read (Elt F) f1) (arg5.view.read (Elt F) f2) (arg6.view.read (Elt F) f3) 3) shapeCasts_S2048x128_S1x1x2048x128 := by
    rw [tlA_eq _ _ (off30 i), tlA_eq _ _ (off30 i), tlA_eq _ _ (off31 i), tlA_eq _ _ (off31 i), tlA_eq _ _ (off32 i), tlA_eq _ _ (off32 i), tlA_eq _ _ (off33 i), tlA_eq _ _ (off33 i)]; rfl
  have dv0 : shapeCast S1x1x2048x128 (dvT3 (hd (arg4.view.read (Elt F) f1) 0) (tlA (arg3.view.read (Elt F) f0) (k0_off1 i 1536#32) (k0_off1_inb i 3)) (tlA (arg6.view.read (Elt F) f3) (k0_off1 i 1536#32) (k0_off1_inb i 3)) (dvT2 (hd (arg4.view.read (Elt F) f1) 0) (tlA (arg3.view.read (Elt F) f0) (k0_off1 i 1024#32) (k0_off1_inb i 2)) (tlA (arg6.view.read (Elt F) f3) (k0_off1 i 1024#32) (k0_off1_inb i 2)) (dvT1 (hd (arg4.view.read (Elt F) f1) 0) (tlA (arg3.view.read (Elt F) f0) (k0_off1 i 512#32) (k0_off1_inb i 1)) (tlA (arg6.view.read (Elt F) f3) (k0_off1 i 512#32) (k0_off1_inb i 1)) (dvT0 (hd (arg4.view.read (Elt F) f1) 0) (tlA (arg3.view.read (Elt F) f0) (k0_off1 i 0#32) (k0_off1_inb i 0)) (tlA (arg6.view.read (Elt F) f3) (k0_off1 i 0#32) (k0_off1_inb i 0)) z0)))) shapeCasts_S2048x128_S1x1x2048x128 = shapeCast S1x1x2048x128 (dvH (arg3.view.read (Elt F) f0) (arg4.view.read (Elt F) f1) (arg5.view.read (Elt F) f2) (arg6.view.read (Elt F) f3) 0) shapeCasts_S2048x128_S1x1x2048x128 := by
    rw [tlA_eq _ _ (off00 i), tlA_eq _ _ (off00 i), tlA_eq _ _ (off01 i), tlA_eq _ _ (off01 i), tlA_eq _ _ (off02 i), tlA_eq _ _ (off02 i), tlA_eq _ _ (off03 i), tlA_eq _ _ (off03 i)]; rfl
  have dv1 : shapeCast S1x1x2048x128 (dvT3 (hd (arg4.view.read (Elt F) f1) 1) (tlA (arg3.view.read (Elt F) f0) (k0_off2 i 1536#32) (k0_off2_inb i 3)) (tlA (arg6.view.read (Elt F) f3) (k0_off2 i 1536#32) (k0_off2_inb i 3)) (dvT2 (hd (arg4.view.read (Elt F) f1) 1) (tlA (arg3.view.read (Elt F) f0) (k0_off2 i 1024#32) (k0_off2_inb i 2)) (tlA (arg6.view.read (Elt F) f3) (k0_off2 i 1024#32) (k0_off2_inb i 2)) (dvT1 (hd (arg4.view.read (Elt F) f1) 1) (tlA (arg3.view.read (Elt F) f0) (k0_off2 i 512#32) (k0_off2_inb i 1)) (tlA (arg6.view.read (Elt F) f3) (k0_off2 i 512#32) (k0_off2_inb i 1)) (dvT0 (hd (arg4.view.read (Elt F) f1) 1) (tlA (arg3.view.read (Elt F) f0) (k0_off2 i 0#32) (k0_off2_inb i 0)) (tlA (arg6.view.read (Elt F) f3) (k0_off2 i 0#32) (k0_off2_inb i 0)) z0)))) shapeCasts_S2048x128_S1x1x2048x128 = shapeCast S1x1x2048x128 (dvH (arg3.view.read (Elt F) f0) (arg4.view.read (Elt F) f1) (arg5.view.read (Elt F) f2) (arg6.view.read (Elt F) f3) 1) shapeCasts_S2048x128_S1x1x2048x128 := by
    rw [tlA_eq _ _ (off10 i), tlA_eq _ _ (off10 i), tlA_eq _ _ (off11 i), tlA_eq _ _ (off11 i), tlA_eq _ _ (off12 i), tlA_eq _ _ (off12 i), tlA_eq _ _ (off13 i), tlA_eq _ _ (off13 i)]; rfl
  have dv2 : shapeCast S1x1x2048x128 (dvT3 (hd (arg4.view.read (Elt F) f1) 2) (tlA (arg3.view.read (Elt F) f0) (k0_off3 i 1536#32) (k0_off3_inb i 3)) (tlA (arg6.view.read (Elt F) f3) (k0_off3 i 1536#32) (k0_off3_inb i 3)) (dvT2 (hd (arg4.view.read (Elt F) f1) 2) (tlA (arg3.view.read (Elt F) f0) (k0_off3 i 1024#32) (k0_off3_inb i 2)) (tlA (arg6.view.read (Elt F) f3) (k0_off3 i 1024#32) (k0_off3_inb i 2)) (dvT1 (hd (arg4.view.read (Elt F) f1) 2) (tlA (arg3.view.read (Elt F) f0) (k0_off3 i 512#32) (k0_off3_inb i 1)) (tlA (arg6.view.read (Elt F) f3) (k0_off3 i 512#32) (k0_off3_inb i 1)) (dvT0 (hd (arg4.view.read (Elt F) f1) 2) (tlA (arg3.view.read (Elt F) f0) (k0_off3 i 0#32) (k0_off3_inb i 0)) (tlA (arg6.view.read (Elt F) f3) (k0_off3 i 0#32) (k0_off3_inb i 0)) z0)))) shapeCasts_S2048x128_S1x1x2048x128 = shapeCast S1x1x2048x128 (dvH (arg3.view.read (Elt F) f0) (arg4.view.read (Elt F) f1) (arg5.view.read (Elt F) f2) (arg6.view.read (Elt F) f3) 2) shapeCasts_S2048x128_S1x1x2048x128 := by
    rw [tlA_eq _ _ (off20 i), tlA_eq _ _ (off20 i), tlA_eq _ _ (off21 i), tlA_eq _ _ (off21 i), tlA_eq _ _ (off22 i), tlA_eq _ _ (off22 i), tlA_eq _ _ (off23 i), tlA_eq _ _ (off23 i)]; rfl
  have dv3 : shapeCast S1x1x2048x128 (dvT3 (hd (arg4.view.read (Elt F) f1) 3) (tlA (arg3.view.read (Elt F) f0) (k0_off4 i 1536#32) (k0_off4_inb i 3)) (tlA (arg6.view.read (Elt F) f3) (k0_off4 i 1536#32) (k0_off4_inb i 3)) (dvT2 (hd (arg4.view.read (Elt F) f1) 3) (tlA (arg3.view.read (Elt F) f0) (k0_off4 i 1024#32) (k0_off4_inb i 2)) (tlA (arg6.view.read (Elt F) f3) (k0_off4 i 1024#32) (k0_off4_inb i 2)) (dvT1 (hd (arg4.view.read (Elt F) f1) 3) (tlA (arg3.view.read (Elt F) f0) (k0_off4 i 512#32) (k0_off4_inb i 1)) (tlA (arg6.view.read (Elt F) f3) (k0_off4 i 512#32) (k0_off4_inb i 1)) (dvT0 (hd (arg4.view.read (Elt F) f1) 3) (tlA (arg3.view.read (Elt F) f0) (k0_off4 i 0#32) (k0_off4_inb i 0)) (tlA (arg6.view.read (Elt F) f3) (k0_off4 i 0#32) (k0_off4_inb i 0)) z0)))) shapeCasts_S2048x128_S1x1x2048x128 = shapeCast S1x1x2048x128 (dvH (arg3.view.read (Elt F) f0) (arg4.view.read (Elt F) f1) (arg5.view.read (Elt F) f2) (arg6.view.read (Elt F) f3) 3) shapeCasts_S2048x128_S1x1x2048x128 := by
    rw [tlA_eq _ _ (off30 i), tlA_eq _ _ (off30 i), tlA_eq _ _ (off31 i), tlA_eq _ _ (off31 i), tlA_eq _ _ (off32 i), tlA_eq _ _ (off32 i), tlA_eq _ _ (off33 i), tlA_eq _ _ (off33 i)]; rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_junk_eq_canon _ _).trans (congrArg View.canon ?_)
    exact cons_eq (off33 i) (show dqT3 (hd (arg4.view.read (Elt F) f1) 3) (hd (arg5.view.read (Elt F) f2) 3) (tlA (arg3.view.read (Elt F) f0) (k0_off4 i 1536#32) (k0_off4_inb i 3)) (tlA (arg6.view.read (Elt F) f3) (k0_off4 i 1536#32) (k0_off4_inb i 3)) (arg7.view.readAt (Elt F) (Rect.unit (s := S1x4x2048x128) (k0_off4 i 1536#32) S1x1x512x128.size (k0_off4_inb i 3)).toLoadRect (arg7.view.writes (Elt F) arg7.view.junk (run_body.sl.H4_16 c i arg3 arg4 arg5 arg6 arg7 f0 f1 f2 f3))) = dqP (arg3.view.read (Elt F) f0) (arg4.view.read (Elt F) f1) (arg5.view.read (Elt F) f2) (arg6.view.read (Elt F) f3) 3 3 by
        rw [acc_eq arg7.view (arg3.view.read (Elt F) f0) (arg4.view.read (Elt F) f1) (arg5.view.read (Elt F) f2) (arg6.view.read (Elt F) f3) _ (off33 i) (l := [(2, 3), (1, 3), (0, 3), (3, 2), (2, 2), (1, 2), (0, 2), (3, 1), (2, 1), (1, 1), (0, 1), (3, 0), (2, 0), (1, 0), (0, 0)]) (by decide) h15, tlA_eq _ _ (off33 i), tlA_eq _ _ (off33 i)]; rfl) h15
  isplitl [H5]
  · iexists _; isplitr
    swap; · iexact H5
    ipureintro
    refine (View.read_writes_eq_canon _ _ _ (cover_heads _ _ _ _)).trans ?_
    rw [out0_5, ← dk0, ← dk1, ← dk2, ← dk3]
    rfl
  iexists _; isplitr
  swap; · iexact H6
  ipureintro
  refine (View.read_writes_eq_canon _ _ _ (cover_heads _ _ _ _)).trans ?_
  rw [out0_6, ← dv0, ← dv1, ← dv2, ← dv3]
  rfl

end Cert.KernelIdeal.Gen
end
-- ==== Proof.Run.lean ====
module

public import proofs.«01_k».proof.Proof.Body
public import Idealize.ShloMosaic.Lib.Claim

/-! The launch of the attention kernel's program and its frame. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/
/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
    | ⟨6, _⟩ => out0_6 (iblk m c 0 t) (iblk m c 1 t) (iblk m c 2 t) (iblk m c 3 t)
  Φ _ := Pipeline.ΦA spec0 c
  q _ := fullShare
  owed _ := 0
/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]
/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]
theorem after0_6 (c : Dev nD) (t : Fin cfg0.N) : (dats m 0 c).after 6 t = out0_6 (iblk m c 0 t) (iblk m c 1 t) (iblk m c 2 t) (iblk m c 3 t) := by dsimp only [dats]
/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-! ## The body obligation, at a generic point -/
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))
/-- The body at any point: the inputs' memrefs hold their blocks (`before0_W`), so `run_body` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_body c Set.univ (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
/-! ## The run and the frame -/
-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)
/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)
/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))
end Cert.KernelIdeal.Gen
end
-- ==== Proof.Frames.lean ====
/-
  The claims about single programs: each runs, leaves its argument arrays alone and every semaphore counter at zero;
  and the kernel's named constant is what its name says.
-/
module

public import proofs.«01_k».proof.Proof.Run
public import proofs.«01_k».proof.Proof.BitsRun
public import proofs.«01_k».proof.Proof.Gen.ReferenceIdeal
public import proofs.«01_k».proof.Proof.Gen.ReferenceIdeal.Run
public import proofs.«01_k».proof.Proof.Gen.Pre_finite
public import proofs.«01_k».proof.Defs
public import Idealize.ShloMosaic.Lib.Pipeline.Kit

@[expose] public section

set_option maxRecDepth 16384

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite.Facts := Cert.Pre_finite.Gen.facts

/-- The kernel at words. -/
theorem frame_bits : Cert.quiescent_Kernel := fun m ρ _ => Cert.Kernel.Gen.frame (F := Bits) m ρ

/-- The idealized kernel. -/
theorem frame_ideal : Cert.quiescent_KernelIdeal := fun m ρ _ => Cert.KernelIdeal.Gen.frame (F := Ideal) m ρ

/-- The reference: a straight line of host operations, with no semaphore declared. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The mask's constant carries its name's value. -/
theorem mask_named : Cert.preserves_Kernel_KernelIdeal :=
  IdealRules.named_const.statement Cert.KernelIdeal.κ "mask" .f32 0xF149F2CA#32 ⊥ rfl

end Cert.Proof

end
-- ==== Proof.Math.lean ====
module

public import Mathlib.Analysis.SpecialFunctions.Log.Basic
public import Mathlib.Algebra.BigOperators.Fin

/-! The gradient of the forgetting attention over the real numbers, and the kernel's way of computing it.

    Arrays are functions of natural numbers: `Q b i h d` is query `i` of head `h` in batch row `b`, at lane `d`;
    `C b i h` is the running sum of the log forget gates. -/

@[expose] public section

noncomputable section

namespace Attention

/-- The lanes' sum of products of row `i` of one operand and row `j` of another. -/
def lanes (f g : ℕ → ℕ → ℝ) (i j : ℕ) : ℝ := ∑ l : Fin 128, f i l * g j l

/-- The kernel's weight of key `k` for query `q`. -/
def wt (kf qf : ℕ → ℕ → ℝ) (k q : ℕ) : ℝ := if k ≤ q then Real.exp (lanes kf qf k q) else 0

/-- The kernel's gradient of that score. -/
def dsc (kf vf qf of : ℕ → ℕ → ℝ) (k q : ℕ) : ℝ := wt kf qf k q * lanes vf of k q

theorem wt_of_lt {kf qf : ℕ → ℕ → ℝ} {k q : ℕ} (h : q < k) : wt kf qf k q = 0 := if_neg (by omega)
theorem dsc_of_lt {kf vf qf of : ℕ → ℕ → ℝ} {k q : ℕ} (h : q < k) : dsc kf vf qf of k q = 0 := by
  rw [dsc, wt_of_lt h, zero_mul]

variable (Q K V T : ℕ → ℕ → ℕ → ℕ → ℝ) (C : ℕ → ℕ → ℕ → ℝ)

/-- The score of key `k` for query `q`: their scaled product and the decay between them. -/
def score (b h q k : ℕ) : ℝ := (∑ d : Fin 64, Q b q h d * K b k h d) * (1 / 8) + (C b q h - C b k h)

/-- The masked score, exponentiated. -/
def ex (b h q k : ℕ) : ℝ := if k ≤ q then Real.exp (score Q K C b h q k) else 0

/-- A row's sum, -/
def rowSum (b h q : ℕ) : ℝ := ∑ k : Fin 2048, ex Q K C b h q k

/-- and the probability of key `k` in it. -/
def prob (b h q k : ℕ) : ℝ := ex Q K C b h q k / rowSum Q K C b h q

/-- The gradient of that probability. -/
def dprob (b h q k : ℕ) : ℝ := ∑ d : Fin 64, T b q h d * V b k h d

/-- The gradient of the score. -/
def dscore (b h q k : ℕ) : ℝ :=
  prob Q K C b h q k * (dprob V T b h q k - ∑ k' : Fin 2048, prob Q K C b h q k' * dprob V T b h q k')

/-- The gradients of the queries, -/
def gradQ (b i h d : ℕ) : ℝ := (∑ k : Fin 2048, dscore Q K V T C b h i k * K b k h d) * (1 / 8)
/-- the keys, -/
def gradK (b i h d : ℕ) : ℝ := (∑ q : Fin 2048, dscore Q K V T C b h q i * Q b q h d) * (1 / 8)
/-- the values -/
def gradV (b i h d : ℕ) : ℝ := ∑ q : Fin 2048, prob Q K C b h q i * T b q h d
/-- and the running sums. -/
def gradC (b i h : ℕ) : ℝ := ∑ k : Fin 2048, dscore Q K V T C b h i k - ∑ q : Fin 2048, dscore Q K V T C b h q i

theorem ex_nonneg (b h q k : ℕ) : 0 ≤ ex Q K C b h q k := by
  unfold ex; split
  · exact (Real.exp_pos _).le
  · exact le_rfl

theorem rowSum_pos (b h : ℕ) {q : ℕ} (hq : q < 2048) : 0 < rowSum Q K C b h q :=
  Finset.sum_pos' (fun k _ => ex_nonneg Q K C b h q k) ⟨⟨q, hq⟩, Finset.mem_univ _, by
    rw [ex, if_pos (le_refl q)]; exact Real.exp_pos _⟩

/-- The lanes of the kernel's four operands: the queries' -/
def laneQ (b h i l : ℕ) : ℝ :=
  if l < 64 then Q b i h l * (1 / 8) else if l < 67 then (if l = 64 then C b i h else 0) else if l < 70 then 1
    else if l = 70 then -Real.log (rowSum Q K C b h i) else 0
/-- the keys', -/
def laneK (b h i l : ℕ) : ℝ :=
  if l < 64 then K b i h l else if l < 67 then 1 else if l < 70 then (if l = 67 then -C b i h else 0) else if l < 73 then 1 else 0
/-- the values' -/
def laneV (b h i l : ℕ) : ℝ := if l < 64 then V b i h l else if l < 67 then 1 else 0
/-- and the output gradient's. -/
def laneT (b h i l : ℕ) : ℝ :=
  if l < 64 then T b i h l else if l = 64 then -∑ d : Fin 64, T b i h d * ∑ k : Fin 2048, prob Q K C b h i k * V b k h d else 0

/-- A sum over the lanes: the data's, then the nine in use after them, when the rest vanish. -/
theorem lanes_split (f g : ℕ → ℕ → ℝ) (i j : ℕ) (h0 : ∀ l, 73 ≤ l → f i l * g j l = 0) :
    lanes f g i j = ∑ d : Fin 64, f i d * g j d + ∑ n ∈ Finset.range 9, f i (64 + n) * g j (64 + n) := by
  rw [lanes, Fin.sum_univ_eq_sum_range (fun l => f i l * g j l) 128, Fin.sum_univ_eq_sum_range (fun l => f i l * g j l) 64,
    show (128 : ℕ) = 64 + (9 + 55) by norm_num, Finset.sum_range_add, Finset.sum_range_add]
  congr 1
  rw [Finset.sum_eq_zero (s := Finset.range 55) fun n _ => h0 _ (by omega), add_zero]

theorem lanes_score (b h k q : ℕ) :
    lanes (laneK K C b h) (laneQ Q K C b h) k q = score Q K C b h q k - Real.log (rowSum Q K C b h q) := by
  rw [lanes_split _ _ _ _ fun l hl => by
    rw [laneK, if_neg (by omega), if_neg (by omega), if_neg (by omega), if_neg (by omega), zero_mul]]
  rw [Finset.sum_congr rfl fun (d : Fin 64) _ => show laneK K C b h k d * laneQ Q K C b h q d = Q b q h d * K b k h d * (1 / 8) by
    rw [laneK, laneQ, if_pos d.isLt, if_pos d.isLt]; ring]
  rw [← Finset.sum_mul]
  simp only [Finset.sum_range_succ, Finset.sum_range_zero, laneK, laneQ, score]
  norm_num
  ring

theorem lanes_dprob (b h k q : ℕ) :
    lanes (laneV V b h) (laneT Q K V T C b h) k q
      = dprob V T b h q k - ∑ k' : Fin 2048, prob Q K C b h q k' * dprob V T b h q k' := by
  rw [lanes_split _ _ _ _ fun l hl => by
    rw [laneV, if_neg (by omega), if_neg (by omega), zero_mul]]
  rw [Finset.sum_congr rfl fun (d : Fin 64) _ => show laneV V b h k d * laneT Q K V T C b h q d = T b q h d * V b k h d by
    rw [laneV, laneT, if_pos d.isLt, if_pos d.isLt]; ring]
  rw [show ∑ k' : Fin 2048, prob Q K C b h q k' * dprob V T b h q k'
      = ∑ d : Fin 64, T b q h d * ∑ k : Fin 2048, prob Q K C b h q k * V b k h d by
    simp only [dprob, Finset.mul_sum]
    rw [Finset.sum_comm]
    exact Finset.sum_congr rfl fun d _ => Finset.sum_congr rfl fun k _ => by ring]
  generalize hN : ∑ d : Fin 64, T b q h d * ∑ k : Fin 2048, prob Q K C b h q k * V b k h d = N
  simp only [Finset.sum_range_succ, Finset.sum_range_zero, laneV, laneT, dprob, hN]
  norm_num
  ring

theorem wt_eq (b h k : ℕ) {q : ℕ} (hq : q < 2048) :
    wt (laneK K C b h) (laneQ Q K C b h) k q = prob Q K C b h q k := by
  rw [wt, prob, ex, lanes_score]
  split
  · rw [Real.exp_sub, Real.exp_log (rowSum_pos Q K C b h hq)]
  · rw [zero_div]

theorem dsc_eq (b h k : ℕ) {q : ℕ} (hq : q < 2048) :
    dsc (laneK K C b h) (laneV V b h) (laneQ Q K C b h) (laneT Q K V T C b h) k q = dscore Q K V T C b h q k := by
  rw [dsc, wt_eq Q K C b h k hq, lanes_dprob, dscore]

/-- The shifted row: its sum's logarithm and its quotients do not depend on the shift. -/
theorem rowSum_shift (b h q : ℕ) (M : ℝ) :
    (∑ k : Fin 2048, if (k : ℕ) ≤ q then Real.exp (score Q K C b h q k - M) else 0) = rowSum Q K C b h q * Real.exp (-M) := by
  rw [rowSum, Finset.sum_mul]
  refine Finset.sum_congr rfl fun k _ => ?_
  rw [ex]; split
  · rw [sub_eq_add_neg, Real.exp_add]
  · rw [zero_mul]

theorem log_shift (b h : ℕ) {q : ℕ} (hq : q < 2048) (M : ℝ) :
    M + Real.log (rowSum Q K C b h q * Real.exp (-M)) = Real.log (rowSum Q K C b h q) := by
  rw [Real.log_mul (rowSum_pos Q K C b h hq).ne' (Real.exp_pos _).ne', Real.log_exp]; ring

theorem prob_shift (b h q k : ℕ) (M : ℝ) :
    (if k ≤ q then Real.exp (score Q K C b h q k - M) else 0) / (rowSum Q K C b h q * Real.exp (-M)) = prob Q K C b h q k := by
  rw [prob, ← mul_div_mul_right (ex Q K C b h q k) (rowSum Q K C b h q) (Real.exp_pos (-M)).ne', ex]
  congr 1
  split
  · rw [sub_eq_add_neg, Real.exp_add]
  · rw [zero_mul]

/-! ## What the kernel's sums are -/

variable (b i h : ℕ) (hi : i < 2048)

/-- Row `i` of the kernel's query gradient at lane `l`, -/
def sumQ (l : ℕ) : ℝ := ∑ k ∈ Finset.range 2048, dsc (laneK K C b h) (laneV V b h) (laneQ Q K C b h) (laneT Q K V T C b h) k i * laneK K C b h k l
/-- of its key gradient, -/
def sumK (l : ℕ) : ℝ := ∑ q ∈ Finset.range 2048, dsc (laneK K C b h) (laneV V b h) (laneQ Q K C b h) (laneT Q K V T C b h) i q * laneQ Q K C b h q l
/-- and of its value gradient. -/
def sumV (l : ℕ) : ℝ := ∑ q ∈ Finset.range 2048, wt (laneK K C b h) (laneQ Q K C b h) i q * laneT Q K V T C b h q l

include hi in
theorem sumQ_data {d : ℕ} (hd : d < 64) : sumQ Q K V T C b i h d * (1 / 8) = gradQ Q K V T C b i h d := by
  rw [sumQ, gradQ, ← Fin.sum_univ_eq_sum_range (fun k => dsc (laneK K C b h) (laneV V b h) (laneQ Q K C b h) (laneT Q K V T C b h) k i * laneK K C b h k d)]
  congr 1
  exact Finset.sum_congr rfl fun k _ => by rw [dsc_eq Q K V T C b h k hi, laneK, if_pos hd]

theorem sumK_data {d : ℕ} (hd : d < 64) : sumK Q K V T C b i h d = gradK Q K V T C b i h d := by
  rw [sumK, gradK, ← Fin.sum_univ_eq_sum_range (fun q => dsc (laneK K C b h) (laneV V b h) (laneQ Q K C b h) (laneT Q K V T C b h) i q * laneQ Q K C b h q d), Finset.sum_mul]
  exact Finset.sum_congr rfl fun q _ => by rw [dsc_eq Q K V T C b h i q.isLt, laneQ, if_pos hd, mul_assoc]

theorem sumV_data {d : ℕ} (hd : d < 64) : sumV Q K V T C b i h d = gradV Q K T C b i h d := by
  rw [sumV, gradV, ← Fin.sum_univ_eq_sum_range (fun q => wt (laneK K C b h) (laneQ Q K C b h) i q * laneT Q K V T C b h q d)]
  exact Finset.sum_congr rfl fun q _ => by rw [wt_eq Q K C b h i q.isLt, laneT, if_pos hd]

include hi in
theorem sum_decay : sumQ Q K V T C b i h 64 - sumK Q K V T C b i h 67 = gradC Q K V T C b i h := by
  rw [sumQ, sumK, gradC, ← Fin.sum_univ_eq_sum_range (fun k => dsc (laneK K C b h) (laneV V b h) (laneQ Q K C b h) (laneT Q K V T C b h) k i * laneK K C b h k 64),
    ← Fin.sum_univ_eq_sum_range (fun q => dsc (laneK K C b h) (laneV V b h) (laneQ Q K C b h) (laneT Q K V T C b h) i q * laneQ Q K C b h q 67)]
  congr 1
  · exact Finset.sum_congr rfl fun k _ => by rw [dsc_eq Q K V T C b h k hi]; norm_num [laneK]
  · exact Finset.sum_congr rfl fun q _ => by rw [dsc_eq Q K V T C b h i q.isLt]; norm_num [laneQ]

end Attention

end
-- ==== Proof.Reals.lean ====
module

public import proofs.«01_k».proof.Proof.Math
public import Idealize.ShloMosaic.Lib.Pointwise

/-! The extended reals' operations at real numbers, as a masked softmax meets them. -/

@[expose] public section

noncomputable section

namespace Attention

open Idealize.ShloMosaic

theorem coe_sum {n : ℕ} (f : Fin n → ℝ) : (∑ i, (f i : EReal)) = ((∑ i, f i : ℝ) : EReal) :=
  (map_sum (⟨⟨((↑) : ℝ → EReal), EReal.coe_zero⟩, EReal.coe_add⟩ : ℝ →+ EReal) _ _).symm

theorem coe_dot {n : ℕ} (f g : Fin n → ℝ) : (∑ i, (f i : EReal) * (g i : EReal)) = ((∑ i, f i * g i : ℝ) : EReal) := by
  rw [← coe_sum]
  exact Finset.sum_congr rfl fun i _ => (EReal.coe_mul _ _).symm

/-- The largest of finitely many entries is a number where one of them is and none is `⊤`. -/
theorem fold_max_real {n : ℕ} (f : Fin n → EReal) (i : Fin n) {r : ℝ} (hi : f i = r) (h : ∀ j, f j ≠ ⊤) :
    ∃ M : ℝ, (Finset.univ : Finset (Fin n)).fold max ⊥ f = (M : EReal) := by
  have hlt : (Finset.univ : Finset (Fin n)).fold max ⊥ f < ⊤ :=
    (Finset.fold_max_lt _).mpr ⟨bot_lt_top, fun j _ => lt_top_iff_ne_top.mpr (h j)⟩
  have hge : (r : EReal) ≤ (Finset.univ : Finset (Fin n)).fold max ⊥ f :=
    (Finset.le_fold_max _).mpr (Or.inr ⟨i, Finset.mem_univ i, hi.ge⟩)
  exact ⟨_, (EReal.coe_toReal hlt.ne (ne_of_gt (lt_of_lt_of_le (EReal.bot_lt_coe r) hge))).symm⟩

theorem exp_masked {j i : ℕ} (s M : ℝ) :
    Ideal.exp ((if j ≤ i then (s : EReal) else ⊥) - (M : EReal)) = ((if j ≤ i then Real.exp (s - M) else 0 : ℝ) : EReal) := by
  split
  · rw [← EReal.coe_sub, Ideal.exp_coe]
  · rw [EReal.bot_sub, Ideal.exp_bot, EReal.coe_zero]

theorem div_reals (a : ℝ) {b : ℝ} (hb : b ≠ 0) : Ideal.div (a : EReal) (b : EReal) = ((a / b : ℝ) : EReal) := by
  rw [Ideal.div_coe hb, ← EReal.coe_mul, mul_one_div]

theorem log_pos_real {b : ℝ} (hb : 0 < b) : Ideal.log (b : EReal) = (Real.log b : EReal) := by
  rw [Ideal.log_coe, if_neg (not_le.mpr hb)]

theorem bits_eighth : Ideal.ofBits .f32 0x3E000000#32 = ((1 / 8 : ℝ) : EReal) := by
  simp [Ideal.ofBits, Ideal.ieee]
  rw [← EReal.coe_mul]
  exact congrArg (fun x : ℝ => (x : EReal)) (by norm_num)

theorem bits_bot : Ideal.ofBits .f32 0xFF800000#32 = (⊥ : EReal) := by simp [Ideal.ofBits, Ideal.ieee]

theorem bits_one : Ideal.ofBits .f32 0x3F800000#32 = ((1 : ℝ) : EReal) := by
  simp [Ideal.ofBits, Ideal.ieee]
  rw [← EReal.coe_mul, ← EReal.coe_one]
  exact congrArg (fun x : ℝ => (x : EReal)) (by norm_num)

/-- A choice by the mask. -/
theorem select_le {α : Type} {a b : ℕ} (ha : a < 2 ^ 31) (hb : b < 2 ^ 31) (x y : α) :
    Scalar.select (IntOp.cmpi .sle (BitVec.ofNat 32 a) (BitVec.ofNat 32 b)) x y = if a ≤ b then x else y := by
  have h : (IntOp.cmpi .sle (BitVec.ofNat 32 a) (BitVec.ofNat 32 b)) = BitVec.ofBool (decide (a ≤ b)) := by
    simp only [IntOp.cmpi]
    congr 1
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  rw [h]
  by_cases hab : a ≤ b
  · rw [if_pos hab, decide_eq_true hab]; rfl
  · rw [if_neg hab, decide_eq_false hab]; rfl

/-- A row of masked scores has a number for its largest entry. -/
theorem row_max (s : ℕ → ℝ) {n : ℕ} (i : Fin n) (f : Fin n → EReal) (hf : ∀ j : Fin n, f j = if (j : ℕ) ≤ i then (s j : EReal) else ⊥) :
    ∃ M : ℝ, (Finset.univ : Finset (Fin n)).fold max ⊥ f = (M : EReal) := by
  refine fold_max_real f i (r := s i) ((hf i).trans (if_pos le_rfl)) fun j => ?_
  rw [hf j]; split
  · exact EReal.coe_ne_top _
  · exact bot_ne_top

/-! ## Elementwise operations at an index -/

section
variable {s : Shape} (x y : FVec Ideal s .f32) (i : s.Idx)
theorem add_at : addf x y i = x i + y i := rfl
theorem sub_at : subf x y i = x i - y i := rfl
theorem mul_at : mulf x y i = x i * y i := rfl
theorem max_at : maximumf x y i = max (x i) (y i) := rfl
theorem div_at : Host.divf x y i = Ideal.div (x i) (y i) := rfl
theorem neg_at : Host.negf x i = -x i := rfl
theorem log_at : Host.log x i = Ideal.log (x i) := rfl
theorem exp_at : Host.exp x i = Ideal.exp (x i) := rfl
theorem select_at (p : IVec s 1) : select p x y i = Scalar.select (p i) (x i) (y i) := rfl
/-- An array of one constant. -/
theorem splat_at (h : (⟨0, ![]⟩ : Shape).BroadcastsInDim s ![]) (w : BitVec 32) :
    (broadcastInDim s ![] h (constant ⟨0, ![]⟩ .f32 w) : FVec Ideal s .f32) i = Ideal.ofBits .f32 w := rfl
end

end Attention

end
-- ==== Proof.Finite.lean ====
module

public import proofs.«01_k».proof.Proof.Gen.Pre_finite
public import proofs.«01_k».proof.Defs
public import proofs.«01_k».proof.Proof.Reals

/-! The precondition read at an entry: every entry of the five arguments is a real number. -/

@[expose] public section

noncomputable section

namespace Cert.Pre_finite.Value

open Cert.Pre_finite Idealize.ShloMosaic Attention

/-- The conjunction of two bits is set where both are. -/
theorem and_bits (x y : BitVec 1) : IntOp.andi x y = 1#1 ↔ x = 1#1 ∧ y = 1#1 := by
  revert x y; decide

instance : Std.Commutative (IntOp.andi : BitVec 1 → BitVec 1 → BitVec 1) := ⟨by decide⟩
instance : Std.Associative (IntOp.andi : BitVec 1 → BitVec 1 → BitVec 1) := ⟨by decide⟩

/-- A conjunction over a whole array is set only where every bit is. -/
theorem all_bits {s u : Shape} {axes : List (Fin s.rank)} (x : s.Idx → BitVec 1) (init : u.Idx → BitVec 1) (h : s.ReducesTo axes ⟨0, ![]⟩) (hu : 0 < u.numel)
    (j : (⟨0, ![]⟩ : Shape).Idx) (hx : Host.reduce IntOp.andi x init h hu j = 1#1) (i : s.Idx) : x i = 1#1 := by
  rw [Host.reduce_eq_fold] at hx
  have hr : ∀ {a y z : BitVec 1}, (a = 1#1 → IntOp.andi y z = 1#1) ↔ (a = 1#1 → y = 1#1) ∧ (a = 1#1 → z = 1#1) := fun {a y z} => by
    rw [and_bits]; tauto
  exact ((Finset.fold_op_rel_iff_and (op := IntOp.andi) (r := fun a b : BitVec 1 => a = 1#1 → b = 1#1) (c := 1#1) hr).mp (fun _ => hx)).2 i
    (Finset.mem_filter.mpr ⟨Finset.mem_univ _, funext fun a => a.elim0⟩) rfl

/-- An entry whose absolute value is below infinity is a real number. -/
theorem real_of_bit (x : EReal) (hx : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at hx
  have hlt : max x (-x) < ⊤ := by
    by_contra hn
    simp [Ideal.cmp, hn] at hx
  rw [max_lt_iff] at hlt
  refine (EReal.coe_toReal hlt.1.ne ?_).symm
  rintro rfl
  simp at hlt

section
variable {s : Shape} {axes : List (Fin s.rank)} (x : FVec Ideal s .f32) (hb : (⟨0, ![]⟩ : Shape).BroadcastsInDim s ![]) (h : s.ReducesTo axes ⟨0, ![]⟩)
/-- One array's test. -/
def test (hu : 0 < (⟨0, ![]⟩ : Shape).numel) : IVec ⟨0, ![]⟩ 1 :=
  Host.reduce IntOp.andi (cmpf .olt (Host.absf x) (broadcastInDim s ![] hb (constant ⟨0, ![]⟩ .f32 0x7F800000#32))) (constantI ⟨0, ![]⟩ 1 1#1) h hu
theorem real_of_test (hu : 0 < (⟨0, ![]⟩ : Shape).numel) (j : (⟨0, ![]⟩ : Shape).Idx) (ht : test x hb h hu j = 1#1) (i : s.Idx) :
    x i = ((EReal.toReal (x i) : ℝ) : EReal) :=
  real_of_bit _ (all_bits _ _ h hu j ht i)
end

variable [Facts]
open Facts

theorem real_args (q k v : FVec Ideal S2x2048x16x64 .f32) (c : FVec Ideal S2x2048x16 .f32) (t : FVec Ideal S2x2048x16x64 .f32)
    (hp : fn (F := Ideal) q k v c t = fun _ => 1#1) :
    (∀ i, q i = ((EReal.toReal (q i) : ℝ) : EReal)) ∧ (∀ i, k i = ((EReal.toReal (k i) : ℝ) : EReal)) ∧ (∀ i, v i = ((EReal.toReal (v i) : ℝ) : EReal))
      ∧ (∀ i, c i = ((EReal.toReal (c i) : ℝ) : EReal)) ∧ (∀ i, t i = ((EReal.toReal (t i) : ℝ) : EReal)) := by
  have e : fn (F := Ideal) q k v c t = andi (andi (andi (andi (test q bcast_S_S2x2048x16x64 reducesTo_S2x2048x16x64_S_d0_1_2_3 h_S_)
      (test k bcast_S_S2x2048x16x64 reducesTo_S2x2048x16x64_S_d0_1_2_3 h_S_)) (test v bcast_S_S2x2048x16x64 reducesTo_S2x2048x16x64_S_d0_1_2_3 h_S_))
      (test c bcast_S_S2x2048x16 reducesTo_S2x2048x16_S_d0_1_2 h_S_)) (test t bcast_S_S2x2048x16x64 reducesTo_S2x2048x16x64_S_d0_1_2_3 h_S_) := rfl
  rw [e] at hp
  have h4 := (and_bits _ _).mp (congrFun hp fun a => a.elim0)
  have h3 := (and_bits _ _).mp h4.1
  have h2 := (and_bits _ _).mp h3.1
  have h1 := (and_bits _ _).mp h2.1
  exact ⟨real_of_test q _ _ _ _ h1.1, real_of_test k _ _ _ _ h1.2, real_of_test v _ _ _ _ h2.2, real_of_test c _ _ _ _ h3.2, real_of_test t _ _ _ _ h4.2⟩

end Cert.Pre_finite.Value

end
-- ==== Proof.Tiles.lean ====
module

public import proofs.«01_k».proof.Proof.Block
public import proofs.«01_k».proof.Proof.Math
public import Idealize.ShloMosaic.Lib.Pointwise

/-! The attention kernel's row tiles over the reals.

    Where the four operands' entries are real numbers, so is everything a tile computes: the weight of key `k` for
    query `q` is the exponential of their lanes' sum of products for `k ≤ q` and zero otherwise. -/

@[expose] public section

set_option maxRecDepth 16384

noncomputable section

namespace Cert.KernelIdeal.Gen

open Idealize.ShloMosaic Idealize.ShloMosaic.TcCoe Attention

/-- A sum of products of reals, taken among the extended reals. -/
theorem coe_sum_mul {n : ℕ} (f g : Fin n → ℝ) :
    (∑ i, (f i : EReal) * (g i : EReal)) = ((∑ i, f i * g i : ℝ) : EReal) := by
  rw [show (fun i => (f i : EReal) * (g i : EReal)) = fun i => ((f i * g i : ℝ) : EReal) from funext fun i => (EReal.coe_mul _ _).symm]
  exact (map_sum (⟨⟨((↑) : ℝ → EReal), EReal.coe_zero⟩, EReal.coe_add⟩ : ℝ →+ EReal) _ _).symm

/-- The mask's value. -/
theorem mask_bot : (Named.named (F := Ideal) κ "mask" (φ := .f32) 0xF149F2CA#32 : EReal) = ⊥ := rfl

/-- A masked, exponentiated score. -/
theorem exp_select {a b : ℕ} (ha : a < 2 ^ 31) (hb : b < 2 ^ 31) (x : ℝ) :
    Ideal.exp (Scalar.select (IntOp.cmpi .sle (BitVec.ofNat 32 a) (BitVec.ofNat 32 b)) (x : EReal) ⊥)
      = ((if a ≤ b then Real.exp x else 0 : ℝ) : EReal) := by
  have h : (IntOp.cmpi .sle (BitVec.ofNat 32 a) (BitVec.ofNat 32 b)) = BitVec.ofBool (decide (a ≤ b)) := by
    simp only [IntOp.cmpi]
    congr 1
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  rw [h]
  by_cases hab : a ≤ b
  · rw [if_pos hab, decide_eq_true hab]; rfl
  · rw [if_neg hab, decide_eq_false hab]; rfl

section
variable {K V : FVec Ideal S2048x128 .bf16} {kf vf qf of : ℕ → ℕ → ℝ} {q o : FVec Ideal S512x128 .bf16}

/-! ### Row tile 0: keys 0 … 511, queries 0 … 511 -/

theorem pT0_apply {s : ℕ} (hs : s = 0) (hK : ∀ (i : Fin 2048) (l : Fin 128), K (ix2 i l) = (kf i l : ℝ))
    (hq : ∀ (i : Fin 512) (l : Fin 128), q (ix2 i l) = (qf (s + i) l : ℝ)) (k : Fin 512) (r : Fin 512) :
    pT0 K q (ix2 k r) = (wt kf qf k (s + r) : ℝ) := by
  pointwise [pT0]
  simp only [hK, hq, coe_sum_mul, mask_bot]
  subst hs; rw [show IntOp.addi (BitVec.ofNat 32 (r : ℕ)) 0#32 = BitVec.ofNat 32 (0 + r) by simp [IntOp.addi]]
  exact exp_select (a := k) (b := 0 + r) (by have := k.isLt; omega) (by have := r.isLt; omega) _

theorem dsT0_apply {s : ℕ} (hs : s = 0) (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (s + i) l : ℝ))
    (ho : ∀ (i : Fin 512) (l : Fin 128), o (ix2 i l) = (of (s + i) l : ℝ)) (k : Fin 512) (r : Fin 512) :
    dsT0 K V q o (ix2 k r) = (dsc kf vf qf of k (s + r) : ℝ) := by
  pointwise [dsT0]
  rw [pT0_apply hs hK hq]
  simp only [hV, ho, coe_sum_mul]
  exact (EReal.coe_mul _ _).symm

theorem dqT0_apply {s : ℕ} (hs : s = 0) (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (s + i) l : ℝ))
    (ho : ∀ (i : Fin 512) (l : Fin 128), o (ix2 i l) = (of (s + i) l : ℝ))
    (a : Vec Ideal S1x1x512x128 .f32) (ha : ∀ j, a j = (0 : EReal)) (x y : Fin 1) (r : Fin 512) (l : Fin 128) :
    dqT0 K V q o a (ix4 x y r l) = ((∑ k ∈ Finset.range 2048, dsc kf vf qf of k (s + r) * kf k l : ℝ) : EReal) := by
  pointwise [dqT0]
  simp only [dsT0_apply hs hK hV hq ho, hK, ha, coe_sum_mul]
  rw [zero_add, Fin.sum_univ_eq_sum_range (fun k => dsc kf vf qf of k (s + r) * kf k l) 512]
  refine congrArg (fun x : ℝ => (x : EReal)) (Finset.sum_subset (Finset.range_subset_range.2 (by omega)) fun k _ hk => ?_)
  rw [dsc_of_lt (by have := r.isLt; rw [Finset.mem_range] at hk; omega), zero_mul]

theorem dkT0_apply {s : ℕ} (hs : s = 0) (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (s + i) l : ℝ))
    (ho : ∀ (i : Fin 512) (l : Fin 128), o (ix2 i l) = (of (s + i) l : ℝ))
    {a : FVec Ideal S2048x128 .f32} {af : ℕ → ℕ → ℝ} (ha : ∀ (i : Fin 2048) (l : Fin 128), a (ix2 i l) = (af i l : ℝ))
    (k : Fin 2048) (l : Fin 128) :
    dkT0 K V q o a (ix2 k l) = ((af k l + ∑ r ∈ Finset.range 512, dsc kf vf qf of k (s + r) * qf (s + r) l : ℝ) : EReal) := by
  rw [← Fin.sum_univ_eq_sum_range (fun r => dsc kf vf qf of k (s + r) * qf (s + r) l) 512]
  pointwise [dkT0]
  simp only [dsT0_apply hs hK hV hq ho, hq, ha, coe_sum_mul]
  split
  · exact (EReal.coe_add _ _).symm
  · rename_i hk
    rw [Finset.sum_eq_zero fun r _ => by rw [dsc_of_lt (by have := r.isLt; omega), zero_mul], add_zero,
      show 512 + ((k : ℕ) - 512) = k by omega]

theorem dvT0_apply {s : ℕ} (hs : s = 0) (hK : ∀ (i : Fin 2048) (l : Fin 128), K (ix2 i l) = (kf i l : ℝ))
    (hq : ∀ (i : Fin 512) (l : Fin 128), q (ix2 i l) = (qf (s + i) l : ℝ))
    (ho : ∀ (i : Fin 512) (l : Fin 128), o (ix2 i l) = (of (s + i) l : ℝ))
    {a : FVec Ideal S2048x128 .f32} {af : ℕ → ℕ → ℝ} (ha : ∀ (i : Fin 2048) (l : Fin 128), a (ix2 i l) = (af i l : ℝ))
    (k : Fin 2048) (l : Fin 128) :
    dvT0 K q o a (ix2 k l) = ((af k l + ∑ r ∈ Finset.range 512, wt kf qf k (s + r) * of (s + r) l : ℝ) : EReal) := by
  rw [← Fin.sum_univ_eq_sum_range (fun r => wt kf qf k (s + r) * of (s + r) l) 512]
  pointwise [dvT0]
  simp only [pT0_apply hs hK hq, ho, ha, coe_sum_mul]
  split
  · exact (EReal.coe_add _ _).symm
  · rename_i hk
    rw [Finset.sum_eq_zero fun r _ => by rw [wt_of_lt (by have := r.isLt; omega), zero_mul], add_zero,
      show 512 + ((k : ℕ) - 512) = k by omega]

/-! ### Row tile 1: keys 0 … 1023, queries 512 … 1023 -/

theorem pT1_apply (hK : ∀ (i : Fin 2048) (l : Fin 128), K (ix2 i l) = (kf i l : ℝ))
    (hq : ∀ (i : Fin 512) (l : Fin 128), q (ix2 i l) = (qf (512 + i) l : ℝ)) (k : Fin 1024) (r : Fin 512) :
    pT1 K q (ix2 k r) = (wt kf qf k (512 + r) : ℝ) := by
  pointwise [pT1]
  simp only [hK, hq, coe_sum_mul, mask_bot]
  rw [show IntOp.addi (BitVec.ofNat 32 (r : ℕ)) 512#32 = BitVec.ofNat 32 (512 + r) by
    simp only [IntOp.addi]; rw [← BitVec.ofNat_add, Nat.add_comm]]
  exact exp_select (a := k) (b := 512 + r) (by have := k.isLt; omega) (by have := r.isLt; omega) _

theorem dsT1_apply (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (512 + i) l : ℝ))
    (ho : ∀ (i : Fin 512) (l : Fin 128), o (ix2 i l) = (of (512 + i) l : ℝ)) (k : Fin 1024) (r : Fin 512) :
    dsT1 K V q o (ix2 k r) = (dsc kf vf qf of k (512 + r) : ℝ) := by
  pointwise [dsT1]
  rw [pT1_apply hK hq]
  simp only [hV, ho, coe_sum_mul]
  exact (EReal.coe_mul _ _).symm

theorem dqT1_apply (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (512 + i) l : ℝ))
    (ho : ∀ (i : Fin 512) (l : Fin 128), o (ix2 i l) = (of (512 + i) l : ℝ))
    (a : Vec Ideal S1x1x512x128 .f32) (ha : ∀ j, a j = (0 : EReal)) (x y : Fin 1) (r : Fin 512) (l : Fin 128) :
    dqT1 K V q o a (ix4 x y r l) = ((∑ k ∈ Finset.range 2048, dsc kf vf qf of k (512 + r) * kf k l : ℝ) : EReal) := by
  pointwise [dqT1]
  simp only [dsT1_apply hK hV hq ho, hK, ha, coe_sum_mul]
  rw [zero_add, Fin.sum_univ_eq_sum_range (fun k => dsc kf vf qf of k (512 + r) * kf k l) 1024]
  refine congrArg (fun x : ℝ => (x : EReal)) (Finset.sum_subset (Finset.range_subset_range.2 (by omega)) fun k _ hk => ?_)
  rw [dsc_of_lt (by have := r.isLt; rw [Finset.mem_range] at hk; omega), zero_mul]

theorem dkT1_apply (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (512 + i) l : ℝ))
    (ho : ∀ (i : Fin 512) (l : Fin 128), o (ix2 i l) = (of (512 + i) l : ℝ))
    {a : FVec Ideal S2048x128 .f32} {af : ℕ → ℕ → ℝ} (ha : ∀ (i : Fin 2048) (l : Fin 128), a (ix2 i l) = (af i l : ℝ))
    (k : Fin 2048) (l : Fin 128) :
    dkT1 K V q o a (ix2 k l) = ((af k l + ∑ r ∈ Finset.range 512, dsc kf vf qf of k (512 + r) * qf (512 + r) l : ℝ) : EReal) := by
  rw [← Fin.sum_univ_eq_sum_range (fun r => dsc kf vf qf of k (512 + r) * qf (512 + r) l) 512]
  pointwise [dkT1]
  simp only [dsT1_apply hK hV hq ho, hq, ha, coe_sum_mul]
  split
  · exact (EReal.coe_add _ _).symm
  · rename_i hk
    rw [Finset.sum_eq_zero fun r _ => by rw [dsc_of_lt (by have := r.isLt; omega), zero_mul], add_zero,
      show 1024 + ((k : ℕ) - 1024) = k by omega]

theorem dvT1_apply (hK : ∀ (i : Fin 2048) (l : Fin 128), K (ix2 i l) = (kf i l : ℝ))
    (hq : ∀ (i : Fin 512) (l : Fin 128), q (ix2 i l) = (qf (512 + i) l : ℝ))
    (ho : ∀ (i : Fin 512) (l : Fin 128), o (ix2 i l) = (of (512 + i) l : ℝ))
    {a : FVec Ideal S2048x128 .f32} {af : ℕ → ℕ → ℝ} (ha : ∀ (i : Fin 2048) (l : Fin 128), a (ix2 i l) = (af i l : ℝ))
    (k : Fin 2048) (l : Fin 128) :
    dvT1 K q o a (ix2 k l) = ((af k l + ∑ r ∈ Finset.range 512, wt kf qf k (512 + r) * of (512 + r) l : ℝ) : EReal) := by
  rw [← Fin.sum_univ_eq_sum_range (fun r => wt kf qf k (512 + r) * of (512 + r) l) 512]
  pointwise [dvT1]
  simp only [pT1_apply hK hq, ho, ha, coe_sum_mul]
  split
  · exact (EReal.coe_add _ _).symm
  · rename_i hk
    rw [Finset.sum_eq_zero fun r _ => by rw [wt_of_lt (by have := r.isLt; omega), zero_mul], add_zero,
      show 1024 + ((k : ℕ) - 1024) = k by omega]

/-! ### Row tile 2: keys 0 … 1535, queries 1024 … 1535 -/

theorem pT2_apply (hK : ∀ (i : Fin 2048) (l : Fin 128), K (ix2 i l) = (kf i l : ℝ))
    (hq : ∀ (i : Fin 512) (l : Fin 128), q (ix2 i l) = (qf (1024 + i) l : ℝ)) (k : Fin 1536) (r : Fin 512) :
    pT2 K q (ix2 k r) = (wt kf qf k (1024 + r) : ℝ) := by
  pointwise [pT2]
  simp only [hK, hq, coe_sum_mul, mask_bot]
  rw [show IntOp.addi (BitVec.ofNat 32 (r : ℕ)) 1024#32 = BitVec.ofNat 32 (1024 + r) by
    simp only [IntOp.addi]; rw [← BitVec.ofNat_add, Nat.add_comm]]
  exact exp_select (a := k) (b := 1024 + r) (by have := k.isLt; omega) (by have := r.isLt; omega) _

theorem dsT2_apply (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (1024 + i) l : ℝ))
    (ho : ∀ (i : Fin 512) (l : Fin 128), o (ix2 i l) = (of (1024 + i) l : ℝ)) (k : Fin 1536) (r : Fin 512) :
    dsT2 K V q o (ix2 k r) = (dsc kf vf qf of k (1024 + r) : ℝ) := by
  pointwise [dsT2]
  rw [pT2_apply hK hq]
  simp only [hV, ho, coe_sum_mul]
  exact (EReal.coe_mul _ _).symm

theorem dqT2_apply (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (1024 + i) l : ℝ))
    (ho : ∀ (i : Fin 512) (l : Fin 128), o (ix2 i l) = (of (1024 + i) l : ℝ))
    (a : Vec Ideal S1x1x512x128 .f32) (ha : ∀ j, a j = (0 : EReal)) (x y : Fin 1) (r : Fin 512) (l : Fin 128) :
    dqT2 K V q o a (ix4 x y r l) = ((∑ k ∈ Finset.range 2048, dsc kf vf qf of k (1024 + r) * kf k l : ℝ) : EReal) := by
  pointwise [dqT2]
  simp only [dsT2_apply hK hV hq ho, hK, ha, coe_sum_mul]
  rw [zero_add, Fin.sum_univ_eq_sum_range (fun k => dsc kf vf qf of k (1024 + r) * kf k l) 1536]
  refine congrArg (fun x : ℝ => (x : EReal)) (Finset.sum_subset (Finset.range_subset_range.2 (by omega)) fun k _ hk => ?_)
  rw [dsc_of_lt (by have := r.isLt; rw [Finset.mem_range] at hk; omega), zero_mul]

theorem dkT2_apply (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (1024 + i) l : ℝ))
    (ho : ∀ (i : Fin 512) (l : Fin 128), o (ix2 i l) = (of (1024 + i) l : ℝ))
    {a : FVec Ideal S2048x128 .f32} {af : ℕ → ℕ → ℝ} (ha : ∀ (i : Fin 2048) (l : Fin 128), a (ix2 i l) = (af i l : ℝ))
    (k : Fin 2048) (l : Fin 128) :
    dkT2 K V q o a (ix2 k l) = ((af k l + ∑ r ∈ Finset.range 512, dsc kf vf qf of k (1024 + r) * qf (1024 + r) l : ℝ) : EReal) := by
  rw [← Fin.sum_univ_eq_sum_range (fun r => dsc kf vf qf of k (1024 + r) * qf (1024 + r) l) 512]
  pointwise [dkT2]
  simp only [dsT2_apply hK hV hq ho, hq, ha, coe_sum_mul]
  split
  · exact (EReal.coe_add _ _).symm
  · rename_i hk
    rw [Finset.sum_eq_zero fun r _ => by rw [dsc_of_lt (by have := r.isLt; omega), zero_mul], add_zero,
      show 1536 + ((k : ℕ) - 1536) = k by omega]

theorem dvT2_apply (hK : ∀ (i : Fin 2048) (l : Fin 128), K (ix2 i l) = (kf i l : ℝ))
    (hq : ∀ (i : Fin 512) (l : Fin 128), q (ix2 i l) = (qf (1024 + i) l : ℝ))
    (ho : ∀ (i : Fin 512) (l : Fin 128), o (ix2 i l) = (of (1024 + i) l : ℝ))
    {a : FVec Ideal S2048x128 .f32} {af : ℕ → ℕ → ℝ} (ha : ∀ (i : Fin 2048) (l : Fin 128), a (ix2 i l) = (af i l : ℝ))
    (k : Fin 2048) (l : Fin 128) :
    dvT2 K q o a (ix2 k l) = ((af k l + ∑ r ∈ Finset.range 512, wt kf qf k (1024 + r) * of (1024 + r) l : ℝ) : EReal) := by
  rw [← Fin.sum_univ_eq_sum_range (fun r => wt kf qf k (1024 + r) * of (1024 + r) l) 512]
  pointwise [dvT2]
  simp only [pT2_apply hK hq, ho, ha, coe_sum_mul]
  split
  · exact (EReal.coe_add _ _).symm
  · rename_i hk
    rw [Finset.sum_eq_zero fun r _ => by rw [wt_of_lt (by have := r.isLt; omega), zero_mul], add_zero,
      show 1536 + ((k : ℕ) - 1536) = k by omega]

/-! ### Row tile 3: keys 0 … 2047, queries 1536 … 2047 -/

theorem pT3_apply (hK : ∀ (i : Fin 2048) (l : Fin 128), K (ix2 i l) = (kf i l : ℝ))
    (hq : ∀ (i : Fin 512) (l : Fin 128), q (ix2 i l) = (qf (1536 + i) l : ℝ)) (k : Fin 2048) (r : Fin 512) :
    pT3 K q (ix2 k r) = (wt kf qf k (1536 + r) : ℝ) := by
  pointwise [pT3]
  simp only [hK, hq, coe_sum_mul, mask_bot]
  rw [show IntOp.addi (BitVec.ofNat 32 (r : ℕ)) 1536#32 = BitVec.ofNat 32 (1536 + r) by
    simp only [IntOp.addi]; rw [← BitVec.ofNat_add, Nat.add_comm]]
  exact exp_select (a := k) (b := 1536 + r) (by have := k.isLt; omega) (by have := r.isLt; omega) _

theorem dsT3_apply (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (1536 + i) l : ℝ))
    (ho : ∀ (i : Fin 512) (l : Fin 128), o (ix2 i l) = (of (1536 + i) l : ℝ)) (k : Fin 2048) (r : Fin 512) :
    dsT3 K V q o (ix2 k r) = (dsc kf vf qf of k (1536 + r) : ℝ) := by
  pointwise [dsT3]
  rw [pT3_apply hK hq]
  simp only [hV, ho, coe_sum_mul]
  exact (EReal.coe_mul _ _).symm

theorem dqT3_apply (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (1536 + i) l : ℝ))
    (ho : ∀ (i : Fin 512) (l : Fin 128), o (ix2 i l) = (of (1536 + i) l : ℝ))
    (a : Vec Ideal S1x1x512x128 .f32) (ha : ∀ j, a j = (0 : EReal)) (x y : Fin 1) (r : Fin 512) (l : Fin 128) :
    dqT3 K V q o a (ix4 x y r l) = ((∑ k ∈ Finset.range 2048, dsc kf vf qf of k (1536 + r) * kf k l : ℝ) : EReal) := by
  pointwise [dqT3]
  simp only [dsT3_apply hK hV hq ho, hK, ha, coe_sum_mul]
  rw [zero_add, Fin.sum_univ_eq_sum_range (fun k => dsc kf vf qf of k (1536 + r) * kf k l) 2048]

theorem dkT3_apply (hK : ∀ (i : Fin 2048) (l : Fin 128), K (ix2 i l) = (kf i l : ℝ))
    (hV : ∀ (i : Fin 2048) (l : Fin 128), V (ix2 i l) = (vf i l : ℝ))
    (hq : ∀ (i : Fin 512) (l : Fin 128), q (ix2 i l) = (qf (1536 + i) l : ℝ))
    (ho : ∀ (i : Fin 512) (l : Fin 128), o (ix2 i l) = (of (1536 + i) l : ℝ))
    {a : FVec Ideal S2048x128 .f32} {af : ℕ → ℕ → ℝ} (ha : ∀ (i : Fin 2048) (l : Fin 128), a (ix2 i l) = (af i l : ℝ))
    (k : Fin 2048) (l : Fin 128) :
    dkT3 K V q o a (ix2 k l) = ((af k l + ∑ r ∈ Finset.range 512, dsc kf vf qf of k (1536 + r) * qf (1536 + r) l : ℝ) : EReal) := by
  rw [← Fin.sum_univ_eq_sum_range (fun r => dsc kf vf qf of k (1536 + r) * qf (1536 + r) l) 512]
  pointwise [dkT3]
  simp only [dsT3_apply hK hV hq ho, hq, ha, coe_sum_mul]
  exact (EReal.coe_add _ _).symm

set_option maxHeartbeats 2000000 in
theorem dvT3_apply (hK : ∀ (i : Fin 2048) (l : Fin 128), K (ix2 i l) = (kf i l : ℝ))
    (hq : ∀ (i : Fin 512) (l : Fin 128), q (ix2 i l) = (qf (1536 + i) l : ℝ))
    (ho : ∀ (i : Fin 512) (l : Fin 128), o (ix2 i l) = (of (1536 + i) l : ℝ))
    {a : FVec Ideal S2048x128 .f32} {af : ℕ → ℕ → ℝ} (ha : ∀ (i : Fin 2048) (l : Fin 128), a (ix2 i l) = (af i l : ℝ))
    (k : Fin 2048) (l : Fin 128) :
    dvT3 K q o a (ix2 k l) = ((af k l + ∑ r ∈ Finset.range 512, wt kf qf k (1536 + r) * of (1536 + r) l : ℝ) : EReal) := by
  rw [← Fin.sum_univ_eq_sum_range (fun r => wt kf qf k (1536 + r) * of (1536 + r) l) 512]
  pointwise [dvT3]
  simp only [ho, ha]; rw [Finset.sum_congr rfl fun x _ => congrArg (· * _) (pT3_apply hK hq k x)]; rw [coe_sum_mul]
  exact (EReal.coe_add _ _).symm

end

/-- A sum over the rows, tile by tile. -/
theorem sum_tiles (f : ℕ → ℝ) :
    0 + ∑ r ∈ Finset.range 512, f (0 + r) + ∑ r ∈ Finset.range 512, f (512 + r) + ∑ r ∈ Finset.range 512, f (1024 + r)
      + ∑ r ∈ Finset.range 512, f (1536 + r) = ∑ r ∈ Finset.range 2048, f r := by
  rw [show (2048 : ℕ) = 1536 + 512 by norm_num, Finset.sum_range_add, show (1536 : ℕ) = 1024 + 512 by norm_num, Finset.sum_range_add,
    show (1024 : ℕ) = 512 + 512 by norm_num, Finset.sum_range_add]
  simp only [zero_add]

/-! ## The blocks -/

theorem hd_apply (x : Vec Ideal S1x4x2048x128 .bf16) (e : Fin 4) (r : Fin 2048) (l : Fin 128) : hd x e (ix2 r l) = x (ix4 0 e r l) := by
  have h : ∀ v : S1x1x2048x128.Idx → EReal, shapeCast S2048x128 v shapeCasts_S1x1x2048x128_S2048x128 (ix2 r l) = v (ix4 0 0 r l) := fun v => by pointwise
  refine (h (View.ld x (rh e))).trans (congrArg x (funext fun a => ?_))
  fin_cases a <;> exact Fin.ext (by simp [rh, Rect.unit, ix4])

theorem tl_apply (x : Vec Ideal S1x4x2048x128 .bf16) (e d : Fin 4) (r : Fin 512) (l : Fin 128) :
    tl x e d (ix2 r l) = x (ix4 0 e ⟨512 * d + r, by omega⟩ l) := by
  have h : ∀ v : S1x1x512x128.Idx → EReal, shapeCast S512x128 v shapeCasts_S1x1x512x128_S512x128 (ix2 r l) = v (ix4 0 0 r l) := fun v => by pointwise
  refine (h (View.ld x (rt e d))).trans (congrArg x (funext fun a => ?_))
  fin_cases a <;> exact Fin.ext (by simp [rt, Rect.unit, ix4])

section
variable {x0 x1 x2 x3 : Vec Ideal S1x4x2048x128 .bf16} {qf kf vf of : Fin 4 → ℕ → ℕ → ℝ}
  (h0 : ∀ (e : Fin 4) (i : Fin 2048) (l : Fin 128), x0 (ix4 0 e i l) = (qf e i l : ℝ))
  (h1 : ∀ (e : Fin 4) (i : Fin 2048) (l : Fin 128), x1 (ix4 0 e i l) = (kf e i l : ℝ))
  (h2 : ∀ (e : Fin 4) (i : Fin 2048) (l : Fin 128), x2 (ix4 0 e i l) = (vf e i l : ℝ))
  (h3 : ∀ (e : Fin 4) (i : Fin 2048) (l : Fin 128), x3 (ix4 0 e i l) = (of e i l : ℝ))
include h0 h1 h2 h3

theorem dqP_apply (e d : Fin 4) (x y : Fin 1) (r : Fin 512) (l : Fin 128) :
    dqP x0 x1 x2 x3 e d (ix4 x y r l)
      = ((∑ k ∈ Finset.range 2048, dsc (kf e) (vf e) (qf e) (of e) k (512 * d + r) * kf e k l : ℝ) : EReal) := by
  have hz : ∀ j, (z1 (F := Ideal)) j = (0 : EReal) := fun j => by simp [z1, Scalar.ofBits, Ideal.ofBits, Ideal.ieee]
  fin_cases d
  · exact dqT0_apply rfl (K := hd x1 e) (V := hd x2 e) (q := tl x0 e 0) (o := tl x3 e 0) (fun i l => (hd_apply x1 e i l).trans (h1 e i l)) (fun i l => (hd_apply x2 e i l).trans (h2 e i l))
      (fun i l => (tl_apply x0 e 0 i l).trans (h0 e _ l)) (fun i l => (tl_apply x3 e 0 i l).trans (h3 e _ l)) _ hz x y r l
  · exact dqT1_apply (K := hd x1 e) (V := hd x2 e) (q := tl x0 e 1) (o := tl x3 e 1) (fun i l => (hd_apply x1 e i l).trans (h1 e i l)) (fun i l => (hd_apply x2 e i l).trans (h2 e i l))
      (fun i l => (tl_apply x0 e 1 i l).trans (h0 e _ l)) (fun i l => (tl_apply x3 e 1 i l).trans (h3 e _ l)) _ hz x y r l
  · exact dqT2_apply (K := hd x1 e) (V := hd x2 e) (q := tl x0 e 2) (o := tl x3 e 2) (fun i l => (hd_apply x1 e i l).trans (h1 e i l)) (fun i l => (hd_apply x2 e i l).trans (h2 e i l))
      (fun i l => (tl_apply x0 e 2 i l).trans (h0 e _ l)) (fun i l => (tl_apply x3 e 2 i l).trans (h3 e _ l)) _ hz x y r l
  · exact dqT3_apply (K := hd x1 e) (V := hd x2 e) (q := tl x0 e 3) (o := tl x3 e 3) (fun i l => (hd_apply x1 e i l).trans (h1 e i l)) (fun i l => (hd_apply x2 e i l).trans (h2 e i l))
      (fun i l => (tl_apply x0 e 3 i l).trans (h0 e _ l)) (fun i l => (tl_apply x3 e 3 i l).trans (h3 e _ l)) _ hz x y r l

theorem dkH_apply (e : Fin 4) (k : Fin 2048) (l : Fin 128) :
    dkH x0 x1 x2 x3 e (ix2 k l) = ((∑ q ∈ Finset.range 2048, dsc (kf e) (vf e) (qf e) (of e) k q * qf e q l : ℝ) : EReal) := by
  have hz : ∀ (i : Fin 2048) (l : Fin 128), (z0 (F := Ideal)) (ix2 i l) = ((fun _ _ => 0 : ℕ → ℕ → ℝ) i l : ℝ) := fun i l => by
    show (Ideal.ofBits .f32 0 : EReal) = _
    simp [Ideal.ofBits, Ideal.ieee]
  have hK := fun i l => (hd_apply x1 e i l).trans (h1 e i l)
  have hV := fun i l => (hd_apply x2 e i l).trans (h2 e i l)
  have hq := fun d i l => (tl_apply x0 e d i l).trans (h0 e _ l)
  have ho := fun d i l => (tl_apply x3 e d i l).trans (h3 e _ l)
  unfold dkH
  have a0 := dkT0_apply rfl hK hV (hq 0) (ho 0) (af := fun k l => 0) hz
  have a1 := dkT1_apply hK hV (hq 1) (ho 1) (af := fun k l => 0 + ∑ r ∈ Finset.range 512, dsc (kf e) (vf e) (qf e) (of e) k (0 + r) * qf e (0 + r) l) a0
  have a2 := dkT2_apply hK hV (hq 2) (ho 2) (af := fun k l => 0 + ∑ r ∈ Finset.range 512, dsc (kf e) (vf e) (qf e) (of e) k (0 + r) * qf e (0 + r) l + ∑ r ∈ Finset.range 512, dsc (kf e) (vf e) (qf e) (of e) k (512 + r) * qf e (512 + r) l) a1
  have a3 := dkT3_apply hK hV (hq 3) (ho 3) (af := fun k l => 0 + ∑ r ∈ Finset.range 512, dsc (kf e) (vf e) (qf e) (of e) k (0 + r) * qf e (0 + r) l + ∑ r ∈ Finset.range 512, dsc (kf e) (vf e) (qf e) (of e) k (512 + r) * qf e (512 + r) l + ∑ r ∈ Finset.range 512, dsc (kf e) (vf e) (qf e) (of e) k (1024 + r) * qf e (1024 + r) l) a2
  rw [a3 k l]
  exact congrArg _ (sum_tiles fun q => dsc (kf e) (vf e) (qf e) (of e) k q * qf e q l)

theorem dvH_apply (e : Fin 4) (k : Fin 2048) (l : Fin 128) :
    dvH x0 x1 x2 x3 e (ix2 k l) = ((∑ q ∈ Finset.range 2048, wt (kf e) (qf e) k q * of e q l : ℝ) : EReal) := by
  have hz : ∀ (i : Fin 2048) (l : Fin 128), (z0 (F := Ideal)) (ix2 i l) = ((fun _ _ => 0 : ℕ → ℕ → ℝ) i l : ℝ) := fun i l => by
    show (Ideal.ofBits .f32 0 : EReal) = _
    simp [Ideal.ofBits, Ideal.ieee]
  have hK := fun i l => (hd_apply x1 e i l).trans (h1 e i l)
  have hq := fun d i l => (tl_apply x0 e d i l).trans (h0 e _ l)
  have ho := fun d i l => (tl_apply x3 e d i l).trans (h3 e _ l)
  unfold dvH
  have a0 := dvT0_apply rfl hK (hq 0) (ho 0) (af := fun k l => 0) hz
  have a1 := dvT1_apply hK (hq 1) (ho 1) (af := fun k l => 0 + ∑ r ∈ Finset.range 512, wt (kf e) (qf e) k (0 + r) * of e (0 + r) l) a0
  have a2 := dvT2_apply hK (hq 2) (ho 2) (af := fun k l => 0 + ∑ r ∈ Finset.range 512, wt (kf e) (qf e) k (0 + r) * of e (0 + r) l + ∑ r ∈ Finset.range 512, wt (kf e) (qf e) k (512 + r) * of e (512 + r) l) a1
  have a3 := dvT3_apply hK (hq 3) (ho 3) (af := fun k l => 0 + ∑ r ∈ Finset.range 512, wt (kf e) (qf e) k (0 + r) * of e (0 + r) l + ∑ r ∈ Finset.range 512, wt (kf e) (qf e) k (512 + r) * of e (512 + r) l + ∑ r ∈ Finset.range 512, wt (kf e) (qf e) k (1024 + r) * of e (1024 + r) l) a2
  rw [a3 k l]
  exact congrArg _ (sum_tiles fun q => wt (kf e) (qf e) k q * of e q l)

end

end Cert.KernelIdeal.Gen

end
-- ==== Proof.Blocks.lean ====
module

public import proofs.«01_k».proof.Proof.Body
public import proofs.«01_k».proof.Proof.Tiles

/-! The attention kernel's three output blocks over the reals, entry by entry. -/

@[expose] public section

set_option maxRecDepth 16384

noncomputable section

namespace Cert.KernelIdeal.Gen

open Idealize.ShloMosaic Idealize.ShloMosaic.TcCoe Attention

theorem emb_tile (e d : Fin 4) (x y : Fin 1) (r : Fin 512) (l : Fin 128) :
    (rt e d).emb (ix4 x y r l) = (ix4 0 e ⟨512 * d + r, by omega⟩ l : S1x4x2048x128.Idx) := by
  funext a
  fin_cases a <;> exact Fin.ext (by simp [rt, Rect.unit, ix4, Rect.emb, LoadRect.idx])

theorem emb_head (e : Fin 4) (x y : Fin 1) (r : Fin 2048) (l : Fin 128) :
    (rh e).emb (ix4 x y r l) = (ix4 0 e r l : S1x4x2048x128.Idx) := by
  funext a
  fin_cases a <;> exact Fin.ext (by simp [rh, Rect.unit, ix4, Rect.emb, LoadRect.idx])

/-- Stores read back at an entry some of the later ones cover, where these store `G`'s values. -/
theorem canon_append {S : Shape} {e : EltTy} (G : S.Idx → Elt Ideal e) (T : List (View.Piece (Elt Ideal) S e)) (y : S.Idx) :
    ∀ L : List (View.Piece (Elt Ideal) S e), (∀ p ∈ L, ∀ x : p.1.shape.Idx, p.2 x = G (p.1.emb x)) → (∃ p ∈ L, y ∈ p.1.set) →
      View.canon (L ++ T) y = G y
  | [], _, h => by obtain ⟨p, hp, _⟩ := h; simp at hp
  | p :: L, hL, h => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_append G T y L (fun p hp => hL p (by simp [hp])) ?_
      obtain ⟨p', hp, hy⟩ := h
      rcases List.mem_cons.mp hp with rfl | hp
      · exact absurd hy hm
      · exact ⟨p', hp, hy⟩

theorem dqL_eq (x0 x1 x2 x3 : Vec Ideal S1x4x2048x128 .bf16) :
    ∀ l : List (Fin 4 × Fin 4), dqL x0 x1 x2 x3 l = l.map (fun p => ⟨rt p.1 p.2, dqP x0 x1 x2 x3 p.1 p.2⟩) ++ [⟨rw0, z4 (F := Ideal)⟩]
  | [] => rfl
  | (e, d) :: l => by rw [dqL, dqL_eq x0 x1 x2 x3 l, List.map_cons, List.cons_append]

/-- The tiles' stores read back: where some tile of the list covers an entry and every tile stores `G`'s values. -/
theorem canon_dqL {x0 x1 x2 x3 : Vec Ideal S1x4x2048x128 .bf16} {G : S1x4x2048x128.Idx → EReal}
    (hG : ∀ (e d : Fin 4) (x : (rt e d).shape.Idx), dqP x0 x1 x2 x3 e d x = G ((rt e d).emb x))
    (l : List (Fin 4 × Fin 4)) (y : S1x4x2048x128.Idx) (h : ∃ p ∈ l, y ∈ (rt p.1 p.2).set) : View.canon (Val := Elt Ideal) (dqL x0 x1 x2 x3 l) y = G y := by
  rw [dqL_eq]
  refine canon_append (e := .f32) G _ y _ (fun p hp => ?_) ?_
  · obtain ⟨⟨e, d⟩, _, rfl⟩ := List.mem_map.mp hp
    exact hG e d
  · obtain ⟨p, hp, hy⟩ := h
    exact ⟨_, List.mem_map_of_mem hp, hy⟩

theorem mem_tiles : ∀ e d : Fin 4, (e, d) ∈ tiles := by decide

theorem cover_tiles (y : S1x4x2048x128.Idx) : ∃ p ∈ tiles, y ∈ (rt p.1 p.2).set := by
  have h0 : (y 0 : ℕ) < 1 := (y 0).isLt
  have h1 : (y 1 : ℕ) < 4 := (y 1).isLt
  have h2 : (y 2 : ℕ) < 2048 := (y 2).isLt
  have h3 : (y 3 : ℕ) < 128 := (y 3).isLt
  refine ⟨(⟨y 1, h1⟩, ⟨(y 2 : ℕ) / 512, by omega⟩), mem_tiles _ _, Rect.mem_set_unit.mpr fun a => ?_⟩
  fin_cases a <;> simp [S1x1x512x128] <;> omega

theorem heads_apply {G : S1x4x2048x128.Idx → EReal} {p : Fin 4 → Vec Ideal S1x1x2048x128 .f32}
    (hp : ∀ (e : Fin 4) (x : (rh e).shape.Idx), p e x = G ((rh e).emb x)) (y : S1x4x2048x128.Idx) :
    View.canon (Val := Elt Ideal) (e := .f32) [⟨rh 3, p 3⟩, ⟨rh 2, p 2⟩, ⟨rh 1, p 1⟩, ⟨rh 0, p 0⟩] y = G y := by
  refine View.canon_apply_of_pieces (Val := Elt Ideal) (e := .f32) G _ (fun q hq => ?_) y (cover_heads _ _ _ _ _)
  simp only [List.mem_cons, List.mem_nil_iff, or_false] at hq
  rcases hq with rfl | rfl | rfl | rfl
  · exact hp 3
  · exact hp 2
  · exact hp 1
  · exact hp 0

theorem head_piece {G : S1x4x2048x128.Idx → EReal} (p : Fin 4 → FVec Ideal S2048x128 .f32)
    (hp : ∀ (e : Fin 4) (k : Fin 2048) (l : Fin 128), p e (ix2 k l) = G (ix4 0 e k l)) (e : Fin 4) (x : (rh e).shape.Idx) :
    shapeCast S1x1x2048x128 (p e) shapeCasts_S2048x128_S1x1x2048x128 x = G ((rh e).emb x) := by
  obtain ⟨a, b, r, l, rfl⟩ : ∃ (a b : Fin 1) (r : Fin 2048) (l : Fin 128), x = ix4 a b r l := ⟨_, _, _, _, eq_ix4 x⟩
  rw [emb_head, ← hp]
  have h : ∀ v : S2048x128.Idx → EReal, shapeCast S1x1x2048x128 v shapeCasts_S2048x128_S1x1x2048x128 (ix4 a b r l) = v (ix2 r l) := fun v => by pointwise
  exact h _

section
variable {x0 x1 x2 x3 : Vec Ideal S1x4x2048x128 .bf16} {qf kf vf of : Fin 4 → ℕ → ℕ → ℝ}
  (h0 : ∀ (e : Fin 4) (i : Fin 2048) (l : Fin 128), x0 (ix4 0 e i l) = (qf e i l : ℝ))
  (h1 : ∀ (e : Fin 4) (i : Fin 2048) (l : Fin 128), x1 (ix4 0 e i l) = (kf e i l : ℝ))
  (h2 : ∀ (e : Fin 4) (i : Fin 2048) (l : Fin 128), x2 (ix4 0 e i l) = (vf e i l : ℝ))
  (h3 : ∀ (e : Fin 4) (i : Fin 2048) (l : Fin 128), x3 (ix4 0 e i l) = (of e i l : ℝ))
include h0 h1 h2 h3

theorem out4_apply (e : Fin 4) (i : Fin 2048) (l : Fin 128) :
    out0_4 x0 x1 x2 x3 (ix4 0 e i l) = ((∑ k ∈ Finset.range 2048, dsc (kf e) (vf e) (qf e) (of e) k i * kf e k l : ℝ) : EReal) := by
  refine canon_dqL (G := fun y => ((∑ k ∈ Finset.range 2048, dsc (kf (y 1)) (vf (y 1)) (qf (y 1)) (of (y 1)) k (y 2 : ℕ) * kf (y 1) k (y 3 : ℕ) : ℝ) : EReal))
    (fun e d x => ?_) tiles _ (cover_tiles _)
  obtain ⟨a, b, r, l, rfl⟩ : ∃ (a b : Fin 1) (r : Fin 512) (l : Fin 128), x = ix4 a b r l := ⟨_, _, _, _, eq_ix4 x⟩
  rw [emb_tile]
  exact dqP_apply h0 h1 h2 h3 e d a b r l

theorem out5_apply (e : Fin 4) (i : Fin 2048) (l : Fin 128) :
    out0_5 x0 x1 x2 x3 (ix4 0 e i l) = ((∑ q ∈ Finset.range 2048, dsc (kf e) (vf e) (qf e) (of e) i q * qf e q l : ℝ) : EReal) := by
  let G : S1x4x2048x128.Idx → EReal := fun y => ((∑ q ∈ Finset.range 2048, dsc (kf (y 1)) (vf (y 1)) (qf (y 1)) (of (y 1)) (y 2 : ℕ) q * qf (y 1) q (y 3 : ℕ) : ℝ) : EReal)
  have hp : ∀ (e : Fin 4) (x : (rh e).shape.Idx), shapeCast S1x1x2048x128 (dkH x0 x1 x2 x3 e) shapeCasts_S2048x128_S1x1x2048x128 x = G ((rh e).emb x) :=
    head_piece (dkH x0 x1 x2 x3) fun e k l => dkH_apply h0 h1 h2 h3 e k l
  exact heads_apply (G := G) (p := fun e => shapeCast S1x1x2048x128 (dkH x0 x1 x2 x3 e) shapeCasts_S2048x128_S1x1x2048x128) hp (ix4 0 e i l)

theorem out6_apply (e : Fin 4) (i : Fin 2048) (l : Fin 128) :
    out0_6 x0 x1 x2 x3 (ix4 0 e i l) = ((∑ q ∈ Finset.range 2048, wt (kf e) (qf e) i q * of e q l : ℝ) : EReal) := by
  let G : S1x4x2048x128.Idx → EReal := fun y => ((∑ q ∈ Finset.range 2048, wt (kf (y 1)) (qf (y 1)) (y 2 : ℕ) q * of (y 1) q (y 3 : ℕ) : ℝ) : EReal)
  have hp : ∀ (e : Fin 4) (x : (rh e).shape.Idx), shapeCast S1x1x2048x128 (dvH x0 x1 x2 x3 e) shapeCasts_S2048x128_S1x1x2048x128 x = G ((rh e).emb x) :=
    head_piece (dvH x0 x1 x2 x3) fun e k l => dvH_apply h0 h1 h2 h3 e k l
  exact heads_apply (G := G) (p := fun e => shapeCast S1x1x2048x128 (dvH x0 x1 x2 x3 e) shapeCasts_S2048x128_S1x1x2048x128) hp (ix4 0 e i l)

end

end Cert.KernelIdeal.Gen

end
-- ==== Proof.Arrays.lean ====
module

public import proofs.«01_k».proof.Proof.Run
public import proofs.«01_k».proof.Proof.Blocks
public import Idealize.ShloMosaic.Lib.Pipeline.ValueKit.Geometry

/-! The three arrays the kernel leaves, from the blocks each grid point writes: point `(b, g)` covers sequence `b` and the
four heads from `4 g`. -/

@[expose] public section

noncomputable section

namespace Cert.KernelIdeal.Value

open Cert.KernelIdeal Cert.KernelIdeal.Gen Attention
open Idealize.ShloMosaic Idealize.ShloMosaic.TcCoe
open Idealize.ShloMosaic.Pipeline (Dat Cfg Window)

/-- The sequence and the first head of a grid point. -/
theorem ix_0 : ∀ t : Fin cfg0.N, win0_0.index t = ![(grid0.coords t 0).val, (grid0.coords t 1).val, 0, 0] := (by decide +kernel : ∀ t : Fin grid0.N, _)
theorem ix_1 : ∀ t : Fin cfg0.N, win0_1.index t = ![(grid0.coords t 0).val, (grid0.coords t 1).val, 0, 0] := (by decide +kernel : ∀ t : Fin grid0.N, _)
theorem ix_2 : ∀ t : Fin cfg0.N, win0_2.index t = ![(grid0.coords t 0).val, (grid0.coords t 1).val, 0, 0] := (by decide +kernel : ∀ t : Fin grid0.N, _)
theorem ix_3 : ∀ t : Fin cfg0.N, win0_3.index t = ![(grid0.coords t 0).val, (grid0.coords t 1).val, 0, 0] := (by decide +kernel : ∀ t : Fin grid0.N, _)
theorem ix_4 : ∀ t : Fin cfg0.N, win0_4.index t = ![(grid0.coords t 0).val, (grid0.coords t 1).val, 0, 0] := (by decide +kernel : ∀ t : Fin grid0.N, _)
theorem ix_5 : ∀ t : Fin cfg0.N, win0_5.index t = ![(grid0.coords t 0).val, (grid0.coords t 1).val, 0, 0] := (by decide +kernel : ∀ t : Fin grid0.N, _)
theorem ix_6 : ∀ t : Fin cfg0.N, win0_6.index t = ![(grid0.coords t 0).val, (grid0.coords t 1).val, 0, 0] := (by decide +kernel : ∀ t : Fin grid0.N, _)

theorem coord0_lt (t : Fin cfg0.N) : (grid0.coords t 0).val < 2 := (grid0.coords t 0).isLt
theorem coord1_lt (t : Fin cfg0.N) : (grid0.coords t 1).val < 4 := (grid0.coords t 1).isLt
def seqOf (t : Fin cfg0.N) : Fin 2 := ⟨(grid0.coords t 0).val, coord0_lt t⟩
def headOf (t : Fin cfg0.N) (e : Fin 4) : Fin 16 := ⟨(grid0.coords t 1).val * 4 + e.val, by have := coord1_lt t; omega⟩

variable (m : (ℓ : Loc nD τ sig) → Buf (Elt Ideal) ℓ) (c : Dev nD)

theorem iblk0_apply (t : Fin cfg0.N) (e : Fin 4) (i : Fin 2048) (l : Fin 128) :
    (iblk m c 0 t : Vec Ideal S1x4x2048x128 .bf16) (ix4 0 e i l) = (V m c main_v64 : Vec Ideal S2x16x2048x128 .bf16) (ix4 (seqOf t) (headOf t e) i l) := by
  blk_simp [iblk]
  congr 1
  funext a
  fin_cases a <;> refine Fin.ext ?_ <;> blk_simp [ix_0] <;> simp [ix4, seqOf, headOf]

theorem iblk1_apply (t : Fin cfg0.N) (e : Fin 4) (i : Fin 2048) (l : Fin 128) :
    (iblk m c 1 t : Vec Ideal S1x4x2048x128 .bf16) (ix4 0 e i l) = (V m c main_v82 : Vec Ideal S2x16x2048x128 .bf16) (ix4 (seqOf t) (headOf t e) i l) := by
  blk_simp [iblk]
  congr 1
  funext a
  fin_cases a <;> refine Fin.ext ?_ <;> blk_simp [ix_1] <;> simp [ix4, seqOf, headOf]

theorem iblk2_apply (t : Fin cfg0.N) (e : Fin 4) (i : Fin 2048) (l : Fin 128) :
    (iblk m c 2 t : Vec Ideal S1x4x2048x128 .bf16) (ix4 0 e i l) = (V m c main_v87 : Vec Ideal S2x16x2048x128 .bf16) (ix4 (seqOf t) (headOf t e) i l) := by
  blk_simp [iblk]
  congr 1
  funext a
  fin_cases a <;> refine Fin.ext ?_ <;> blk_simp [ix_2] <;> simp [ix4, seqOf, headOf]

theorem iblk3_apply (t : Fin cfg0.N) (e : Fin 4) (i : Fin 2048) (l : Fin 128) :
    (iblk m c 3 t : Vec Ideal S1x4x2048x128 .bf16) (ix4 0 e i l) = (V m c main_v101 : Vec Ideal S2x16x2048x128 .bf16) (ix4 (seqOf t) (headOf t e) i l) := by
  blk_simp [iblk]
  congr 1
  funext a
  fin_cases a <;> refine Fin.ext ?_ <;> blk_simp [ix_3] <;> simp [ix4, seqOf, headOf]

section
variable {m c} {qf kf vf of : Fin 2 → Fin 16 → ℕ → ℕ → ℝ}
  (h0 : ∀ b h (i : Fin 2048) (l : Fin 128), (V m c main_v64 : FVec Ideal S2x16x2048x128 .bf16) (ix4 b h i l) = ((qf b h i l : ℝ) : EReal))
  (h1 : ∀ b h (i : Fin 2048) (l : Fin 128), (V m c main_v82 : FVec Ideal S2x16x2048x128 .bf16) (ix4 b h i l) = ((kf b h i l : ℝ) : EReal))
  (h2 : ∀ b h (i : Fin 2048) (l : Fin 128), (V m c main_v87 : FVec Ideal S2x16x2048x128 .bf16) (ix4 b h i l) = ((vf b h i l : ℝ) : EReal))
  (h3 : ∀ b h (i : Fin 2048) (l : Fin 128), (V m c main_v101 : FVec Ideal S2x16x2048x128 .bf16) (ix4 b h i l) = ((of b h i l : ℝ) : EReal))
include h0 h1 h2 h3

/-- The array of an output: one function of sequence, head, row and lane. -/
def grid4 (f : Fin 2 → Fin 16 → ℕ → ℕ → ℝ) : FVec Ideal S2x16x2048x128 .f32 := fun j => ((f (j 0) (j 1) (j 2 : ℕ) (j 3 : ℕ) : ℝ) : EReal)

theorem arr4 : (dats m 0 c).arrAt 4 cfg0.N
    = grid4 fun b h i l => ∑ k ∈ Finset.range 2048, dsc (kf b h) (vf b h) (qf b h) (of b h) k i * kf b h k l := by
  refine (dats m 0 c).arrAt_eq_of_covers 4 _ (by decide +kernel) fun t hf y => ?_
  obtain ⟨a, e, i, l, rfl⟩ : ∃ (a : Fin 1) (e : Fin 4) (i : Fin 2048) (l : Fin 128), y = ix4 a e i l := ⟨_, _, _, _, eq_ix4 y⟩
  obtain rfl : a = 0 := Subsingleton.elim _ _
  have hj : ((cfg0.win 4).blk t).view.emb (ix4 0 e i l) = (ix4 (seqOf t) (headOf t e) i l : S2x16x2048x128.Idx) := by
    funext a
    fin_cases a <;> refine Fin.ext ?_ <;> blk_simp [ix_4] <;> simp [ix4, seqOf, headOf]
  rw [hj]
  blk_simp
  rw [after0_4]
  exact out4_apply (fun e i l => (iblk0_apply m c t e i l).trans (h0 _ _ i l)) (fun e i l => (iblk1_apply m c t e i l).trans (h1 _ _ i l))
    (fun e i l => (iblk2_apply m c t e i l).trans (h2 _ _ i l)) (fun e i l => (iblk3_apply m c t e i l).trans (h3 _ _ i l)) e i l

theorem arr5 : (dats m 0 c).arrAt 5 cfg0.N
    = grid4 fun b h i l => ∑ q ∈ Finset.range 2048, dsc (kf b h) (vf b h) (qf b h) (of b h) i q * qf b h q l := by
  refine (dats m 0 c).arrAt_eq_of_covers 5 _ (by decide +kernel) fun t hf y => ?_
  obtain ⟨a, e, i, l, rfl⟩ : ∃ (a : Fin 1) (e : Fin 4) (i : Fin 2048) (l : Fin 128), y = ix4 a e i l := ⟨_, _, _, _, eq_ix4 y⟩
  obtain rfl : a = 0 := Subsingleton.elim _ _
  have hj : ((cfg0.win 5).blk t).view.emb (ix4 0 e i l) = (ix4 (seqOf t) (headOf t e) i l : S2x16x2048x128.Idx) := by
    funext a
    fin_cases a <;> refine Fin.ext ?_ <;> blk_simp [ix_5] <;> simp [ix4, seqOf, headOf]
  rw [hj]
  blk_simp
  rw [after0_5]
  exact out5_apply (fun e i l => (iblk0_apply m c t e i l).trans (h0 _ _ i l)) (fun e i l => (iblk1_apply m c t e i l).trans (h1 _ _ i l))
    (fun e i l => (iblk2_apply m c t e i l).trans (h2 _ _ i l)) (fun e i l => (iblk3_apply m c t e i l).trans (h3 _ _ i l)) e i l

theorem arr6 : (dats m 0 c).arrAt 6 cfg0.N
    = grid4 fun b h i l => ∑ q ∈ Finset.range 2048, wt (kf b h) (qf b h) i q * of b h q l := by
  refine (dats m 0 c).arrAt_eq_of_covers 6 _ (by decide +kernel) fun t hf y => ?_
  obtain ⟨a, e, i, l, rfl⟩ : ∃ (a : Fin 1) (e : Fin 4) (i : Fin 2048) (l : Fin 128), y = ix4 a e i l := ⟨_, _, _, _, eq_ix4 y⟩
  obtain rfl : a = 0 := Subsingleton.elim _ _
  have hj : ((cfg0.win 6).blk t).view.emb (ix4 0 e i l) = (ix4 (seqOf t) (headOf t e) i l : S2x16x2048x128.Idx) := by
    funext a
    fin_cases a <;> refine Fin.ext ?_ <;> blk_simp [ix_6] <;> simp [ix4, seqOf, headOf]
  rw [hj]
  blk_simp
  rw [after0_6]
  exact out6_apply (fun e i l => (iblk0_apply m c t e i l).trans (h0 _ _ i l)) (fun e i l => (iblk1_apply m c t e i l).trans (h1 _ _ i l))
    (fun e i l => (iblk2_apply m c t e i l).trans (h2 _ _ i l)) (fun e i l => (iblk3_apply m c t e i l).trans (h3 _ _ i l)) e i l

end

end Cert.KernelIdeal.Value
-- ==== Proof.Host.lean ====
module

public import proofs.«01_k».proof.Proof.Gen.KernelIdeal.Frame

/-! What the host lines in front of the kernel leave in its four operands.

    `hLogits` are the masked scores, `hMax`, `hEx`, `hSum` and `hProb` the parts of their softmax, `hLse` its row
    logarithms, `hNd` the rows' negated products of output and cotangent. An operand is 64 data lanes, then columns,
    each of three lanes: the number and what two conversions to the shorter type and back leave of it. -/

@[expose] public section

set_option maxRecDepth 65536

noncomputable section

namespace Cert.KernelIdeal.Gen

open Idealize.ShloMosaic Idealize.ShloMosaic.TcCoe

variable {F : FTy → Type} [FloatOps F] [Named F]

/-- The mask: key position at most query position. -/
def hMask : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The decay sums, heads before rows. -/
def hDecay (c : FVec F S2x2048x16 .f32) : FVec F S2x16x2048 .f32 := transpose S2x16x2048 [0, 2, 1] c transposes_S2x2048x16_S2x16x2048_0_2_1

def hScore (q k : FVec F S2x2048x16x64 .f32) (d : FVec F S2x16x2048 .f32) : FVec F S2x16x2048x2048 .f32 :=
  addf (mulf (Host.dotGeneral dot_S2x2048x16x64_S2x2048x16x64_S2x16x2048x2048_3_3_1_1_02_02 none q k)
      (broadcastInDim S2x16x2048x2048 ![] bcast_S_S2x16x2048x2048 (constant S_ .f32 0x3E000000#32)))
    (subf (broadcastInDim S2x16x2048x2048 ![0, 1, 2, 3] bcast_S2x16x2048x1_S2x16x2048x2048_0_1_2_3 (broadcastInDim S2x16x2048x1 ![0, 1, 2] bcast_S2x16x2048_S2x16x2048x1_0_1_2 d))
      (broadcastInDim S2x16x2048x2048 ![0, 1, 2, 3] bcast_S2x16x1x2048_S2x16x2048x2048_0_1_2_3 (broadcastInDim S2x16x1x2048 ![0, 1, 3] bcast_S2x16x2048_S2x16x1x2048_0_1_3 d)))

def hLogits (q k : FVec F S2x2048x16x64 .f32) (d : FVec F S2x16x2048 .f32) : FVec F S2x16x2048x2048 .f32 :=
  select (broadcastInDim S2x16x2048x2048 ![2, 3] bcast_S2048x2048_S2x16x2048x2048_2_3 hMask) (hScore q k d)
    (broadcastInDim S2x16x2048x2048 ![] bcast_S_S2x16x2048x2048 (constant S_ .f32 0xFF800000#32))

def hMax (z : FVec F S2x16x2048x2048 .f32) : FVec F S2x16x2048 .f32 :=
  Host.reduce FloatOps.maximumf z (constant S_ .f32 0xFF800000#32) reducesTo_S2x16x2048x2048_S2x16x2048_d3 h_S_
def colOf (x : FVec F S2x16x2048 .f32) : FVec F S2x16x2048x1 .f32 := broadcastInDim S2x16x2048x1 ![0, 1, 2] bcast_S2x16x2048_S2x16x2048x1_0_1_2 x
def spread (x : FVec F S2x16x2048x1 .f32) : FVec F S2x16x2048x2048 .f32 := broadcastInDim S2x16x2048x2048 ![0, 1, 2, 3] bcast_S2x16x2048x1_S2x16x2048x2048_0_1_2_3 x
def hEx (z : FVec F S2x16x2048x2048 .f32) : FVec F S2x16x2048x2048 .f32 := Host.exp (subf z (spread (colOf (hMax z))))
def hSum (z : FVec F S2x16x2048x2048 .f32) : FVec F S2x16x2048 .f32 :=
  Host.reduceAdd (hEx z) (constant S_ .f32 0x00000000#32) reducesTo_S2x16x2048x2048_S2x16x2048_d3 h_S_
def hProb (z : FVec F S2x16x2048x2048 .f32) : FVec F S2x16x2048x2048 .f32 := Host.divf (hEx z) (spread (colOf (hSum z)))
def hOut (z : FVec F S2x16x2048x2048 .f32) (v : FVec F S2x2048x16x64 .f32) : FVec F S2x16x2048x64 .f32 :=
  Host.dotGeneral dot_S2x16x2048x2048_S2x2048x16x64_S2x16x2048x64_3_1_2_3_01_02 none (hProb z) v
def hLse (z : FVec F S2x16x2048x2048 .f32) : FVec F S2x16x2048x1 .f32 := addf (colOf (hMax z)) (Host.log (colOf (hSum z)))
/-- Heads before rows. -/
def heads (x : FVec F S2x2048x16x64 .f32) : FVec F S2x16x2048x64 .f32 := transpose S2x16x2048x64 [0, 2, 1, 3] x transposes_S2x2048x16x64_S2x16x2048x64_0_2_1_3
def hNd (z : FVec F S2x16x2048x2048 .f32) (v ct : FVec F S2x2048x16x64 .f32) : FVec F S2x16x2048x1 .f32 :=
  Host.negf (colOf (Host.reduceAdd (mulf (heads ct) (hOut z v)) (constant S_ .f32 0x00000000#32) reducesTo_S2x16x2048x64_S2x16x2048_d3 h_S_))

/-- What a conversion to the shorter type and back leaves of a column. -/
def rest (x : FVec F S2x16x2048x1 .f32) : FVec F S2x16x2048x1 .f32 := subf x (extf .f32 (truncf .bf16 x bitsLt_bf16_f32) bitsLt_bf16_f32)
def kept (x : FVec F S2x16x2048x1 .f32) : FVec F S2x16x2048x1 .f32 := extf .f32 (truncf .bf16 x bitsLt_bf16_f32) bitsLt_bf16_f32
/-- The three lanes of a column. -/
def three (x : FVec F S2x16x2048x1 .f32) : FVec F S2x16x2048x3 .f32 :=
  concatenate S2x16x2048x3 3 [⟨S2x16x2048x1, kept x⟩, ⟨S2x16x2048x1, kept (rest x)⟩, ⟨S2x16x2048x1, kept (rest (rest x))⟩] concatenates_S2x16x2048x1_S2x16x2048x1_S2x16x2048x1_S2x16x2048x3_d3
def ones3 : FVec F S2x16x2048x3 .f32 := broadcastInDim S2x16x2048x3 ![] bcast_S_S2x16x2048x3 (constant S_ .f32 0x3F800000#32)

def row5 (x : FVec F S2x16x2048x64 .f32) (a b c : FVec F S2x16x2048x3 .f32) : FVec F S2x16x2048x128 .bf16 :=
  truncf .bf16 (concatenate S2x16x2048x128 3 [⟨S2x16x2048x64, x⟩, ⟨S2x16x2048x3, a⟩, ⟨S2x16x2048x3, b⟩, ⟨S2x16x2048x3, c⟩,
    ⟨S2x16x2048x55, broadcastInDim S2x16x2048x55 ![] bcast_S_S2x16x2048x55 (constant S_ .f32 0x00000000#32)⟩]
    concatenates_S2x16x2048x64_S2x16x2048x3_S2x16x2048x3_S2x16x2048x3_S2x16x2048x55_S2x16x2048x128_d3) bitsLt_bf16_f32
def row3 (x : FVec F S2x16x2048x64 .f32) (a : FVec F S2x16x2048x3 .f32) : FVec F S2x16x2048x128 .bf16 :=
  truncf .bf16 (concatenate S2x16x2048x128 3 [⟨S2x16x2048x64, x⟩, ⟨S2x16x2048x3, a⟩,
    ⟨S2x16x2048x61, broadcastInDim S2x16x2048x61 ![] bcast_S_S2x16x2048x61 (constant S_ .f32 0x00000000#32)⟩]
    concatenates_S2x16x2048x64_S2x16x2048x3_S2x16x2048x61_S2x16x2048x128_d3) bitsLt_bf16_f32

/-- The four operands. -/
def opQ (z : FVec F S2x16x2048x2048 .f32) (d : FVec F S2x16x2048 .f32) (q : FVec F S2x2048x16x64 .f32) : FVec F S2x16x2048x128 .bf16 :=
  row5 (mulf (heads q) (broadcastInDim S2x16x2048x64 ![] bcast_S_S2x16x2048x64 (constant S_ .f32 0x3E000000#32))) (three (colOf d)) ones3 (three (Host.negf (hLse z)))
def opK (d : FVec F S2x16x2048 .f32) (k : FVec F S2x2048x16x64 .f32) : FVec F S2x16x2048x128 .bf16 :=
  row5 (heads k) ones3 (three (Host.negf (colOf d))) ones3
def opV (v : FVec F S2x2048x16x64 .f32) : FVec F S2x16x2048x128 .bf16 := row3 (heads v) ones3
def opT (z : FVec F S2x16x2048x2048 .f32) (v ct : FVec F S2x2048x16x64 .f32) : FVec F S2x16x2048x128 .bf16 := row3 (heads ct) (three (hNd z v ct))

variable (v : Valuation τ sig (Elt F))

/-! ## The lines up to the masked scores -/

theorem A_v16 : StableHlo.after hostOps0_1 (StableHlo.after hostOps0 v) (Proc.devRef .tc main_v16)
    = hLogits (v (Proc.devRef .tc main_arg0)) (v (Proc.devRef .tc main_arg1)) (hDecay (v (Proc.devRef .tc main_arg3))) := by
  simp only [hostOps0, hostOps0_1, StableHlo.TRef.nullary, StableHlo.TRef.ternary, StableHlo.TRef.unary, StableHlo.TRef.toBuf, StableHlo.TRef.ofBuf, cast_eq]
  after_results_simp <;> rfl

theorem A_v0 : StableHlo.after hostOps0_1 (StableHlo.after hostOps0 v) (Proc.devRef .tc main_v0) = hDecay (v (Proc.devRef .tc main_arg3)) := by
  simp only [hostOps0, hostOps0_1, StableHlo.TRef.nullary, StableHlo.TRef.ternary, StableHlo.TRef.unary, StableHlo.TRef.toBuf, StableHlo.TRef.ofBuf, cast_eq]
  after_results_simp <;> rfl

theorem A_arg0 : StableHlo.after hostOps0_1 (StableHlo.after hostOps0 v) (Proc.devRef .tc main_arg0) = v (Proc.devRef .tc main_arg0) := by
  simp only [hostOps0, hostOps0_1, StableHlo.TRef.nullary, StableHlo.TRef.ternary, StableHlo.TRef.unary, StableHlo.TRef.toBuf, StableHlo.TRef.ofBuf, cast_eq]
  after_results_simp <;> rfl
theorem A_arg1 : StableHlo.after hostOps0_1 (StableHlo.after hostOps0 v) (Proc.devRef .tc main_arg1) = v (Proc.devRef .tc main_arg1) := by
  simp only [hostOps0, hostOps0_1, StableHlo.TRef.nullary, StableHlo.TRef.ternary, StableHlo.TRef.unary, StableHlo.TRef.toBuf, StableHlo.TRef.ofBuf, cast_eq]
  after_results_simp <;> rfl
theorem A_arg2 : StableHlo.after hostOps0_1 (StableHlo.after hostOps0 v) (Proc.devRef .tc main_arg2) = v (Proc.devRef .tc main_arg2) := by
  simp only [hostOps0, hostOps0_1, StableHlo.TRef.nullary, StableHlo.TRef.ternary, StableHlo.TRef.unary, StableHlo.TRef.toBuf, StableHlo.TRef.ofBuf, cast_eq]
  after_results_simp <;> rfl
theorem A_arg4 : StableHlo.after hostOps0_1 (StableHlo.after hostOps0 v) (Proc.devRef .tc main_arg4) = v (Proc.devRef .tc main_arg4) := by
  simp only [hostOps0, hostOps0_1, StableHlo.TRef.nullary, StableHlo.TRef.ternary, StableHlo.TRef.unary, StableHlo.TRef.toBuf, StableHlo.TRef.ofBuf, cast_eq]
  after_results_simp <;> rfl

/-! ## The lines after them -/

theorem cut : StableHlo.after hostOps0_2 v = StableHlo.after (hostOps0_2.drop 20) (StableHlo.after (hostOps0_2.take 20) v) := by
  rw [← StableHlo.after_append, List.take_append_drop]

theorem three_eq {x x' : FVec F S2x16x2048x1 .f32} (h : x = x') :
    concatenate S2x16x2048x3 3 [⟨S2x16x2048x1, extf .f32 (truncf .bf16 x bitsLt_bf16_f32) bitsLt_bf16_f32⟩,
      ⟨S2x16x2048x1, extf .f32 (truncf .bf16 (subf x (extf .f32 (truncf .bf16 x bitsLt_bf16_f32) bitsLt_bf16_f32)) bitsLt_bf16_f32) bitsLt_bf16_f32⟩,
      ⟨S2x16x2048x1, extf .f32 (truncf .bf16 (subf (subf x (extf .f32 (truncf .bf16 x bitsLt_bf16_f32) bitsLt_bf16_f32))
        (extf .f32 (truncf .bf16 (subf x (extf .f32 (truncf .bf16 x bitsLt_bf16_f32) bitsLt_bf16_f32)) bitsLt_bf16_f32) bitsLt_bf16_f32)) bitsLt_bf16_f32) bitsLt_bf16_f32⟩]
      concatenates_S2x16x2048x1_S2x16x2048x1_S2x16x2048x1_S2x16x2048x3_d3 = three x' := by subst h; rfl

theorem row5_eq {x x' : FVec F S2x16x2048x64 .f32} {a a' b b' c c' : FVec F S2x16x2048x3 .f32} (hx : x = x') (ha : a = a') (hb : b = b') (hc : c = c') :
    truncf .bf16 (concatenate S2x16x2048x128 3 [⟨S2x16x2048x64, x⟩, ⟨S2x16x2048x3, a⟩, ⟨S2x16x2048x3, b⟩, ⟨S2x16x2048x3, c⟩,
      ⟨S2x16x2048x55, broadcastInDim S2x16x2048x55 ![] bcast_S_S2x16x2048x55 (constant S_ .f32 0x00000000#32)⟩]
      concatenates_S2x16x2048x64_S2x16x2048x3_S2x16x2048x3_S2x16x2048x3_S2x16x2048x55_S2x16x2048x128_d3) bitsLt_bf16_f32 = row5 x' a' b' c' := by
  subst hx ha hb hc; rfl

theorem row3_eq {x x' : FVec F S2x16x2048x64 .f32} {a a' : FVec F S2x16x2048x3 .f32} (hx : x = x') (ha : a = a') :
    truncf .bf16 (concatenate S2x16x2048x128 3 [⟨S2x16x2048x64, x⟩, ⟨S2x16x2048x3, a⟩,
      ⟨S2x16x2048x61, broadcastInDim S2x16x2048x61 ![] bcast_S_S2x16x2048x61 (constant S_ .f32 0x00000000#32)⟩]
      concatenates_S2x16x2048x64_S2x16x2048x3_S2x16x2048x61_S2x16x2048x128_d3) bitsLt_bf16_f32 = row3 x' a' := by
  subst hx ha; rfl

theorem B_v28 : StableHlo.after (hostOps0_2.take 20) v (Proc.devRef .tc main_v28) = hLse (v (Proc.devRef .tc main_v16)) := by
  simp only [hostOps0_2, List.take_succ_cons, List.take_zero]
  after_results_simp <;> rfl

theorem B_v29 : StableHlo.after (hostOps0_2.take 20) v (Proc.devRef .tc main_v29) = heads (v (Proc.devRef .tc main_arg4)) := by
  simp only [hostOps0_2, List.take_succ_cons, List.take_zero]
  after_results_simp <;> rfl

theorem B_v33 : StableHlo.after (hostOps0_2.take 20) v (Proc.devRef .tc main_v33) = hNd (v (Proc.devRef .tc main_v16)) (v (Proc.devRef .tc main_arg2)) (v (Proc.devRef .tc main_arg4)) := by
  simp only [hostOps0_2, List.take_succ_cons, List.take_zero]
  after_results_simp <;> rfl

theorem B_v0 : StableHlo.after (hostOps0_2.take 20) v (Proc.devRef .tc main_v0) = v (Proc.devRef .tc main_v0) := by
  simp only [hostOps0_2, List.take_succ_cons, List.take_zero]
  after_results_simp <;> rfl

theorem B_arg0 : StableHlo.after (hostOps0_2.take 20) v (Proc.devRef .tc main_arg0) = v (Proc.devRef .tc main_arg0) := by
  simp only [hostOps0_2, List.take_succ_cons, List.take_zero]
  after_results_simp <;> rfl

theorem B_arg1 : StableHlo.after (hostOps0_2.take 20) v (Proc.devRef .tc main_arg1) = v (Proc.devRef .tc main_arg1) := by
  simp only [hostOps0_2, List.take_succ_cons, List.take_zero]
  after_results_simp <;> rfl

theorem B_arg2 : StableHlo.after (hostOps0_2.take 20) v (Proc.devRef .tc main_arg2) = v (Proc.devRef .tc main_arg2) := by
  simp only [hostOps0_2, List.take_succ_cons, List.take_zero]
  after_results_simp <;> rfl

set_option maxHeartbeats 4000000 in
theorem B_v64 : StableHlo.after (hostOps0_2.drop 20) v (Proc.devRef .tc main_v64)
    = row5 (mulf (heads (v (Proc.devRef .tc main_arg0))) (broadcastInDim S2x16x2048x64 ![] bcast_S_S2x16x2048x64 (constant S_ .f32 0x3E000000#32))) (three (colOf (v (Proc.devRef .tc main_v0)))) ones3 (three (Host.negf (v (Proc.devRef .tc main_v28)))) := by
  simp only [hostOps0_2, List.drop_succ_cons, List.drop_zero]
  after_results_simp
  all_goals exact row5_eq rfl (three_eq rfl) rfl (three_eq rfl)

set_option maxHeartbeats 4000000 in
theorem B_v82 : StableHlo.after (hostOps0_2.drop 20) v (Proc.devRef .tc main_v82)
    = opK (v (Proc.devRef .tc main_v0)) (v (Proc.devRef .tc main_arg1)) := by
  simp only [hostOps0_2, List.drop_succ_cons, List.drop_zero]
  after_results_simp
  all_goals exact row5_eq rfl rfl (three_eq rfl) rfl

set_option maxHeartbeats 4000000 in
theorem B_v87 : StableHlo.after (hostOps0_2.drop 20) v (Proc.devRef .tc main_v87)
    = opV (v (Proc.devRef .tc main_arg2)) := by
  simp only [hostOps0_2, List.drop_succ_cons, List.drop_zero]
  after_results_simp
  all_goals exact row3_eq rfl rfl

set_option maxHeartbeats 4000000 in
theorem B_v101 : StableHlo.after (hostOps0_2.drop 20) v (Proc.devRef .tc main_v101)
    = row3 (v (Proc.devRef .tc main_v29)) (three (v (Proc.devRef .tc main_v33))) := by
  simp only [hostOps0_2, List.drop_succ_cons, List.drop_zero]
  after_results_simp
  all_goals exact row3_eq rfl (three_eq rfl)

/-! ## What the kernel finds -/

variable (m : (ℓ : Loc nD τ sig) → Buf (Elt F) ℓ) (c : Dev nD)

theorem V0_eq : V0 m c = StableHlo.after hostOps0_2 (StableHlo.after hostOps0_1 (StableHlo.after hostOps0 (fun b => m (c, b)))) := by
  unfold V0
  simp only [List.flatten_cons, List.flatten_nil, List.append_nil, StableHlo.after_append]

theorem V_v64 : V m c main_v64 = opQ (hLogits (m ((c : Thread nD τ).loc main_arg0)) (m ((c : Thread nD τ).loc main_arg1)) (hDecay (m ((c : Thread nD τ).loc main_arg3))))
    (hDecay (m ((c : Thread nD τ).loc main_arg3))) (m ((c : Thread nD τ).loc main_arg0)) := by
  show V0 m c (Proc.devRef .tc main_v64) = _
  rw [V0_eq, cut, B_v64, B_arg0, B_v0, B_v28, A_v16, A_v0, A_arg0, opQ]
theorem V_v82 : V m c main_v82 = opK (hDecay (m ((c : Thread nD τ).loc main_arg3))) (m ((c : Thread nD τ).loc main_arg1)) := by
  show V0 m c (Proc.devRef .tc main_v82) = _
  rw [V0_eq, cut, B_v82, B_v0, B_arg1, A_v0, A_arg1]
theorem V_v87 : V m c main_v87 = opV (m ((c : Thread nD τ).loc main_arg2)) := by
  show V0 m c (Proc.devRef .tc main_v87) = _
  rw [V0_eq, cut, B_v87, B_arg2, A_arg2]
theorem V_v101 : V m c main_v101 = opT (hLogits (m ((c : Thread nD τ).loc main_arg0)) (m ((c : Thread nD τ).loc main_arg1)) (hDecay (m ((c : Thread nD τ).loc main_arg3))))
    (m ((c : Thread nD τ).loc main_arg2)) (m ((c : Thread nD τ).loc main_arg4)) := by
  show V0 m c (Proc.devRef .tc main_v101) = _
  rw [V0_eq, cut, B_v101, B_v29, B_v33, A_v16, A_arg2, A_arg4, opT]

end Cert.KernelIdeal.Gen

end
-- ==== Proof.HostRead.lean ====
module

public import proofs.«01_k».proof.Proof.Host
public import proofs.«01_k».proof.Proof.Reals

/-! The kernel's four operands over the reals: where the arguments' entries are real numbers, the operands' are
    the lanes of `Attention.laneQ`, `laneK`, `laneV` and `laneT`. -/

@[expose] public section

set_option maxRecDepth 16384

noncomputable section

namespace Cert.KernelIdeal.Gen

open Idealize.ShloMosaic Idealize.ShloMosaic.TcCoe Attention

/-! ## The lines at an index -/

section
variable (q k v ct : FVec Ideal S2x2048x16x64 .f32) (d : FVec Ideal S2x16x2048 .f32) (c : FVec Ideal S2x2048x16 .f32) (z : FVec Ideal S2x16x2048x2048 .f32)
  (x : FVec Ideal S2x16x2048x64 .f32) (p : FVec Ideal S2x16x2048x1 .f32) (a a' a'' : FVec Ideal S2x16x2048x3 .f32)

theorem hDecay_read (b : Fin 2) (h : Fin 16) (i : Fin 2048) : hDecay c (ix3 b h i) = c (ix3 b i h) := by
  pointwise [hDecay]
theorem heads_read (b : Fin 2) (h : Fin 16) (i : Fin 2048) (l : Fin 64) : heads q (ix4 b h i l) = q (ix4 b i h l) := by
  pointwise [heads]
theorem colOf_read (b : Fin 2) (h : Fin 16) (i : Fin 2048) (o : Fin 1) : colOf d (ix4 b h i o) = d (ix3 b h i) := by
  pointwise [colOf]
theorem spread_read (b : Fin 2) (h : Fin 16) (i j : Fin 2048) : spread p (ix4 b h i j) = p (ix4 b h i 0) := by
  pointwise [spread]
theorem hMask_read (i j : Fin 2048) : hMask (ix2 i j) = IntOp.cmpi .sle (BitVec.ofNat 32 j) (BitVec.ofNat 32 i) := by
  pointwise [hMask]
theorem hScore_read (b : Fin 2) (h : Fin 16) (i j : Fin 2048) :
    hScore q k d (ix4 b h i j) = (∑ x : Fin 64, q (ix4 b i h x) * k (ix4 b j h x)) * Ideal.ofBits .f32 0x3E000000#32 + (d (ix3 b h i) - d (ix3 b h j)) := by
  pointwise [hScore]
theorem hLogits_read (b : Fin 2) (h : Fin 16) (i j : Fin 2048) :
    hLogits q k d (ix4 b h i j) = Scalar.select (hMask (ix2 i j)) (hScore q k d (ix4 b h i j)) (Ideal.ofBits .f32 0xFF800000#32) := by
  pointwise [hLogits]
theorem hMax_read (b : Fin 2) (h : Fin 16) (i : Fin 2048) :
    hMax z (ix3 b h i) = (Finset.univ : Finset (Fin 2048)).fold max ⊥ fun j => z (ix4 b h i j) := by
  rw [hMax, Host.reduce_eq_fold, Shape.ReducesTo.fold_fiber_r4_a3]
  rw [← bits_bot]
  rfl
theorem hEx_read (b : Fin 2) (h : Fin 16) (i j : Fin 2048) : hEx z (ix4 b h i j) = Ideal.exp (z (ix4 b h i j) - hMax z (ix3 b h i)) := by
  pointwise [hEx, spread, colOf]
theorem hSum_read (b : Fin 2) (h : Fin 16) (i : Fin 2048) : hSum z (ix3 b h i) = ∑ x : Fin 2048, hEx z (ix4 b h i x) := by
  pointwise [hSum]
theorem hProb_read (b : Fin 2) (h : Fin 16) (i j : Fin 2048) : hProb z (ix4 b h i j) = Ideal.div (hEx z (ix4 b h i j)) (hSum z (ix3 b h i)) := by
  pointwise [hProb, spread, colOf]
theorem hOut_read (b : Fin 2) (h : Fin 16) (i : Fin 2048) (l : Fin 64) :
    hOut z v (ix4 b h i l) = ∑ x : Fin 2048, hProb z (ix4 b h i x) * v (ix4 b x h l) := by
  pointwise [hOut]
theorem hLse_read (b : Fin 2) (h : Fin 16) (i : Fin 2048) (o : Fin 1) : hLse z (ix4 b h i o) = hMax z (ix3 b h i) + Ideal.log (hSum z (ix3 b h i)) := by
  rw [hLse, add_at, log_at, colOf_read, colOf_read]
theorem hNd_read (b : Fin 2) (h : Fin 16) (i : Fin 2048) (o : Fin 1) :
    hNd z v ct (ix4 b h i o) = -∑ x : Fin 64, heads ct (ix4 b h i x) * hOut z v (ix4 b h i x) := by
  pointwise [hNd, colOf]
theorem kept_read (b : Fin 2) (h : Fin 16) (i : Fin 2048) (o : Fin 1) : kept p (ix4 b h i o) = p (ix4 b h i o) := by
  pointwise [kept]
theorem rest_read (b : Fin 2) (h : Fin 16) (i : Fin 2048) (o : Fin 1) : rest p (ix4 b h i o) = p (ix4 b h i o) - p (ix4 b h i o) := by
  pointwise [rest]
theorem three_read (b : Fin 2) (h : Fin 16) (i : Fin 2048) (o : Fin 3) :
    three p (ix4 b h i o) = if (o : ℕ) < 1 then kept p (ix4 b h i 0) else if (o : ℕ) - 1 < 1 then kept (rest p) (ix4 b h i 0) else kept (rest (rest p)) (ix4 b h i 0) := by
  have e : ∀ x : Fin 1, x = 0 := fun x => Subsingleton.elim x 0
  pointwise [three]
  split
  · rw [e ⟨_, _⟩]
  · split
    · rw [e ⟨_, _⟩]
    · rw [e ⟨_, _⟩]
theorem ones3_read (b : Fin 2) (h : Fin 16) (i : Fin 2048) (o : Fin 3) : ones3 (F := Ideal) (ix4 b h i o) = ((1 : ℝ) : EReal) := by
  rw [EReal.coe_one]
  pointwise [ones3]
theorem row5_read (b : Fin 2) (h : Fin 16) (i : Fin 2048) (l : Fin 128) :
    row5 x a a' a'' (ix4 b h i l) = if h1 : (l : ℕ) < 64 then x (ix4 b h i ⟨l, h1⟩) else if h2 : (l : ℕ) - 64 < 3 then a (ix4 b h i ⟨l - 64, h2⟩)
      else if h3 : (l : ℕ) - 64 - 3 < 3 then a' (ix4 b h i ⟨l - 64 - 3, h3⟩) else if h4 : (l : ℕ) - 64 - 3 - 3 < 3 then a'' (ix4 b h i ⟨l - 64 - 3 - 3, h4⟩) else 0 := by
  pointwise [row5]
theorem row3_read (b : Fin 2) (h : Fin 16) (i : Fin 2048) (l : Fin 128) :
    row3 x a (ix4 b h i l) = if h1 : (l : ℕ) < 64 then x (ix4 b h i ⟨l, h1⟩) else if h2 : (l : ℕ) - 64 < 3 then a (ix4 b h i ⟨l - 64, h2⟩) else 0 := by
  pointwise [row3]

end

end Cert.KernelIdeal.Gen
-- ==== Proof.HostValue.lean ====
module

public import proofs.«01_k».proof.Proof.HostRead
public import proofs.«01_k».proof.Proof.Reals

/-! The kernel's four operands over the reals: where the arguments' entries are real numbers, the operands' are
    the lanes of `Attention.laneQ`, `laneK`, `laneV` and `laneT`. -/

@[expose] public section

set_option maxRecDepth 16384

noncomputable section

namespace Cert.KernelIdeal.Gen

open Idealize.ShloMosaic Idealize.ShloMosaic.TcCoe Attention

section
variable (p : FVec Ideal S2x16x2048x1 .f32)

/-- The three lanes of a column of numbers: the number, and nothing. -/
theorem three_real {r : ℝ} (b : Fin 2) (h : Fin 16) (i : Fin 2048) (o : Fin 3) (hp : p (ix4 b h i 0) = (r : EReal)) :
    three p (ix4 b h i o) = ((if (o : ℕ) = 0 then r else 0 : ℝ) : EReal) := by
  have h0 : (r : EReal) - r = 0 := by rw [← EReal.coe_sub, sub_self, EReal.coe_zero]
  rw [three_read, kept_read, kept_read, kept_read, rest_read, rest_read, rest_read, hp, h0]
  by_cases ho : (o : ℕ) = 0
  · rw [if_pos (by omega), if_pos ho]
  · rw [if_neg (by omega), if_neg ho, EReal.coe_zero, sub_zero, ite_self]
end

/-- One eighth everywhere. -/
theorem eighth_read (j : S2x16x2048x64.Idx) :
    (broadcastInDim S2x16x2048x64 ![] bcast_S_S2x16x2048x64 (constant S_ .f32 0x3E000000#32) : FVec Ideal S2x16x2048x64 .f32) j = ((1 / 8 : ℝ) : EReal) := by
  rw [← bits_eighth]; rfl

/-! ## Over the reals -/

section
variable {q k v ct : FVec Ideal S2x2048x16x64 .f32} {c : FVec Ideal S2x2048x16 .f32} {Q K V T : ℕ → ℕ → ℕ → ℕ → ℝ} {C : ℕ → ℕ → ℕ → ℝ}
  (hq : ∀ (b : Fin 2) (i : Fin 2048) (h : Fin 16) (l : Fin 64), q (ix4 b i h l) = (Q b i h l : EReal))
  (hk : ∀ (b : Fin 2) (i : Fin 2048) (h : Fin 16) (l : Fin 64), k (ix4 b i h l) = (K b i h l : EReal))
  (hv : ∀ (b : Fin 2) (i : Fin 2048) (h : Fin 16) (l : Fin 64), v (ix4 b i h l) = (V b i h l : EReal))
  (ht : ∀ (b : Fin 2) (i : Fin 2048) (h : Fin 16) (l : Fin 64), ct (ix4 b i h l) = (T b i h l : EReal))
  (hc : ∀ (b : Fin 2) (i : Fin 2048) (h : Fin 16), c (ix3 b i h) = (C b i h : EReal))

section
include hq hk hc

theorem logits_real (b : Fin 2) (h : Fin 16) (i j : Fin 2048) :
    hLogits q k (hDecay c) (ix4 b h i j) = if (j : ℕ) ≤ i then (score Q K C b h i j : EReal) else ⊥ := by
  rw [hLogits_read, hMask_read, bits_bot, select_le (by omega) (by omega), hScore_read, bits_eighth, hDecay_read, hDecay_read, hc, hc]
  simp only [hq, hk]
  rw [coe_dot, ← EReal.coe_sub, ← EReal.coe_mul, ← EReal.coe_add]
  rfl

theorem max_real (b : Fin 2) (h : Fin 16) (i : Fin 2048) : ∃ M : ℝ, hMax (hLogits q k (hDecay c)) (ix3 b h i) = (M : EReal) := by
  rw [hMax_read]
  exact row_max (fun j => score Q K C b h i j) i _ fun j => logits_real hq hk hc b h i j

theorem ex_real (b : Fin 2) (h : Fin 16) (i : Fin 2048) {M : ℝ} (hM : hMax (hLogits q k (hDecay c)) (ix3 b h i) = (M : EReal)) (j : Fin 2048) :
    hEx (hLogits q k (hDecay c)) (ix4 b h i j) = ((if (j : ℕ) ≤ i then Real.exp (score Q K C b h i j - M) else 0 : ℝ) : EReal) := by
  rw [hEx_read, hM, logits_real hq hk hc, exp_masked]

theorem sum_real (b : Fin 2) (h : Fin 16) (i : Fin 2048) {M : ℝ} (hM : hMax (hLogits q k (hDecay c)) (ix3 b h i) = (M : EReal)) :
    hSum (hLogits q k (hDecay c)) (ix3 b h i) = ((rowSum Q K C b h i * Real.exp (-M) : ℝ) : EReal) := by
  rw [hSum_read]
  simp only [ex_real hq hk hc b h i hM]
  rw [coe_sum, rowSum_shift]

theorem prob_real (b : Fin 2) (h : Fin 16) (i j : Fin 2048) :
    hProb (hLogits q k (hDecay c)) (ix4 b h i j) = (prob Q K C b h i j : EReal) := by
  obtain ⟨M, hM⟩ := max_real hq hk hc b h i
  rw [hProb_read, ex_real hq hk hc b h i hM, sum_real hq hk hc b h i hM,
    div_reals _ (mul_pos (rowSum_pos Q K C b h i.isLt) (Real.exp_pos _)).ne', prob_shift]

theorem lse_real (b : Fin 2) (h : Fin 16) (i : Fin 2048) (o : Fin 1) :
    hLse (hLogits q k (hDecay c)) (ix4 b h i o) = (Real.log (rowSum Q K C b h i) : EReal) := by
  obtain ⟨M, hM⟩ := max_real hq hk hc b h i
  rw [hLse_read, hM, sum_real hq hk hc b h i hM, log_pos_real (mul_pos (rowSum_pos Q K C b h i.isLt) (Real.exp_pos _)), ← EReal.coe_add,
    log_shift Q K C b h i.isLt]

theorem opQ_real (b : Fin 2) (h : Fin 16) (i : Fin 2048) (l : Fin 128) :
    opQ (hLogits q k (hDecay c)) (hDecay c) q (ix4 b h i l) = (laneQ Q K C b h i l : EReal) := by
  have h34 : colOf (hDecay c) (ix4 b h i 0) = (C b i h : EReal) := by rw [colOf_read, hDecay_read, hc]
  have h50 : (Host.negf (hLse (hLogits q k (hDecay c))) : FVec Ideal S2x16x2048x1 .f32) (ix4 b h i 0) = ((-Real.log (rowSum Q K C b h i) : ℝ) : EReal) := by
    rw [neg_at, lse_real hq hk hc b h i 0, EReal.coe_neg]
  have h37 : ∀ l : Fin 64, (mulf (heads q) (broadcastInDim S2x16x2048x64 ![] bcast_S_S2x16x2048x64 (constant S_ .f32 0x3E000000#32)) : FVec Ideal S2x16x2048x64 .f32) (ix4 b h i l)
      = ((Q b i h l * (1 / 8) : ℝ) : EReal) := fun l => by
    rw [mul_at, heads_read, hq, eighth_read, EReal.coe_mul]
  rw [opQ, row5_read, laneQ]
  by_cases h1 : (l : ℕ) < 64
  · rw [dif_pos h1, if_pos h1, h37]
  rw [dif_neg h1, if_neg h1]
  by_cases h2 : (l : ℕ) - 64 < 3
  · rw [dif_pos h2, if_pos (by omega), three_real _ b h i _ h34]
    exact congrArg (fun x : ℝ => (x : EReal)) (if_congr (show (l : ℕ) - 64 = 0 ↔ (l : ℕ) = 64 by omega) rfl rfl)
  rw [dif_neg h2, if_neg (by omega)]
  by_cases h3 : (l : ℕ) - 64 - 3 < 3
  · rw [dif_pos h3, if_pos (by omega), ones3_read]
  rw [dif_neg h3, if_neg (by omega)]
  by_cases h4 : (l : ℕ) - 64 - 3 - 3 < 3
  · rw [dif_pos h4, three_real _ b h i _ h50]
    exact congrArg (fun x : ℝ => (x : EReal)) (if_congr (show (l : ℕ) - 64 - 3 - 3 = 0 ↔ (l : ℕ) = 70 by omega) rfl rfl)
  rw [dif_neg h4, if_neg (by omega), EReal.coe_zero]
end

include hk hc in
theorem opK_real (b : Fin 2) (h : Fin 16) (i : Fin 2048) (l : Fin 128) : opK (hDecay c) k (ix4 b h i l) = (laneK K C b h i l : EReal) := by
  have h67 : (Host.negf (colOf (hDecay c)) : FVec Ideal S2x16x2048x1 .f32) (ix4 b h i 0) = ((-C b i h : ℝ) : EReal) := by
    rw [neg_at, colOf_read, hDecay_read, hc, EReal.coe_neg]
  rw [opK, row5_read, laneK]
  by_cases h1 : (l : ℕ) < 64
  · rw [dif_pos h1, if_pos h1, heads_read, hk]
  rw [dif_neg h1, if_neg h1]
  by_cases h2 : (l : ℕ) - 64 < 3
  · rw [dif_pos h2, if_pos (by omega), ones3_read]
  rw [dif_neg h2, if_neg (by omega)]
  by_cases h3 : (l : ℕ) - 64 - 3 < 3
  · rw [dif_pos h3, if_pos (by omega), three_real _ b h i _ h67]
    exact congrArg (fun x : ℝ => (x : EReal)) (if_congr (show (l : ℕ) - 64 - 3 = 0 ↔ (l : ℕ) = 67 by omega) rfl rfl)
  rw [dif_neg h3, if_neg (by omega)]
  by_cases h4 : (l : ℕ) - 64 - 3 - 3 < 3
  · rw [dif_pos h4, if_pos (by omega), ones3_read]
  rw [dif_neg h4, if_neg (by omega), EReal.coe_zero]

include hv in
theorem opV_real (b : Fin 2) (h : Fin 16) (i : Fin 2048) (l : Fin 128) : opV v (ix4 b h i l) = (laneV V b h i l : EReal) := by
  rw [opV, row3_read, laneV]
  by_cases h1 : (l : ℕ) < 64
  · rw [dif_pos h1, if_pos h1, heads_read, hv]
  rw [dif_neg h1, if_neg h1]
  by_cases h2 : (l : ℕ) - 64 < 3
  · rw [dif_pos h2, if_pos (by omega), ones3_read]
  rw [dif_neg h2, if_neg (by omega), EReal.coe_zero]

include hq hk hv ht hc in
theorem opT_real (b : Fin 2) (h : Fin 16) (i : Fin 2048) (l : Fin 128) :
    opT (hLogits q k (hDecay c)) v ct (ix4 b h i l) = (laneT Q K V T C b h i l : EReal) := by
  have h33 : hNd (hLogits q k (hDecay c)) v ct (ix4 b h i 0)
      = ((-∑ d : Fin 64, T b i h d * ∑ k : Fin 2048, prob Q K C b h i k * V b k h d : ℝ) : EReal) := by
    rw [hNd_read]
    simp only [heads_read, ht, hOut_read, prob_real hq hk hc, hv, coe_dot]
    rw [EReal.coe_neg]
  rw [opT, row3_read, laneT]
  by_cases h1 : (l : ℕ) < 64
  · rw [dif_pos h1, if_pos h1, heads_read, ht]
  rw [dif_neg h1, if_neg h1]
  by_cases h2 : (l : ℕ) - 64 < 3
  · rw [dif_pos h2, three_real _ b h i _ h33]
    exact congrArg (fun x : ℝ => (x : EReal)) (if_congr (show (l : ℕ) - 64 = 0 ↔ (l : ℕ) = 64 by omega) rfl rfl)
  rw [dif_neg h2, if_neg (by omega), EReal.coe_zero]
end

end Cert.KernelIdeal.Gen

end
-- ==== Proof.Results.lean ====
module

public import proofs.«01_k».proof.Proof.Arrays
public import proofs.«01_k».proof.Proof.HostValue

/-! What the kernel's program leaves in its four results, where the arguments' entries are real numbers: the
gradients of the attention's queries, keys, values and running decay sums. -/

@[expose] public section

set_option maxRecDepth 16384

noncomputable section

namespace Cert.KernelIdeal.Value

open Cert.KernelIdeal Cert.KernelIdeal.Gen Attention
open Idealize.ShloMosaic Idealize.ShloMosaic.TcCoe Idealize.SL.Sem
open Idealize.ShloMosaic.Pipeline (Dat Cfg Window)

/-! ## The lines after the kernel -/

section
variable {F : FTy → Type} [FloatOps F]
/-- The first 64 lanes, rows before heads. -/
def dataOf (x : FVec F S2x16x2048x128 .f32) : FVec F S2x2048x16x64 .f32 :=
  transpose S2x2048x16x64 [0, 2, 1, 3] (extractStridedSlice S2x16x2048x64 ![0, 0, 0, 0] x slices_S2x16x2048x128_S2x16x2048x64_0_0_0_0) transposes_S2x16x2048x64_S2x2048x16x64_0_2_1_3
/-- Lane 64. -/
def lane64 (x : FVec F S2x16x2048x128 .f32) : FVec F S2x16x2048 .f32 :=
  shapeCast S2x16x2048 (extractStridedSlice S2x16x2048x1 ![0, 0, 0, 64] x slices_S2x16x2048x128_S2x16x2048x1_0_0_0_64) shapeCasts_S2x16x2048x1_S2x16x2048
/-- Lane 67. -/
def lane67 (x : FVec F S2x16x2048x128 .f32) : FVec F S2x16x2048 .f32 :=
  shapeCast S2x16x2048 (extractStridedSlice S2x16x2048x1 ![0, 0, 0, 67] x slices_S2x16x2048x128_S2x16x2048x1_0_0_0_67) shapeCasts_S2x16x2048x1_S2x16x2048
def scaled (x : FVec F S2x2048x16x64 .f32) : FVec F S2x2048x16x64 .f32 :=
  mulf x (broadcastInDim S2x2048x16x64 ![] bcast_S_S2x2048x16x64 (constant S_ .f32 0x3E000000#32))
def decayOf (x y : FVec F S2x16x2048x128 .f32) : FVec F S2x2048x16 .f32 :=
  transpose S2x2048x16 [0, 2, 1] (subf (lane64 x) (lane67 y)) transposes_S2x16x2048_S2x2048x16_0_2_1

variable (W : Valuation τ sig (Elt F))
theorem T_v112 : StableHlo.after hostOps1 W (Proc.devRef .tc main_v112) = scaled (dataOf (W (Proc.devRef .tc main_v102_0))) := by
  after_results_simp <;> rfl
theorem T_v114 : StableHlo.after hostOps1 W (Proc.devRef .tc main_v114) = dataOf (W (Proc.devRef .tc main_v102_1)) := by
  after_results_simp <;> rfl
theorem T_v116 : StableHlo.after hostOps1 W (Proc.devRef .tc main_v116) = dataOf (W (Proc.devRef .tc main_v102_2)) := by
  after_results_simp <;> rfl
theorem T_v108 : StableHlo.after hostOps1 W (Proc.devRef .tc main_v108) = decayOf (W (Proc.devRef .tc main_v102_0)) (W (Proc.devRef .tc main_v102_1)) := by
  after_results_simp <;> rfl
end

section
variable (x y : FVec Ideal S2x16x2048x128 .f32)
theorem dataOf_read (b : Fin 2) (i : Fin 2048) (h : Fin 16) (l : Fin 64) : dataOf x (ix4 b i h l) = x (ix4 b h i ⟨l, by omega⟩) := by
  pointwise [dataOf]
theorem lane64_read (b : Fin 2) (h : Fin 16) (i : Fin 2048) : lane64 x (ix3 b h i) = x (ix4 b h i ⟨64, by omega⟩) := by
  pointwise [lane64]
theorem lane67_read (b : Fin 2) (h : Fin 16) (i : Fin 2048) : lane67 x (ix3 b h i) = x (ix4 b h i ⟨67, by omega⟩) := by
  pointwise [lane67]
theorem decayOf_read (b : Fin 2) (i : Fin 2048) (h : Fin 16) : decayOf x y (ix3 b i h) = lane64 x (ix3 b h i) - lane67 y (ix3 b h i) := by
  pointwise [decayOf]
theorem scaled_read (z : FVec Ideal S2x2048x16x64 .f32) (j : S2x2048x16x64.Idx) : scaled z j = z j * ((1 / 8 : ℝ) : EReal) := by
  rw [scaled, mul_at, splat_at, bits_eighth]
end

/-! ## The results -/

section
variable {m : (ℓ : Loc nD τ sig) → Buf (Elt Ideal) ℓ} {c : Dev nD}
  {Q K U T : ℕ → ℕ → ℕ → ℕ → ℝ} {C : ℕ → ℕ → ℕ → ℝ}
  (hq : ∀ (b : Fin 2) (i : Fin 2048) (h : Fin 16) (l : Fin 64), (m ((c : Thread nD τ).loc main_arg0) : FVec Ideal S2x2048x16x64 .f32) (ix4 b i h l) = (Q b i h l : EReal))
  (hk : ∀ (b : Fin 2) (i : Fin 2048) (h : Fin 16) (l : Fin 64), (m ((c : Thread nD τ).loc main_arg1) : FVec Ideal S2x2048x16x64 .f32) (ix4 b i h l) = (K b i h l : EReal))
  (hv : ∀ (b : Fin 2) (i : Fin 2048) (h : Fin 16) (l : Fin 64), (m ((c : Thread nD τ).loc main_arg2) : FVec Ideal S2x2048x16x64 .f32) (ix4 b i h l) = (U b i h l : EReal))
  (hc : ∀ (b : Fin 2) (i : Fin 2048) (h : Fin 16), (m ((c : Thread nD τ).loc main_arg3) : FVec Ideal S2x2048x16 .f32) (ix3 b i h) = (C b i h : EReal))
  (ht : ∀ (b : Fin 2) (i : Fin 2048) (h : Fin 16) (l : Fin 64), (m ((c : Thread nD τ).loc main_arg4) : FVec Ideal S2x2048x16x64 .f32) (ix4 b i h l) = (T b i h l : EReal))
include hq hk hv hc ht

theorem op0 (b : Fin 2) (h : Fin 16) (i : Fin 2048) (l : Fin 128) :
    (V m c main_v64 : FVec Ideal S2x16x2048x128 .bf16) (ix4 b h i l) = ((laneQ Q K C b h i l : ℝ) : EReal) := by
  rw [V_v64]; exact opQ_real hq hk hc b h i l
theorem op1 (b : Fin 2) (h : Fin 16) (i : Fin 2048) (l : Fin 128) :
    (V m c main_v82 : FVec Ideal S2x16x2048x128 .bf16) (ix4 b h i l) = ((laneK K C b h i l : ℝ) : EReal) := by
  rw [V_v82]; exact opK_real hk hc b h i l
theorem op2 (b : Fin 2) (h : Fin 16) (i : Fin 2048) (l : Fin 128) :
    (V m c main_v87 : FVec Ideal S2x16x2048x128 .bf16) (ix4 b h i l) = ((laneV U b h i l : ℝ) : EReal) := by
  rw [V_v87]; exact opV_real hv b h i l
theorem op3 (b : Fin 2) (h : Fin 16) (i : Fin 2048) (l : Fin 128) :
    (V m c main_v101 : FVec Ideal S2x16x2048x128 .bf16) (ix4 b h i l) = ((laneT Q K U T C b h i l : ℝ) : EReal) := by
  rw [V_v101]; exact opT_real hq hk hv ht hc b h i l

theorem final4 : (dats m 0 c).arrAt 4 cfg0.N = grid4 fun b h i l => sumQ Q K U T C b i h l :=
  arr4 (qf := fun b h => laneQ Q K C b h) (kf := fun b h => laneK K C b h) (vf := fun b h => laneV U b h) (of := fun b h => laneT Q K U T C b h)
    (op0 hq hk hv hc ht) (op1 hq hk hv hc ht) (op2 hq hk hv hc ht) (op3 hq hk hv hc ht)
theorem final5 : (dats m 0 c).arrAt 5 cfg0.N = grid4 fun b h i l => sumK Q K U T C b i h l :=
  arr5 (qf := fun b h => laneQ Q K C b h) (kf := fun b h => laneK K C b h) (vf := fun b h => laneV U b h) (of := fun b h => laneT Q K U T C b h)
    (op0 hq hk hv hc ht) (op1 hq hk hv hc ht) (op2 hq hk hv hc ht) (op3 hq hk hv hc ht)
theorem final6 : (dats m 0 c).arrAt 6 cfg0.N = grid4 fun b h i l => sumV Q K U T C b i h l :=
  arr6 (qf := fun b h => laneQ Q K C b h) (kf := fun b h => laneK K C b h) (vf := fun b h => laneV U b h) (of := fun b h => laneT Q K U T C b h)
    (op0 hq hk hv hc ht) (op1 hq hk hv hc ht) (op2 hq hk hv hc ht) (op3 hq hk hv hc ht)

theorem v112_real (b : Fin 2) (i : Fin 2048) (h : Fin 16) (l : Fin 64) :
    (Pipeline.afterTail₀ cfgs (dats m) 0 (V0 m) [hostOps1] c main_v112 : FVec Ideal S2x2048x16x64 .f32) (ix4 b i h l) = ((gradQ Q K U T C b i h l : ℝ) : EReal) := by
  unfold Pipeline.afterTail₀
  rw [List.flatten_cons, List.flatten_nil, List.append_nil, T_v112,
    show Pipeline.withArrays (cfgs 0).spec c (V0 m c) (fun w => (dats m 0 c).arrAt w (cfgs 0).N) (Proc.devRef .tc main_v102_0) = (dats m 0 c).arrAt 4 cfg0.N from
      Pipeline.withArrays_arr spec0 launch0.win.arr_inj c _ _ 4, final4 hq hk hv hc ht]
  refine (scaled_read _ _).trans ?_
  rw [dataOf_read, ← sumQ_data Q K U T C b i h i.isLt l.isLt, EReal.coe_mul]
  rfl
theorem v114_real (b : Fin 2) (i : Fin 2048) (h : Fin 16) (l : Fin 64) :
    (Pipeline.afterTail₀ cfgs (dats m) 0 (V0 m) [hostOps1] c main_v114 : FVec Ideal S2x2048x16x64 .f32) (ix4 b i h l) = ((gradK Q K U T C b i h l : ℝ) : EReal) := by
  unfold Pipeline.afterTail₀
  rw [List.flatten_cons, List.flatten_nil, List.append_nil, T_v114,
    show Pipeline.withArrays (cfgs 0).spec c (V0 m c) (fun w => (dats m 0 c).arrAt w (cfgs 0).N) (Proc.devRef .tc main_v102_1) = (dats m 0 c).arrAt 5 cfg0.N from
      Pipeline.withArrays_arr spec0 launch0.win.arr_inj c _ _ 5, final5 hq hk hv hc ht]
  refine (dataOf_read _ b i h l).trans ?_
  rw [← sumK_data Q K U T C b i h l.isLt]
  rfl
theorem v116_real (b : Fin 2) (i : Fin 2048) (h : Fin 16) (l : Fin 64) :
    (Pipeline.afterTail₀ cfgs (dats m) 0 (V0 m) [hostOps1] c main_v116 : FVec Ideal S2x2048x16x64 .f32) (ix4 b i h l) = ((gradV Q K T C b i h l : ℝ) : EReal) := by
  unfold Pipeline.afterTail₀
  rw [List.flatten_cons, List.flatten_nil, List.append_nil, T_v116,
    show Pipeline.withArrays (cfgs 0).spec c (V0 m c) (fun w => (dats m 0 c).arrAt w (cfgs 0).N) (Proc.devRef .tc main_v102_2) = (dats m 0 c).arrAt 6 cfg0.N from
      Pipeline.withArrays_arr spec0 launch0.win.arr_inj c _ _ 6, final6 hq hk hv hc ht]
  refine (dataOf_read _ b i h l).trans ?_
  rw [← sumV_data Q K U T C b i h l.isLt]
  rfl
theorem v108_real (b : Fin 2) (i : Fin 2048) (h : Fin 16) :
    (Pipeline.afterTail₀ cfgs (dats m) 0 (V0 m) [hostOps1] c main_v108 : FVec Ideal S2x2048x16 .f32) (ix3 b i h) = ((gradC Q K U T C b i h : ℝ) : EReal) := by
  unfold Pipeline.afterTail₀
  rw [List.flatten_cons, List.flatten_nil, List.append_nil, T_v108,
    show Pipeline.withArrays (cfgs 0).spec c (V0 m c) (fun w => (dats m 0 c).arrAt w (cfgs 0).N) (Proc.devRef .tc main_v102_0) = (dats m 0 c).arrAt 4 cfg0.N from
      Pipeline.withArrays_arr spec0 launch0.win.arr_inj c _ _ 4,
    show Pipeline.withArrays (cfgs 0).spec c (V0 m c) (fun w => (dats m 0 c).arrAt w (cfgs 0).N) (Proc.devRef .tc main_v102_1) = (dats m 0 c).arrAt 5 cfg0.N from
      Pipeline.withArrays_arr spec0 launch0.win.arr_inj c _ _ 5, final4 hq hk hv hc ht, final5 hq hk hv hc ht]
  refine (decayOf_read _ _ b i h).trans ?_
  rw [lane64_read, lane67_read, ← sum_decay Q K U T C b i h i.isLt, EReal.coe_sub]
  rfl
end

end Cert.KernelIdeal.Value

end
-- ==== Proof.RefTerm.lean ====
module

public import proofs.«01_k».proof.Proof.Gen.ReferenceIdeal.Run

/-! The reference's four results, step by step: the masked scores, their softmax, the gradients of the
    probabilities and of the scores, and the products with the arguments. -/

@[expose] public section

set_option maxRecDepth 65536

noncomputable section

namespace Cert.ReferenceIdeal.Value

open Cert.ReferenceIdeal Cert.ReferenceIdeal.Gen Idealize.ShloMosaic Idealize.ShloMosaic.TcCoe

variable {F : FTy → Type} [FloatOps F]

def rMask : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))
/-- The mask, for every head. -/
def rKeep : IVec S2x16x2048x2048 1 := broadcastInDim S2x16x2048x2048 ![2, 3] bcast_S2048x2048_S2x16x2048x2048_2_3 rMask

def rDecay (c : FVec F S2x2048x16 .f32) : FVec F S2x16x2048 .f32 := transpose S2x16x2048 [0, 2, 1] c transposes_S2x2048x16_S2x16x2048_0_2_1

def rScore (q k : FVec F S2x2048x16x64 .f32) (d : FVec F S2x16x2048 .f32) : FVec F S2x16x2048x2048 .f32 :=
  addf (mulf (Host.dotGeneral dot_S2x2048x16x64_S2x2048x16x64_S2x16x2048x2048_3_3_1_1_02_02 none q k)
      (broadcastInDim S2x16x2048x2048 ![] bcast_S_S2x16x2048x2048 (constant S_ .f32 0x3E000000#32)))
    (subf (broadcastInDim S2x16x2048x2048 ![0, 1, 2, 3] bcast_S2x16x2048x1_S2x16x2048x2048_0_1_2_3 (broadcastInDim S2x16x2048x1 ![0, 1, 2] bcast_S2x16x2048_S2x16x2048x1_0_1_2 d))
      (broadcastInDim S2x16x2048x2048 ![0, 1, 2, 3] bcast_S2x16x1x2048_S2x16x2048x2048_0_1_2_3 (broadcastInDim S2x16x1x2048 ![0, 1, 3] bcast_S2x16x2048_S2x16x1x2048_0_1_3 d)))

def rLogits (q k : FVec F S2x2048x16x64 .f32) (d : FVec F S2x16x2048 .f32) : FVec F S2x16x2048x2048 .f32 :=
  select rKeep (rScore q k d) (broadcastInDim S2x16x2048x2048 ![] bcast_S_S2x16x2048x2048 (constant S_ .f32 0xFF800000#32))

def rMax (z : FVec F S2x16x2048x2048 .f32) : FVec F S2x16x2048 .f32 :=
  Host.reduce FloatOps.maximumf z (constant S_ .f32 0xFF800000#32) reducesTo_S2x16x2048x2048_S2x16x2048_d3 h_S_
/-- The row's largest entry, against −∞ once more. -/
def rMax2 (z : FVec F S2x16x2048x2048 .f32) : FVec F S2x16x2048 .f32 :=
  maximumf (broadcastInDim S2x16x2048 ![] bcast_S_S2x16x2048 (constant S_ .f32 0xFF800000#32)) (rMax z)
def rCol (x : FVec F S2x16x2048 .f32) : FVec F S2x16x2048x1 .f32 := broadcastInDim S2x16x2048x1 ![0, 1, 2] bcast_S2x16x2048_S2x16x2048x1_0_1_2 x
def rSpread (x : FVec F S2x16x2048x1 .f32) : FVec F S2x16x2048x2048 .f32 := broadcastInDim S2x16x2048x2048 ![0, 1, 2, 3] bcast_S2x16x2048x1_S2x16x2048x2048_0_1_2_3 x
def rowsAdd (x : FVec F S2x16x2048x2048 .f32) : FVec F S2x16x2048 .f32 :=
  Host.reduceAdd x (constant S_ .f32 0x00000000#32) reducesTo_S2x16x2048x2048_S2x16x2048_d3 h_S_
def rEx (z : FVec F S2x16x2048x2048 .f32) : FVec F S2x16x2048x2048 .f32 := Host.exp (subf z (rSpread (rCol (rMax2 z))))
def rSum (z : FVec F S2x16x2048x2048 .f32) : FVec F S2x16x2048x1 .f32 := rCol (rowsAdd (rEx z))
def rProb (z : FVec F S2x16x2048x2048 .f32) : FVec F S2x16x2048x2048 .f32 := Host.divf (rEx z) (rSpread (rSum z))
/-- The cotangent, heads first and rows last. -/
def rCt (ct : FVec F S2x2048x16x64 .f32) : FVec F S2x16x64x2048 .f32 := transpose S2x16x64x2048 [0, 2, 3, 1] ct transposes_S2x2048x16x64_S2x16x64x2048_0_2_3_1
/-- The gradient of the values, -/
def rDv (z : FVec F S2x16x2048x2048 .f32) (ct : FVec F S2x2048x16x64 .f32) : FVec F S2x2048x16x64 .f32 :=
  transpose S2x2048x16x64 [0, 3, 1, 2] (Host.dotGeneral dot_S2x16x64x2048_S2x16x2048x2048_S2x16x64x2048_3_2_2_3_01_01 none (rCt ct) (rProb z)) transposes_S2x16x64x2048_S2x2048x16x64_0_3_1_2
/-- of the probabilities, -/
def rDp (v ct : FVec F S2x2048x16x64 .f32) : FVec F S2x16x2048x2048 .f32 :=
  Host.dotGeneral dot_S2x16x64x2048_S2x2048x16x64_S2x16x2048x2048_2_3_3_1_01_02 none (rCt ct) v
/-- of the row sums, -/
def rInv (z : FVec F S2x16x2048x2048 .f32) : FVec F S2x16x2048x1 .f32 :=
  Host.divf (broadcastInDim S2x16x2048x1 ![] bcast_S_S2x16x2048x1 (constant S_ .f32 0x3F800000#32)) (mulf (rSum z) (rSum z))
def rDl (z : FVec F S2x16x2048x2048 .f32) (v ct : FVec F S2x2048x16x64 .f32) : FVec F S2x16x2048x1 .f32 :=
  Host.negf (shapeCast S2x16x2048x1 (rowsAdd (mulf (mulf (rDp v ct) (rSpread (rInv z))) (rEx z))) shapeCasts_S2x16x2048_S2x16x2048x1)
def rDlRow (z : FVec F S2x16x2048x2048 .f32) (v ct : FVec F S2x2048x16x64 .f32) : FVec F S2x16x2048x2048 .f32 :=
  broadcastInDim S2x16x2048x2048 ![0, 1, 2] bcast_S2x16x2048_S2x16x2048x2048_0_1_2
    (Host.reduceAdd (rDl z v ct) (constant S_ .f32 0x00000000#32) reducesTo_S2x16x2048x1_S2x16x2048_d3 h_S_)
/-- and of the scores. -/
def rDs (z : FVec F S2x16x2048x2048 .f32) (v ct : FVec F S2x2048x16x64 .f32) : FVec F S2x16x2048x2048 .f32 :=
  select rKeep (mulf (addf (Host.divf (rDp v ct) (rSpread (rSum z))) (rDlRow z v ct)) (rEx z))
    (broadcastInDim S2x16x2048x2048 ![] bcast_S_S2x16x2048x2048 (constant S_ .f32 0x00000000#32))
def rDss (s : FVec F S2x16x2048x2048 .f32) : FVec F S2x16x2048x2048 .f32 :=
  mulf s (broadcastInDim S2x16x2048x2048 ![] bcast_S_S2x16x2048x2048 (constant S_ .f32 0x3E000000#32))
def rDk (s : FVec F S2x16x2048x2048 .f32) (q : FVec F S2x2048x16x64 .f32) : FVec F S2x2048x16x64 .f32 :=
  transpose S2x2048x16x64 [0, 2, 1, 3] (Host.dotGeneral dot_S2x16x2048x2048_S2x2048x16x64_S2x16x2048x64_2_1_3_3_01_02 none (rDss s) q) transposes_S2x16x2048x64_S2x2048x16x64_0_2_1_3
def rDq (s : FVec F S2x16x2048x2048 .f32) (k : FVec F S2x2048x16x64 .f32) : FVec F S2x2048x16x64 .f32 :=
  transpose S2x2048x16x64 [0, 2, 1, 3] (Host.dotGeneral dot_S2x16x2048x2048_S2x2048x16x64_S2x16x2048x64_3_1_2_3_01_02 none (rDss s) k) transposes_S2x16x2048x64_S2x2048x16x64_0_2_1_3
def rColSum (s : FVec F S2x16x2048x2048 .f32) : FVec F S2x16x2048 .f32 :=
  Host.reduceAdd (shapeCast S2x16x1x2048 (Host.reduceAdd (Host.negf s) (constant S_ .f32 0x00000000#32) reducesTo_S2x16x2048x2048_S2x16x2048_d2 h_S_) shapeCasts_S2x16x2048_S2x16x1x2048)
    (constant S_ .f32 0x00000000#32) reducesTo_S2x16x1x2048_S2x16x2048_d2 h_S_
def rRowSum (s : FVec F S2x16x2048x2048 .f32) : FVec F S2x16x2048 .f32 :=
  Host.reduceAdd (shapeCast S2x16x2048x1 (rowsAdd s) shapeCasts_S2x16x2048_S2x16x2048x1) (constant S_ .f32 0x00000000#32) reducesTo_S2x16x2048x1_S2x16x2048_d3 h_S_
def rDc (s : FVec F S2x16x2048x2048 .f32) : FVec F S2x2048x16 .f32 :=
  transpose S2x2048x16 [0, 2, 1] (addf (rColSum s) (rRowSum s)) transposes_S2x16x2048_S2x2048x16_0_2_1

variable (m : (ℓ : Loc nD τ sig) → Buf (Elt F) ℓ) (c : Dev nD)

def rZ : FVec F S2x16x2048x2048 .f32 :=
  rLogits (m ((c.tc : Thread nD τ).loc main_arg0)) (m ((c.tc : Thread nD τ).loc main_arg1)) (rDecay (m ((c.tc : Thread nD τ).loc main_arg3)))
def rS : FVec F S2x16x2048x2048 .f32 :=
  rDs (rZ m c) (m ((c.tc : Thread nD τ).loc main_arg2)) (m ((c.tc : Thread nD τ).loc main_arg4))

theorem res2_eq : res_out2 m c = rDv (rZ m c) (m ((c.tc : Thread nD τ).loc main_arg4)) := by
  unfold res_out2 res_main_v51; rfl
theorem res0_eq : res_out0 m c = rDq (rS m c) (m ((c.tc : Thread nD τ).loc main_arg1)) := by
  unfold res_out0 res_main_v78; rfl
theorem res1_eq : res_out1 m c = rDk (rS m c) (m ((c.tc : Thread nD τ).loc main_arg0)) := by
  unfold res_out1 res_main_v76; rfl
theorem res3_eq : res_out3 m c = rDc (rS m c) := by
  unfold res_out3 res_main_v79; rfl

end Cert.ReferenceIdeal.Value

end
-- ==== Proof.RefValue.lean ====
module

public import proofs.«01_k».proof.Proof.RefTerm
public import proofs.«01_k».proof.Proof.Reals

/-! The reference's results over the reals: where the arguments' entries are real numbers, they are
    `Attention.gradQ`, `gradK`, `gradV` and `gradC`. -/

@[expose] public section

set_option maxRecDepth 16384

noncomputable section

namespace Cert.ReferenceIdeal.Value

open Cert.ReferenceIdeal Cert.ReferenceIdeal.Gen Idealize.ShloMosaic Idealize.ShloMosaic.TcCoe Attention

/-! ## The steps at an index -/

section
variable (q k v ct : FVec Ideal S2x2048x16x64 .f32) (d : FVec Ideal S2x16x2048 .f32) (c : FVec Ideal S2x2048x16 .f32) (z s : FVec Ideal S2x16x2048x2048 .f32)
  (p : FVec Ideal S2x16x2048x1 .f32)

theorem rDecay_read (b : Fin 2) (h : Fin 16) (i : Fin 2048) : rDecay c (ix3 b h i) = c (ix3 b i h) := by
  pointwise [rDecay]
theorem rCol_read (b : Fin 2) (h : Fin 16) (i : Fin 2048) (o : Fin 1) : rCol d (ix4 b h i o) = d (ix3 b h i) := by
  pointwise [rCol]
theorem rSpread_read (b : Fin 2) (h : Fin 16) (i j : Fin 2048) : rSpread p (ix4 b h i j) = p (ix4 b h i 0) := by
  pointwise [rSpread]
theorem rKeep_read (b : Fin 2) (h : Fin 16) (i j : Fin 2048) : rKeep (ix4 b h i j) = IntOp.cmpi .sle (BitVec.ofNat 32 j) (BitVec.ofNat 32 i) := by
  pointwise [rKeep, rMask]
theorem rScore_read (b : Fin 2) (h : Fin 16) (i j : Fin 2048) :
    rScore q k d (ix4 b h i j) = (∑ x : Fin 64, q (ix4 b i h x) * k (ix4 b j h x)) * Ideal.ofBits .f32 0x3E000000#32 + (d (ix3 b h i) - d (ix3 b h j)) := by
  pointwise [rScore]
theorem rLogits_read (b : Fin 2) (h : Fin 16) (i j : Fin 2048) :
    rLogits q k d (ix4 b h i j) = Scalar.select (rKeep (ix4 b h i j)) (rScore q k d (ix4 b h i j)) (Ideal.ofBits .f32 0xFF800000#32) := by
  pointwise [rLogits]
theorem rMax_read (b : Fin 2) (h : Fin 16) (i : Fin 2048) :
    rMax z (ix3 b h i) = (Finset.univ : Finset (Fin 2048)).fold max ⊥ fun j => z (ix4 b h i j) := by
  rw [rMax, Host.reduce_eq_fold, Shape.ReducesTo.fold_fiber_r4_a3]
  rw [← bits_bot]
  rfl
theorem rMax2_read (b : Fin 2) (h : Fin 16) (i : Fin 2048) : rMax2 z (ix3 b h i) = rMax z (ix3 b h i) := by
  rw [rMax2, max_at, splat_at, bits_bot]
  exact max_eq_right bot_le
theorem rowsAdd_read (b : Fin 2) (h : Fin 16) (i : Fin 2048) : rowsAdd z (ix3 b h i) = ∑ j : Fin 2048, z (ix4 b h i j) := by
  pointwise [rowsAdd]
theorem rEx_read (b : Fin 2) (h : Fin 16) (i j : Fin 2048) : rEx z (ix4 b h i j) = Ideal.exp (z (ix4 b h i j) - rMax z (ix3 b h i)) := by
  rw [rEx, exp_at, sub_at, rSpread_read, rCol_read, rMax2_read]
theorem rSum_read (b : Fin 2) (h : Fin 16) (i : Fin 2048) (o : Fin 1) : rSum z (ix4 b h i o) = ∑ j : Fin 2048, rEx z (ix4 b h i j) := by
  rw [rSum, rCol_read, rowsAdd_read]
theorem rProb_read (b : Fin 2) (h : Fin 16) (i j : Fin 2048) : rProb z (ix4 b h i j) = Ideal.div (rEx z (ix4 b h i j)) (rSum z (ix4 b h i 0)) := by
  rw [rProb, div_at, rSpread_read]
theorem rCt_read (b : Fin 2) (h : Fin 16) (x : Fin 64) (i : Fin 2048) : rCt ct (ix4 b h x i) = ct (ix4 b i h x) := by
  pointwise [rCt]
theorem rDv_read (b : Fin 2) (h : Fin 16) (i : Fin 2048) (x : Fin 64) :
    rDv z ct (ix4 b i h x) = ∑ j : Fin 2048, rCt ct (ix4 b h x j) * rProb z (ix4 b h j i) := by
  pointwise [rDv]
theorem rDp_read (b : Fin 2) (h : Fin 16) (i j : Fin 2048) :
    rDp v ct (ix4 b h i j) = ∑ x : Fin 64, rCt ct (ix4 b h x i) * v (ix4 b j h x) := by
  pointwise [rDp]
theorem rInv_read (b : Fin 2) (h : Fin 16) (i : Fin 2048) (o : Fin 1) :
    rInv z (ix4 b h i o) = Ideal.div (Ideal.ofBits .f32 0x3F800000#32) (rSum z (ix4 b h i o) * rSum z (ix4 b h i o)) := by
  rw [rInv, div_at, splat_at, mul_at]
theorem cast_col (b : Fin 2) (h : Fin 16) (i : Fin 2048) (o : Fin 1) :
    shapeCast S2x16x2048x1 d shapeCasts_S2x16x2048_S2x16x2048x1 (ix4 b h i o) = d (ix3 b h i) := by
  pointwise
theorem cast_row (b : Fin 2) (h : Fin 16) (i : Fin 2048) (o : Fin 1) :
    shapeCast S2x16x1x2048 d shapeCasts_S2x16x2048_S2x16x1x2048 (ix4 b h o i) = d (ix3 b h i) := by
  pointwise
theorem rDl_read (b : Fin 2) (h : Fin 16) (i : Fin 2048) (o : Fin 1) :
    rDl z v ct (ix4 b h i o) = -∑ j : Fin 2048, rDp v ct (ix4 b h i j) * rInv z (ix4 b h i 0) * rEx z (ix4 b h i j) := by
  rw [rDl, neg_at, cast_col, rowsAdd_read]
  refine congrArg (fun x : EReal => -x) (Finset.sum_congr rfl fun j _ => ?_)
  rw [mul_at, mul_at, rSpread_read]
theorem rDlRow_read (b : Fin 2) (h : Fin 16) (i j : Fin 2048) : rDlRow z v ct (ix4 b h i j) = rDl z v ct (ix4 b h i 0) := by
  pointwise [rDlRow]
  exact Fin.sum_univ_one _
theorem rDs_read (b : Fin 2) (h : Fin 16) (i j : Fin 2048) :
    rDs z v ct (ix4 b h i j) = Scalar.select (rKeep (ix4 b h i j))
      ((Ideal.div (rDp v ct (ix4 b h i j)) (rSum z (ix4 b h i 0)) + rDlRow z v ct (ix4 b h i j)) * rEx z (ix4 b h i j)) (Ideal.ofBits .f32 0x00000000#32) := by
  rw [rDs, select_at, mul_at, add_at, div_at, rSpread_read, splat_at]
theorem rDss_read (b : Fin 2) (h : Fin 16) (i j : Fin 2048) : rDss s (ix4 b h i j) = s (ix4 b h i j) * Ideal.ofBits .f32 0x3E000000#32 := by
  rw [rDss, mul_at, splat_at]
theorem rDk_read (b : Fin 2) (h : Fin 16) (i : Fin 2048) (x : Fin 64) :
    rDk s q (ix4 b i h x) = ∑ j : Fin 2048, rDss s (ix4 b h j i) * q (ix4 b j h x) := by
  pointwise [rDk]
theorem rDq_read (b : Fin 2) (h : Fin 16) (i : Fin 2048) (x : Fin 64) :
    rDq s k (ix4 b i h x) = ∑ j : Fin 2048, rDss s (ix4 b h i j) * k (ix4 b j h x) := by
  pointwise [rDq]
theorem rColSum_read (b : Fin 2) (h : Fin 16) (i : Fin 2048) : rColSum s (ix3 b h i) = ∑ j : Fin 2048, -s (ix4 b h j i) := by
  pointwise [rColSum]
  exact Fin.sum_univ_one _
theorem rRowSum_read (b : Fin 2) (h : Fin 16) (i : Fin 2048) : rRowSum s (ix3 b h i) = ∑ j : Fin 2048, s (ix4 b h i j) := by
  pointwise [rRowSum, rowsAdd]
  exact Fin.sum_univ_one _
theorem rDc_read (b : Fin 2) (h : Fin 16) (i : Fin 2048) : rDc s (ix3 b i h) = rColSum s (ix3 b h i) + rRowSum s (ix3 b h i) := by
  pointwise [rDc]
end

/-! ## Over the reals -/

section
variable {q k v ct : FVec Ideal S2x2048x16x64 .f32} {c : FVec Ideal S2x2048x16 .f32} {Q K V T : ℕ → ℕ → ℕ → ℕ → ℝ} {C : ℕ → ℕ → ℕ → ℝ}
  (hq : ∀ (b : Fin 2) (i : Fin 2048) (h : Fin 16) (l : Fin 64), q (ix4 b i h l) = (Q b i h l : EReal))
  (hk : ∀ (b : Fin 2) (i : Fin 2048) (h : Fin 16) (l : Fin 64), k (ix4 b i h l) = (K b i h l : EReal))
  (hv : ∀ (b : Fin 2) (i : Fin 2048) (h : Fin 16) (l : Fin 64), v (ix4 b i h l) = (V b i h l : EReal))
  (ht : ∀ (b : Fin 2) (i : Fin 2048) (h : Fin 16) (l : Fin 64), ct (ix4 b i h l) = (T b i h l : EReal))
  (hc : ∀ (b : Fin 2) (i : Fin 2048) (h : Fin 16), c (ix3 b i h) = (C b i h : EReal))

section
include hq hk hc

theorem logits_real (b : Fin 2) (h : Fin 16) (i j : Fin 2048) :
    rLogits q k (rDecay c) (ix4 b h i j) = if (j : ℕ) ≤ i then (score Q K C b h i j : EReal) else ⊥ := by
  rw [rLogits_read, rKeep_read, bits_bot, select_le (by omega) (by omega), rScore_read, bits_eighth, rDecay_read, rDecay_read, hc, hc]
  simp only [hq, hk]
  rw [coe_dot, ← EReal.coe_sub, ← EReal.coe_mul, ← EReal.coe_add]
  rfl

theorem max_real (b : Fin 2) (h : Fin 16) (i : Fin 2048) : ∃ M : ℝ, rMax (rLogits q k (rDecay c)) (ix3 b h i) = (M : EReal) := by
  rw [rMax_read]
  exact row_max (fun j => score Q K C b h i j) i _ fun j => logits_real hq hk hc b h i j

theorem ex_real (b : Fin 2) (h : Fin 16) (i : Fin 2048) {M : ℝ} (hM : rMax (rLogits q k (rDecay c)) (ix3 b h i) = (M : EReal)) (j : Fin 2048) :
    rEx (rLogits q k (rDecay c)) (ix4 b h i j) = ((if (j : ℕ) ≤ i then Real.exp (score Q K C b h i j - M) else 0 : ℝ) : EReal) := by
  rw [rEx_read, hM, logits_real hq hk hc, exp_masked]

theorem sum_real (b : Fin 2) (h : Fin 16) (i : Fin 2048) {M : ℝ} (hM : rMax (rLogits q k (rDecay c)) (ix3 b h i) = (M : EReal)) (o : Fin 1) :
    rSum (rLogits q k (rDecay c)) (ix4 b h i o) = ((rowSum Q K C b h i * Real.exp (-M) : ℝ) : EReal) := by
  rw [rSum_read]
  simp only [ex_real hq hk hc b h i hM]
  rw [coe_sum, rowSum_shift]

theorem prob_real (b : Fin 2) (h : Fin 16) (i j : Fin 2048) :
    rProb (rLogits q k (rDecay c)) (ix4 b h i j) = (prob Q K C b h i j : EReal) := by
  obtain ⟨M, hM⟩ := max_real hq hk hc b h i
  rw [rProb_read, ex_real hq hk hc b h i hM, sum_real hq hk hc b h i hM,
    div_reals _ (mul_pos (rowSum_pos Q K C b h i.isLt) (Real.exp_pos _)).ne', prob_shift]

include ht in
theorem dv_real (b : Fin 2) (h : Fin 16) (i : Fin 2048) (x : Fin 64) :
    rDv (rLogits q k (rDecay c)) ct (ix4 b i h x) = (gradV Q K T C b i h x : EReal) := by
  rw [rDv_read]
  simp only [rCt_read, ht, prob_real hq hk hc]
  rw [coe_dot, gradV]
  exact congrArg (fun x : ℝ => (x : EReal)) (Finset.sum_congr rfl fun j _ => mul_comm _ _)

include hv ht in
theorem ds_real (b : Fin 2) (h : Fin 16) (i j : Fin 2048) :
    rDs (rLogits q k (rDecay c)) v ct (ix4 b h i j) = (dscore Q K V T C b h i j : EReal) := by
  obtain ⟨M, hM⟩ := max_real hq hk hc b h i
  have hL := (mul_pos (rowSum_pos Q K C b h i.isLt) (Real.exp_pos (-M))).ne'
  have hP : ∀ j : Fin 2048, rDp v ct (ix4 b h i j) = (dprob V T b h i j : EReal) := fun j => by
    rw [rDp_read]
    simp only [rCt_read, ht, hv]
    rw [coe_dot, dprob]
  have hsh := fun j : ℕ => prob_shift Q K C b h i j M
  rw [rDs_read, rKeep_read, select_le (by omega) (by omega), rDlRow_read, rDl_read, rInv_read]
  simp only [hP, ex_real hq hk hc b h i hM, sum_real hq hk hc b h i hM]
  rw [bits_one, ← EReal.coe_mul, div_reals _ (mul_ne_zero hL hL), div_reals _ hL]
  simp only [← EReal.coe_mul]
  rw [coe_sum, ← EReal.coe_neg, ← EReal.coe_add, ← EReal.coe_mul, show Ideal.ofBits .f32 0x00000000#32 = ((0 : ℝ) : EReal) by simp [Ideal.ofBits, Ideal.ieee]]
  generalize hLL : rowSum Q K C b h i * Real.exp (-M) = L at *
  have hsum : ∑ k' : Fin 2048, prob Q K C b h i k' * dprob V T b h i k'
      = (∑ j : Fin 2048, dprob V T b h i j * (1 / (L * L)) * (if (j : ℕ) ≤ i then Real.exp (score Q K C b h i j - M) else 0)) * L := by
    rw [Finset.sum_mul]
    refine Finset.sum_congr rfl fun j _ => ?_
    rw [← hsh j]; field_simp
  by_cases hj : (j : ℕ) ≤ i
  · rw [if_pos hj]
    refine congrArg (fun x : ℝ => (x : EReal)) ?_
    rw [dscore, hsum, ← hsh j]
    field_simp
    ring
  · rw [if_neg hj]
    refine congrArg (fun x : ℝ => (x : EReal)) ?_
    rw [dscore, ← hsh j, if_neg hj, zero_div, zero_mul]
end

section
variable {s : FVec Ideal S2x16x2048x2048 .f32}
  (hs : ∀ (b : Fin 2) (h : Fin 16) (i j : Fin 2048), s (ix4 b h i j) = (dscore Q K V T C b h i j : EReal))
include hs

include hk in
theorem dq_real (b : Fin 2) (h : Fin 16) (i : Fin 2048) (x : Fin 64) : rDq s k (ix4 b i h x) = (gradQ Q K V T C b i h x : EReal) := by
  rw [rDq_read]
  simp only [rDss_read, hs, hk, bits_eighth, ← EReal.coe_mul]
  rw [coe_sum, gradQ, Finset.sum_mul]
  exact congrArg (fun x : ℝ => (x : EReal)) (Finset.sum_congr rfl fun j _ => by ring)

include hq in
theorem dk_real (b : Fin 2) (h : Fin 16) (i : Fin 2048) (x : Fin 64) : rDk s q (ix4 b i h x) = (gradK Q K V T C b i h x : EReal) := by
  rw [rDk_read]
  simp only [rDss_read, hs, hq, bits_eighth, ← EReal.coe_mul]
  rw [coe_sum, gradK, Finset.sum_mul]
  exact congrArg (fun x : ℝ => (x : EReal)) (Finset.sum_congr rfl fun j _ => by ring)

theorem dc_real (b : Fin 2) (h : Fin 16) (i : Fin 2048) : rDc s (ix3 b i h) = (gradC Q K V T C b i h : EReal) := by
  rw [rDc_read, rColSum_read, rRowSum_read]
  simp only [hs, ← EReal.coe_neg]
  rw [coe_sum, coe_sum, ← EReal.coe_add, gradC, Finset.sum_neg_distrib]
  exact congrArg (fun x : ℝ => (x : EReal)) (by ring)
end
end

end Cert.ReferenceIdeal.Value

end
-- ==== Proof.Value.lean ====
module

public import proofs.«01_k».proof.Proof.Frames
public import proofs.«01_k».proof.Proof.Finite
public import proofs.«01_k».proof.Proof.Results
public import proofs.«01_k».proof.Proof.RefValue

/-! The value claim: from arguments whose entries are real numbers, the kernel's program and the reference end with the
same four gradients. -/

@[expose] public section

set_option maxRecDepth 16384

noncomputable section

namespace Cert.Proof

open Idealize.ShloMosaic Idealize.SL.Sem Attention

local instance : Cert.KernelIdeal.Facts := Cert.KernelIdeal.Gen.facts
local instance : Cert.ReferenceIdeal.Facts := Cert.ReferenceIdeal.Gen.facts
local instance : Cert.Pre_finite.Facts := Cert.Pre_finite.Gen.facts

abbrev Rows : Shape := ⟨4, ![2, 2048, 16, 64]⟩
abbrev Cols : Shape := ⟨3, ![2, 2048, 16]⟩

/-- The real entries of an array of rows, and nothing outside it. -/
def entries4 (x : FVec Ideal Rows .f32) (b i h l : ℕ) : ℝ :=
  if e : b < 2 ∧ i < 2048 ∧ h < 16 ∧ l < 64 then EReal.toReal (x (ix4 ⟨b, e.1⟩ ⟨i, e.2.1⟩ ⟨h, e.2.2.1⟩ ⟨l, e.2.2.2⟩)) else 0
def entries3 (x : FVec Ideal Cols .f32) (b i h : ℕ) : ℝ :=
  if e : b < 2 ∧ i < 2048 ∧ h < 16 then EReal.toReal (x (ix3 ⟨b, e.1⟩ ⟨i, e.2.1⟩ ⟨h, e.2.2⟩)) else 0

theorem entries4_eq {x : FVec Ideal Rows .f32} (hx : ∀ i, x i = ((EReal.toReal (x i) : ℝ) : EReal)) (b : Fin 2) (i : Fin 2048) (h : Fin 16) (l : Fin 64) :
    x (ix4 b i h l) = ((entries4 x b i h l : ℝ) : EReal) := by
  rw [entries4, dif_pos ⟨b.isLt, i.isLt, h.isLt, l.isLt⟩]
  exact hx _
theorem entries3_eq {x : FVec Ideal Cols .f32} (hx : ∀ i, x i = ((EReal.toReal (x i) : ℝ) : EReal)) (b : Fin 2) (i : Fin 2048) (h : Fin 16) :
    x (ix3 b i h) = ((entries3 x b i h : ℝ) : EReal) := by
  rw [entries3, dif_pos ⟨b.isLt, i.isLt, h.isLt⟩]
  exact hx _

/-- Two arrays of rows with the same real entries are one. -/
theorem rows_ext {x y : FVec Ideal Rows .f32} {f : ℕ → ℕ → ℕ → ℕ → ℝ}
    (hx : ∀ (b : Fin 2) (i : Fin 2048) (h : Fin 16) (l : Fin 64), x (ix4 b i h l) = ((f b i h l : ℝ) : EReal))
    (hy : ∀ (b : Fin 2) (i : Fin 2048) (h : Fin 16) (l : Fin 64), y (ix4 b i h l) = ((f b i h l : ℝ) : EReal)) : x = y := by
  funext j
  obtain ⟨b, i, h, l, rfl⟩ : ∃ (b : Fin 2) (i : Fin 2048) (h : Fin 16) (l : Fin 64), j = ix4 b i h l := ⟨_, _, _, _, eq_ix4 j⟩
  rw [hx, hy]
theorem cols_ext {x y : FVec Ideal Cols .f32} {f : ℕ → ℕ → ℕ → ℝ}
    (hx : ∀ (b : Fin 2) (i : Fin 2048) (h : Fin 16), x (ix3 b i h) = ((f b i h : ℝ) : EReal))
    (hy : ∀ (b : Fin 2) (i : Fin 2048) (h : Fin 16), y (ix3 b i h) = ((f b i h : ℝ) : EReal)) : x = y := by
  funext j
  obtain ⟨b, i, h, rfl⟩ : ∃ (b : Fin 2) (i : Fin 2048) (h : Fin 16), j = ix3 b i h := ⟨_, _, _, eq_ix3 j⟩
  rw [hx, hy]

section
variable (m : (ℓ : Loc Cert.KernelIdeal.nD Cert.KernelIdeal.τ Cert.KernelIdeal.sig) → Buf (Elt Ideal) ℓ) (ρ : Dev Cert.KernelIdeal.nD → PrngReg)
open Cert.KernelIdeal Cert.KernelIdeal.Gen Idealize.ShloMosaic.TcCoe

/-- What the lines after the kernel leave in a buffer. -/
abbrev left (c : Dev nD) (b : Ref sig .tc) : Buf (Elt Ideal) ((c : Thread nD τ).loc b) := Pipeline.afterTail₀ cfgs (dats m) 0 (V0 m) [hostOps1] c b

/-- The kernel's program, read at its results and arguments. -/
theorem run_kernel : θ_run (defs (F := Ideal)) (onTc (τ := τ) (main (F := Ideal))) ⟨m, fun _ => 0, ρ⟩ (fun r => ∀ c : Dev nD,
      r.2.mem ((c.tc : Thread nD τ).loc main_v112) = left m c main_v112
      ∧ r.2.mem ((c.tc : Thread nD τ).loc main_v114) = left m c main_v114
      ∧ r.2.mem ((c.tc : Thread nD τ).loc main_v116) = left m c main_v116
      ∧ r.2.mem ((c.tc : Thread nD τ).loc main_v108) = left m c main_v108
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h.1.rest_eq c main_v112 (Pipeline.mem_restRefs_of main_v112 (by decide) (by decide)),
      h.1.rest_eq c main_v114 (Pipeline.mem_restRefs_of main_v114 (by decide) (by decide)),
      h.1.rest_eq c main_v116 (Pipeline.mem_restRefs_of main_v116 (by decide) (by decide)),
      h.1.rest_eq c main_v108 (Pipeline.mem_restRefs_of main_v108 (by decide) (by decide)), h.2 c⟩)
    (θ_run_and (run_main m ρ) (unchanged m ρ))
end

/-- The claim. -/
theorem same_gradients : Cert.algebraic_KernelIdeal_ReferenceIdeal_pre_finite := fun m g m' g' hpre hag => by
  have hrun := Cert.ReferenceIdeal.Value.run (F := Ideal) m' g'
  refine ⟨fun c => left m c Cert.KernelIdeal.main_v112, fun c => left m c Cert.KernelIdeal.main_v114, fun c => left m c Cert.KernelIdeal.main_v116,
    fun c => left m c Cert.KernelIdeal.main_v108, run_kernel m g, (θ_run Cert.ReferenceIdeal.defs _ _).mono (fun r h c => ?_) hrun⟩
  obtain ⟨a0, a1, a2, a3, a4⟩ := hag c
  obtain ⟨r0, r1, r2, r3, r4⟩ := Cert.Pre_finite.Value.real_args _ _ _ _ _ (hpre c)
  have hq := entries4_eq r0
  have hk := entries4_eq r1
  have hv := entries4_eq r2
  have hc := entries3_eq r3
  have ht := entries4_eq r4
  have hq' : ∀ (b : Fin 2) (i : Fin 2048) (h : Fin 16) (l : Fin 64), (m' ((c.tc : Thread Cert.ReferenceIdeal.nD Cert.ReferenceIdeal.τ).loc Cert.ReferenceIdeal.main_arg0) : FVec Ideal Rows .f32) (ix4 b i h l)
      = ((entries4 (m ((c.tc : Thread Cert.KernelIdeal.nD Cert.KernelIdeal.τ).loc Cert.KernelIdeal.main_arg0)) b i h l : ℝ) : EReal) := fun b i h l => (congrFun a0 _).trans (hq b i h l)
  have hk' : ∀ (b : Fin 2) (i : Fin 2048) (h : Fin 16) (l : Fin 64), (m' ((c.tc : Thread Cert.ReferenceIdeal.nD Cert.ReferenceIdeal.τ).loc Cert.ReferenceIdeal.main_arg1) : FVec Ideal Rows .f32) (ix4 b i h l)
      = ((entries4 (m ((c.tc : Thread Cert.KernelIdeal.nD Cert.KernelIdeal.τ).loc Cert.KernelIdeal.main_arg1)) b i h l : ℝ) : EReal) := fun b i h l => (congrFun a1 _).trans (hk b i h l)
  have hv' : ∀ (b : Fin 2) (i : Fin 2048) (h : Fin 16) (l : Fin 64), (m' ((c.tc : Thread Cert.ReferenceIdeal.nD Cert.ReferenceIdeal.τ).loc Cert.ReferenceIdeal.main_arg2) : FVec Ideal Rows .f32) (ix4 b i h l)
      = ((entries4 (m ((c.tc : Thread Cert.KernelIdeal.nD Cert.KernelIdeal.τ).loc Cert.KernelIdeal.main_arg2)) b i h l : ℝ) : EReal) := fun b i h l => (congrFun a2 _).trans (hv b i h l)
  have hc' : ∀ (b : Fin 2) (i : Fin 2048) (h : Fin 16), (m' ((c.tc : Thread Cert.ReferenceIdeal.nD Cert.ReferenceIdeal.τ).loc Cert.ReferenceIdeal.main_arg3) : FVec Ideal Cols .f32) (ix3 b i h)
      = ((entries3 (m ((c.tc : Thread Cert.KernelIdeal.nD Cert.KernelIdeal.τ).loc Cert.KernelIdeal.main_arg3)) b i h : ℝ) : EReal) := fun b i h => (congrFun a3 _).trans (hc b i h)
  have ht' : ∀ (b : Fin 2) (i : Fin 2048) (h : Fin 16) (l : Fin 64), (m' ((c.tc : Thread Cert.ReferenceIdeal.nD Cert.ReferenceIdeal.τ).loc Cert.ReferenceIdeal.main_arg4) : FVec Ideal Rows .f32) (ix4 b i h l)
      = ((entries4 (m ((c.tc : Thread Cert.KernelIdeal.nD Cert.KernelIdeal.τ).loc Cert.KernelIdeal.main_arg4)) b i h l : ℝ) : EReal) := fun b i h l => (congrFun a4 _).trans (ht b i h l)
  have hs : ∀ (b : Fin 2) (h : Fin 16) (i j : Fin 2048), Cert.ReferenceIdeal.Value.rS m' c (ix4 b h i j) = _ :=
    Cert.ReferenceIdeal.Value.ds_real hq' hk' hv' ht' hc'
  refine ⟨(h c).1.trans ?_, (h c).2.1.trans ?_, (h c).2.2.1.trans ?_, (h c).2.2.2.1.trans ?_, (h c).2.2.2.2⟩
  · exact (Cert.ReferenceIdeal.Value.res0_eq m' c).trans
      (rows_ext (fun b i h l => Cert.ReferenceIdeal.Value.dq_real hk' hs b h i l) (Cert.KernelIdeal.Value.v112_real hq hk hv hc ht))
  · exact (Cert.ReferenceIdeal.Value.res1_eq m' c).trans
      (rows_ext (fun b i h l => Cert.ReferenceIdeal.Value.dk_real hq' hs b h i l) (Cert.KernelIdeal.Value.v114_real hq hk hv hc ht))
  · exact (Cert.ReferenceIdeal.Value.res2_eq m' c).trans
      (rows_ext (fun b i h l => Cert.ReferenceIdeal.Value.dv_real hq' hk' ht' hc' b h i l) (Cert.KernelIdeal.Value.v116_real hq hk hv hc ht))
  · exact (Cert.ReferenceIdeal.Value.res3_eq m' c).trans
      (cols_ext (fun b i h => Cert.ReferenceIdeal.Value.dc_real hs b h i) (Cert.KernelIdeal.Value.v108_real hq hk hv hc ht))

end Cert.Proof

end
-- ==== Proof.Weight.lean ====
module

public import proofs.«01_k».proof.Defs
public import proofs.«01_k».proof.Proof.Gen.Kernel2
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit.Geometry

/-! The gradient of a section of the projection's weight.

    The call goes through the tokens in four tiles of 1024 and adds each tile's product to what the tiles before left, so
    that after a tile the accumulator holds the sum over the tokens up to the tile's end. -/

@[expose] public section

set_option maxRecDepth 16384

noncomputable section

namespace Cert.Kernel2Ideal.Gen

open Idealize.ShloMosaic Idealize.ShloMosaic.TcCoe Idealize.SL.Sem
open Idealize.ShloMosaic.Pipeline (Dat)

theorem zero2 : (![0, 0] : Fin 2 → Nat) = fun _ => 0 := funext fun a => by fin_cases a <;> rfl

section
variable {F : FTy → Type} [FloatOps F]
variable (c : Dev nD) (i : grid0.Coords) (a1 : Memref sig .tc .vmem S1024x1024 .bf16) (h1 : a1.IsWhole)
  (a2 : Memref sig .tc .vmem S1024x1024 .bf16) (h2 : a2.IsWhole) (a3 : Memref sig .tc .vmem S1024x1024 .bf16) (h3 : a3.IsWhole)
  (a4 : Memref sig .tc .vmem S1024x1024 .f32) (h4 : a4.IsWhole) (x0 x1 : Vec F S1024x1024 .bf16) (xs : Vec F S1024x1024 .f32)

/-- The first tile's accumulator: the tile's product added to zeros. -/
theorem acc_first (hc0 : cond0_0 i) (hc1 : ¬cond0_1 i) :
    sout0_A_0 c i a1 h1 a2 h2 a3 h3 a4 h4 hc0 hc1 x0 x1 = k0_pay2 k0_pay1 x1 x0 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1024x1024) zero2, View.readCov_unit_zero (S := S1024x1024) _ zero2]
  simp only [View.readAt_eq_ld, h1.read_unread, h2.read_unread, View.ld_unit_zero (S := S1024x1024) zero2]

/-- A middle tile's accumulator. -/
theorem acc_middle (hc0 : ¬cond0_0 i) (hc1 : ¬cond0_1 i) :
    sout0_B_0 c i a1 h1 a2 h2 a3 h3 a4 h4 hc0 hc1 x0 x1 xs = k0_pay2 xs x1 x0 := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero zero2]
  simp only [View.readAt_eq_ld, h1.read_unread, h2.read_unread, h4.read_unread, View.ld_unit_zero (S := S1024x1024) zero2]

/-- What the last tile writes. -/
theorem out_last (hc0 : ¬cond0_0 i) (hc1 : cond0_1 i) :
    out0_C_2 c i a1 h1 a2 h2 a3 h3 a4 h4 hc0 hc1 x0 x1 xs = k0_pay3 (k0_pay2 xs x1 x0) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero zero2, View.readCov_unit_zero (S := S1024x1024) _ zero2]
  simp only [View.readAt_eq_ld, h1.read_unread, h2.read_unread, h4.read_unread, View.ld_unit_zero (S := S1024x1024) zero2]
end

theorem tile_apply (xs : Vec Ideal S1024x1024 .f32) (x1 x0 : Vec Ideal S1024x1024 .bf16) (w d : Fin 1024) :
    k0_pay2 xs x1 x0 (ix2 w d) = (xs (ix2 w d) + ∑ r : Fin 1024, (x1 (ix2 r w) : EReal) * x0 (ix2 r d) : EReal) := by
  pointwise [k0_pay2]

theorem zeros_apply (j : S1024x1024.Idx) : (k0_pay1 j : Ideal .f32) = (0 : EReal) := by
  obtain ⟨a, b, rfl⟩ : ∃ a b, j = ix2 a b := ⟨_, _, eq_ix2 j⟩
  pointwise [k0_pay1]

theorem last_apply (v : Vec Ideal S1024x1024 .f32) (j : S1024x1024.Idx) : (k0_pay3 v j : EReal) = v j := rfl

theorem tok0 : ∀ t : Fin cfg0.N, win0_0.index t = ![t.val, 0] := (by decide +kernel : ∀ t : Fin grid0.N, _)
theorem tok1 : ∀ t : Fin cfg0.N, win0_1.index t = ![t.val, 0] := (by decide +kernel : ∀ t : Fin grid0.N, _)
theorem tile_lt (t : Fin cfg0.N) (r : Fin 1024) : 1024 * t.val + r.val < 4096 := by
  have := lt_of_lt_of_eq t.isLt (show cfg0.N = 4 from N_0); omega

variable (m : (ℓ : Loc nD τ sig) → Buf (Elt Ideal) ℓ) (c : Dev nD)

/-- The call's arguments: the normalised rows and the section's cotangents. -/
def hA : S4096x1024.Idx → EReal := (V m c main_arg0 : FVec Ideal S4096x1024 .bf16)
def zA : S4096x1024.Idx → EReal := (V m c main_arg1 : FVec Ideal S4096x1024 .bf16)

theorem hblk (t : Fin cfg0.N) (r : Fin 1024) (l : Fin 1024) :
    (iblk m c 0 t : FVec Ideal S1024x1024 .bf16) (ix2 r l) = hA m c (ix2 ⟨1024 * t.val + r.val, tile_lt t r⟩ l) := by
  unfold hA
  blk_simp [iblk]
  congr 1
  funext a
  fin_cases a <;> refine Fin.ext ?_ <;> blk_simp [tok0] <;> simp [ix2, Nat.mul_comm]

theorem zblk (t : Fin cfg0.N) (r : Fin 1024) (l : Fin 1024) :
    (iblk m c 1 t : FVec Ideal S1024x1024 .bf16) (ix2 r l) = zA m c (ix2 ⟨1024 * t.val + r.val, tile_lt t r⟩ l) := by
  unfold zA
  blk_simp [iblk]
  congr 1
  funext a
  fin_cases a <;> refine Fin.ext ?_ <;> blk_simp [tok1] <;> simp [ix2, Nat.mul_comm]

/-- One token's part of the gradient. -/
def part (w d : Fin 1024) (k : ℕ) : EReal :=
  if h : k < 4096 then zA m c (ix2 ⟨k, h⟩ w) * hA m c (ix2 ⟨k, h⟩ d) else 0

theorem tile_adds (xs : FVec Ideal S1024x1024 .f32) (t : Fin cfg0.N) (w d : Fin 1024) :
    (k0_pay2 xs (iblk m c 1 t) (iblk m c 0 t) (ix2 w d) : EReal)
      = xs (ix2 w d) + ∑ r ∈ Finset.range 1024, part m c w d (1024 * t.val + r) := by
  rw [tile_apply, ← Fin.sum_univ_eq_sum_range (fun r => part m c w d (1024 * t.val + r)) 1024]
  refine congrArg (xs (ix2 w d) + ·) (Finset.sum_congr rfl fun r _ => ?_)
  rw [part, dif_pos (tile_lt t r)]
  exact congrArg₂ (fun x y : EReal => x * y) (zblk m c t r w) (hblk m c t r d)

/-- After tile `n`, which is not the last, the accumulator holds the sum over the tokens up to its end. -/
theorem acc_eq : ∀ (n : ℕ) (h : n < cfg0.N), n < 3 → ∀ w d : Fin 1024,
    ((outsAt0 m c n h).2 (ix2 w d) : EReal) = ∑ k ∈ Finset.range (1024 * (n + 1)), part m c w d k
  | 0, h, _, w, d => by
    rw [outsAt0_A m c ⟨0, h⟩ rfl (show ¬(0 % 4 = 3) by decide)]
    dsimp only
    rw [acc_first, tile_adds, zeros_apply, zero_add]
    simp
  | n + 1, h, h3, w, d => by
    rw [outsAt0_B m c ⟨n + 1, h⟩ (by dsimp only; omega) (by dsimp only; omega)]
    dsimp only
    rw [acc_middle, tile_adds]
    refine (congrArg (· + _) (acc_eq n (by omega) (by omega) w d)).trans ?_
    rw [Nat.mul_succ 1024 (n + 1), Finset.sum_range_add]

/-- The call's result. -/
def grad : FVec Ideal S1024x1024 .bf16 := fun j => (∑ k : Fin 4096, zA m c (ix2 k (j 0)) * hA m c (ix2 k (j 1)) : EReal)

theorem last_eq (t : Fin cfg0.N) (ht : t.val % 4 = 3) (w d : Fin 1024) :
    ((outsAt0 m c t.val t.isLt).1 (ix2 w d) : EReal) = grad m c (ix2 w d) := by
  have hN := lt_of_lt_of_eq t.isLt (show cfg0.N = 4 from N_0)
  have h3 : t.val = 3 := by omega
  rw [outsAt0_C m c t (by omega) ht]
  dsimp only
  rw [out_last, last_apply, tile_adds, acc_eq m c (t.val - 1) _ (by omega), h3]
  refine (Finset.sum_range_add (part m c w d) 3072 1024).symm.trans ?_
  rw [← Fin.sum_univ_eq_sum_range (part m c w d) 4096]
  refine Finset.sum_congr rfl fun k _ => ?_
  rw [part, dif_pos k.isLt]
  rfl

theorem out2 : ∀ t : Fin cfg0.N, win0_2.index t = ![0, 0] := (by decide +kernel : ∀ t : Fin grid0.N, _)

theorem array2 : (dats m 0 c).arrAt 2 cfg0.N = grad m c := by
  refine (dats m 0 c).arrAt_eq_of_covers 2 _ (by decide +kernel) fun t hf y => ?_
  obtain ⟨w, d, rfl⟩ : ∃ (w : Fin 1024) (d : Fin 1024), y = ix2 w d := ⟨_, _, eq_ix2 y⟩
  have hj : ((cfg0.win 2).blk t).view.emb (ix2 w d) = (ix2 w d : S1024x1024.Idx) := by
    funext a
    fin_cases a <;> refine Fin.ext ?_ <;> blk_simp [out2] <;> simp [ix2]
  rw [hj]
  blk_simp
  rw [after0_2]
  exact last_eq m c t ((flush0_2 t).mp hf) w d

end Cert.Kernel2Ideal.Gen

namespace Cert.Proof

open Idealize.ShloMosaic Idealize.ShloMosaic.TcCoe Idealize.SL.Sem

local instance weightIdeal : Cert.Kernel2Ideal.Facts := Cert.Kernel2Ideal.Gen.facts
local instance weightReference : Cert.Reference2Ideal.Facts := Cert.Reference2Ideal.Gen.facts

local instance weightWords : Cert.Kernel2.Facts := Cert.Kernel2.Gen.facts

theorem frame_weight_ideal : Cert.quiescent_Kernel2Ideal := fun m ρ _ => Cert.Kernel2Ideal.Gen.frame (F := Ideal) m ρ

/-- The two programs have one table of bodies. -/
theorem weight_table {F : FTy → Type} [FloatOps F] : Cert.Kernel2.defs (F := F) = Cert.Kernel2Ideal.defs := by
  refine congrArg (Pipeline.defs Cert.Kernel2Ideal.pcfgs) (congrArg Defs.onTc ?_)
  funext l x
  match l, x with
  | 0, (t, s) => rfl

/-- The call at words: the same run. -/
theorem frame_weight_bits : Cert.quiescent_Kernel2 := fun m ρ _ => by
  have h := Cert.Kernel2Ideal.Gen.frame (F := Bits) m ρ
  rw [← weight_table] at h
  exact h

theorem frame_weight_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem same_text : Cert.preserves_Kernel2_Kernel2Ideal := trivial

/-- The reference's product, at an index. -/
theorem reference_apply (dz h : Vec Ideal Cert.Reference2Ideal.S4096x1024 .bf16) (w d : Fin 1024) :
    (truncf .bf16 (Host.dotGeneral Cert.Reference2Ideal.dot_S4096x1024_S4096x1024_S1024x1024_0_0_1_1_n_n none
        (extf .f32 dz Cert.Reference2Ideal.Gen.bitsLt_bf16_f32) (extf .f32 h Cert.Reference2Ideal.Gen.bitsLt_bf16_f32))
      Cert.Reference2Ideal.Gen.bitsLt_bf16_f32 : FVec Ideal Cert.Reference2Ideal.S1024x1024 .bf16) (ix2 w d)
      = (∑ k : Fin 4096, (dz (ix2 k w) : EReal) * h (ix2 k d) : EReal) := by
  pointwise

theorem same_weight : Cert.algebraic_Kernel2Ideal_Reference2Ideal := by
  intro m ρ m' ρ' _ hargs
  refine ⟨fun c => Cert.Kernel2Ideal.Gen.grad m c, ?_, ?_⟩
  · exact (θ_run Cert.Kernel2Ideal.defs _ _).mono
      (fun r h c => ⟨(h c).1.trans (Cert.Kernel2Ideal.Gen.array2 m c), (h c).2⟩)
      (Cert.Kernel2Ideal.Value.run_blocks m ρ)
  · refine (θ_run Cert.Reference2Ideal.defs _ _).mono (fun r h c => ⟨(h c).1.trans ?_, (h c).2⟩)
      (Cert.Reference2Ideal.Value.run (F := Ideal) m' ρ')
    rw [(hargs c).1, (hargs c).2]
    funext j
    obtain ⟨w, d, rfl⟩ : ∃ (w d : Fin 1024), j = ix2 w d := ⟨_, _, eq_ix2 j⟩
    exact reference_apply _ _ w d

end Cert.Proof

end
-- ==== Proof.RowNorm.lean ====
module

public import proofs.«01_k».proof.Proof.Reals

/-! A row's reciprocal root mean square, and its gradient in the call's form and in the chain rule's. -/

@[expose] public section

noncomputable section

namespace Residual
open Idealize.ShloMosaic Attention
/-- A row's mean square, with the small constant. -/
def rowV (x : Fin 1024 → EReal) : EReal :=
  Ideal.div (∑ k, x k * x k) (Ideal.ofBits .f32 0x44800000#32) + Ideal.ofBits .f32 0x358637BD#32
/-- Its reciprocal root. -/
def rowR (x : Fin 1024 → EReal) : EReal := Ideal.rsqrt (rowV x)
/-- An entry of the gradient of a row, as the call computes it. -/
def rowX (x dh g o : Fin 1024 → EReal) (d : Fin 1024) : EReal :=
  o d + rowR x * (dh d * g d - x d * (rowR x * rowR x) * Ideal.div (∑ k, dh k * g k * x k) (Ideal.ofBits .f32 0x44800000#32))
/-- The part of the gradient which the norm's scale gives, as the chain rule writes it. -/
def rowS (x dh g : Fin 1024 → EReal) : EReal :=
  Ideal.div ((∑ k, x k * (dh k * g k)) * (Ideal.ofBits .f32 0xBF000000#32 * Ideal.div (rowR x) (rowV x))) (Ideal.ofBits .f32 0x44800000#32)

theorem bits_1024 : Ideal.ofBits .f32 0x44800000#32 = ((1024 : ℝ) : EReal) := by
  simp [Ideal.ofBits, Ideal.ieee]
  rw [← EReal.coe_mul]
  exact congrArg (fun x : ℝ => (x : EReal)) (by norm_num)

theorem bits_half : Ideal.ofBits .f32 0xBF000000#32 = ((-(1 / 2) : ℝ) : EReal) := by
  simp [Ideal.ofBits, Ideal.ieee]
  rw [← EReal.coe_mul]
  exact congrArg (fun x : ℝ => (x : EReal)) (by norm_num)

theorem bits_small : ∃ e : ℝ, 0 < e ∧ Ideal.ofBits .f32 0x358637BD#32 = (e : EReal) := by
  simp [Ideal.ofBits, Ideal.ieee]
  rw [← EReal.coe_mul]
  exact ⟨_, by positivity, rfl⟩

/-- Two equal multiples by a real number. -/
theorem mul_twice (y : EReal) (a : ℝ) : y * (a : EReal) + y * (a : EReal) = y * ((a + a : ℝ) : EReal) := by
  rw [EReal.coe_add]
  rcases le_total 0 a with h | h
  · exact (EReal.left_distrib_of_nonneg (EReal.coe_nonneg.mpr h) (EReal.coe_nonneg.mpr h)).symm
  · rw [← EReal.coe_add, ← neg_mul_neg, ← neg_mul_neg y, ← EReal.coe_neg, ← EReal.coe_neg, neg_add, EReal.coe_add]
    exact (EReal.left_distrib_of_nonneg (EReal.coe_nonneg.mpr (neg_nonneg.mpr h)) (EReal.coe_nonneg.mpr (neg_nonneg.mpr h))).symm

/-- A row with an infinite entry has a reciprocal root of zero. -/
theorem infinite_row {x : Fin 1024 → EReal} {k : Fin 1024} (hk : x k = ⊤ ∨ x k = ⊥) : rowV x = ⊤ ∧ rowR x = 0 := by
  have hs : (∑ k, x k * x k) = ⊤ := by
    refine top_le_iff.mp (le_trans (le_of_eq ?_) (Finset.single_le_sum (f := fun k => x k * x k) (fun i _ => ?_) (Finset.mem_univ k)))
    · rcases hk with h | h <;> simp [h]
    · rcases le_total 0 (x i) with h | h
      · exact mul_nonneg h h
      · exact (neg_mul_neg (x i) (x i)) ▸ mul_nonneg (EReal.neg_nonneg.mpr h) (EReal.neg_nonneg.mpr h)
  obtain ⟨e, _, hb⟩ := bits_small
  have hv : rowV x = ⊤ := by
    rw [rowV, hs, bits_1024, Ideal.div_coe (by norm_num), EReal.top_mul_coe_of_pos (by norm_num), hb, EReal.top_add_coe]
  exact ⟨hv, by rw [rowR, hv, Ideal.rsqrt_top]⟩

/-- The chain rule's form is the call's, for all rows. -/
theorem row_same (x dh g o : Fin 1024 → EReal) (d : Fin 1024) :
    o d + dh d * g d * rowR x + x d * rowS x dh g + rowS x dh g * x d = rowX x dh g o d := by
  have hm : (∑ k, x k * (dh k * g k)) = ∑ k, dh k * g k * x k := Finset.sum_congr rfl fun k _ => mul_comm _ _
  rw [rowX, rowS, hm]
  generalize (∑ k, dh k * g k * x k) = M
  by_cases hx : ∃ k, x k = ⊤ ∨ x k = ⊥
  · obtain ⟨k, hk⟩ := hx
    obtain ⟨hv, hr⟩ := infinite_row hk
    rw [hv, hr, bits_1024]
    simp [Ideal.div]
  · obtain ⟨y, rfl⟩ : ∃ y : Fin 1024 → ℝ, x = fun k => (y k : EReal) :=
      ⟨fun k => (x k).toReal, funext fun k => (EReal.coe_toReal (fun h => hx ⟨k, Or.inl h⟩) fun h => hx ⟨k, Or.inr h⟩).symm⟩
    obtain ⟨e, he, hb⟩ := bits_small
    have hv0 : 0 < (∑ k, y k * y k) / 1024 + e := by
      have : 0 ≤ ∑ k, y k * y k := Finset.sum_nonneg fun k _ => mul_self_nonneg _
      positivity
    have hv : rowV (fun k => (y k : EReal)) = (((∑ k, y k * y k) / 1024 + e : ℝ) : EReal) := by
      rw [rowV, coe_dot, bits_1024, hb, div_reals _ (by norm_num), ← EReal.coe_add]
    generalize (∑ k, y k * y k) / 1024 + e = v at hv0 hv
    have hr : rowR (fun k => (y k : EReal)) = (((Real.sqrt v)⁻¹ : ℝ) : EReal) := by
      rw [rowR, hv, Ideal.rsqrt_coe, if_neg hv0.not_gt, if_neg hv0.ne']
    have hq : (Real.sqrt v)⁻¹ * (Real.sqrt v)⁻¹ = v⁻¹ := by
      rw [← mul_inv, Real.mul_self_sqrt hv0.le]
    have hp : 0 ≤ (Real.sqrt v)⁻¹ := inv_nonneg.mpr (Real.sqrt_nonneg v)
    rw [hv, hr, bits_half, bits_1024, div_reals _ hv0.ne', Ideal.div_coe (by norm_num), Ideal.div_coe (by norm_num), sub_eq_add_neg,
      EReal.left_distrib_of_nonneg_of_ne_top (EReal.coe_nonneg.mpr hp) (EReal.coe_ne_top _)]
    generalize (Real.sqrt v)⁻¹ = r at hq
    have hl : (r : EReal) * -((y d : EReal) * ((r : EReal) * r) * (M * ((1 / 1024 : ℝ) : EReal))) = M * ((-(r * (y d * (r * r) * (1 / 1024))) : ℝ) : EReal) := by
      rw [mul_left_comm _ M, ← EReal.coe_mul, ← EReal.coe_mul, ← EReal.coe_mul, mul_neg, mul_left_comm, ← EReal.coe_mul, EReal.coe_neg, mul_neg]
    have hs : (y d : EReal) * (M * (((-(1 / 2) : ℝ) : EReal) * ((r / v : ℝ) : EReal)) * ((1 / 1024 : ℝ) : EReal))
        = M * ((y d * (-(1 / 2) * (r / v) * (1 / 1024)) : ℝ) : EReal) := by
      rw [mul_assoc M, mul_left_comm _ M, ← EReal.coe_mul, ← EReal.coe_mul, ← EReal.coe_mul]
    rw [mul_comm _ (y d : EReal), hs, hl, add_assoc, mul_twice, add_assoc, mul_comm (dh d * g d)]
    refine congrArg (fun z : ℝ => o d + ((r : EReal) * (dh d * g d) + M * (z : EReal))) ?_
    rw [hq, div_eq_mul_inv]
    ring

end Residual

end
-- ==== Proof.InputPay.lean ====
module

public import proofs.«01_k».proof.Proof.Gen.Kernel3Ideal.Skeleton
public import proofs.«01_k».proof.Proof.RowNorm
public import Idealize.ShloMosaic.Lib.Pointwise

/-! The call's tile operations, read at an entry. -/

@[expose] public section

set_option maxRecDepth 16384

noncomputable section

namespace Cert.Kernel3Ideal.Gen
open Idealize.ShloMosaic Idealize.ShloMosaic.TcCoe Residual

theorem norm_at (x : Vec Ideal S512x1024 .f32) (r : Fin 512) (z : Fin 1) : k0_pay2 x (ix2 r z) = rowR fun k => x (ix2 r k) := by
  pointwise [k0_pay2, rowR, rowV]

theorem final_at (dh x : Vec Ideal S512x1024 .f32) (g : Vec Ideal S1x1024 .f32) (o : Vec Ideal S512x1024 .f32) (r : Fin 512) (d : Fin 1024) :
    k0_pay3 dh x g o (ix2 r d) = rowX (fun k => x (ix2 r k)) (fun k => dh (ix2 r k)) (fun k => g (ix2 0 k)) (fun k => o (ix2 r k)) d := by
  pointwise [k0_pay3, k0_pay1, rowX, norm_at]

theorem scale_at (dh x : Vec Ideal S512x1024 .f32) (a : Vec Ideal S1x1024 .f32) (z : Fin 1) (d : Fin 1024) :
    k0_pay4 dh x a (ix2 z d) = (a (ix2 z d) + ∑ r : Fin 512, dh (ix2 r d) * x (ix2 r d) * rowR fun k => x (ix2 r k) : EReal) := by
  pointwise [k0_pay4, k0_pay1, norm_at]

theorem narrow_at (z : Vec Ideal S512x128 .bf16) (w : Vec Ideal S128x1024 .bf16) (r : Fin 512) (d : Fin 1024) :
    k0_pay6 z w (ix2 r d) = (∑ e : Fin 128, (z (ix2 r e) : EReal) * w (ix2 e d) : EReal) := by
  pointwise [k0_pay6]

theorem section_at (a : Vec Ideal S512x1024 .f32) (z : Vec Ideal S512x1024 .bf16) (w : Vec Ideal S1024x1024 .bf16) (r : Fin 512) (d : Fin 1024) :
    k0_pay7 a z w (ix2 r d) = (a (ix2 r d) + ∑ e : Fin 1024, (z (ix2 r e) : EReal) * w (ix2 e d) : EReal) := by
  pointwise [k0_pay7]

theorem zeros_at (z : Fin 8) (d : Fin 1024) : (k0_pay5 (ix2 z d) : Ideal .f32) = (0 : EReal) := by
  pointwise [k0_pay5]
section
variable {F : FTy → Type} [FloatOps F]

theorem pay8_eq : k0_pay8 (F := F) = k0_pay7 := rfl

theorem pay9_eq : k0_pay9 (F := F) = k0_pay7 := rfl

theorem pay10_eq : k0_pay10 (F := F) = k0_pay7 := rfl

theorem pay11_eq : k0_pay11 (F := F) = k0_pay7 := rfl

theorem pay12_eq : k0_pay12 (F := F) = k0_pay7 := rfl

theorem pay13_eq : k0_pay13 (F := F) = k0_pay7 := rfl
end

end Cert.Kernel3Ideal.Gen

end
-- ==== Proof.InputHost.lean ====
module

public import proofs.«01_k».proof.Proof.Gen.Kernel3Ideal.Frame.Runs
public import proofs.«01_k».proof.Proof.InputPay

/-! What the host passes to the call: the weight's wide and narrow sections, and the sections of the cotangents. -/

@[expose] public section

set_option maxRecDepth 16384

noncomputable section

namespace Cert.Kernel3Ideal.Gen
open Idealize.ShloMosaic Idealize.ShloMosaic.TcCoe Idealize.SL.Sem

section
variable {F : FTy → Type} [FloatOps F]

/-- The host's lines: the transposed weight and the cotangents in bf16, and the parts of them the call takes. -/
def hostW (w : FVec F S1024x7184 .f32) : FVec F S7184x1024 .bf16 :=
  truncf .bf16 (transpose S7184x1024 [1, 0] w transposes_S1024x7184_S7184x1024_1_0) bitsLt_bf16_f32

def hostZ (z : FVec F S4096x7184 .f32) : FVec F S4096x7184 .bf16 := truncf .bf16 z bitsLt_bf16_f32

def wideW (w : FVec F S1024x7184 .f32) : FVec F S7168x1024 .bf16 :=
  concatenate S7168x1024 0 [⟨S3072x1024, extractStridedSlice S3072x1024 ![0, 0] (hostW w) slices_S7184x1024_S3072x1024_0_0⟩,
    ⟨S4096x1024, extractStridedSlice S4096x1024 ![3088, 0] (hostW w) slices_S7184x1024_S4096x1024_3088_0⟩] concatenates_S3072x1024_S4096x1024_S7168x1024_d0

def narrowW (w : FVec F S1024x7184 .f32) : FVec F S128x1024 .bf16 :=
  pad S128x1024 ![0, 0] ![112, 0] ![0, 0] (extractStridedSlice S16x1024 ![3072, 0] (hostW w) slices_S7184x1024_S16x1024_3072_0)
    (sitofp .bf16 (constantI S_ 32 0#32)) pads_S16x1024_S128x1024_01120_000 h_S_

def narrowZ (z : FVec F S4096x7184 .f32) : FVec F S4096x128 .bf16 :=
  pad S4096x128 ![0, 0] ![0, 112] ![0, 0] (extractStridedSlice S4096x16 ![0, 3072] (hostZ z) slices_S4096x7184_S4096x16_0_3072)
    (sitofp .bf16 (constantI S_ 32 0#32)) pads_S4096x16_S4096x128_000_01120 h_S_

variable (m : (ℓ : Loc nD τ sig) → Buf (Elt F) ℓ) (c : Dev nD)

theorem V_eq (b : Ref sig .tc) : V m c b = StableHlo.after hostOps0_3 (StableHlo.after hostOps0_2 (StableHlo.after hostOps0_1 (StableHlo.after hostOps0 (fun b => m (c, b)))))
    (Proc.devRef .tc b) := by
  unfold V
  simp only [List.flatten_cons, List.flatten_nil, List.append_nil, StableHlo.after_append]

theorem V_v4 : V m c main_v4 = wideW (m ((c : Thread nD τ).loc main_arg2)) := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl

theorem V_v6 : V m c main_v6 = narrowW (m ((c : Thread nD τ).loc main_arg2)) := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl

theorem V_v16 : V m c main_v16 = narrowZ (m ((c : Thread nD τ).loc main_arg3)) := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl

theorem V_v8 : V m c main_v8 = extractStridedSlice S4096x1024 ![0, 0] (hostZ (m ((c : Thread nD τ).loc main_arg3))) slices_S4096x7184_S4096x1024_0_0 := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl

theorem V_v9 : V m c main_v9 = extractStridedSlice S4096x1024 ![0, 1024] (hostZ (m ((c : Thread nD τ).loc main_arg3))) slices_S4096x7184_S4096x1024_0_1024 := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl

theorem V_v10 : V m c main_v10 = extractStridedSlice S4096x1024 ![0, 2048] (hostZ (m ((c : Thread nD τ).loc main_arg3))) slices_S4096x7184_S4096x1024_0_2048 := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl

theorem V_v11 : V m c main_v11 = extractStridedSlice S4096x1024 ![0, 3088] (hostZ (m ((c : Thread nD τ).loc main_arg3))) slices_S4096x7184_S4096x1024_0_3088 := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl

theorem V_v12 : V m c main_v12 = extractStridedSlice S4096x1024 ![0, 4112] (hostZ (m ((c : Thread nD τ).loc main_arg3))) slices_S4096x7184_S4096x1024_0_4112 := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl

theorem V_v13 : V m c main_v13 = extractStridedSlice S4096x1024 ![0, 5136] (hostZ (m ((c : Thread nD τ).loc main_arg3))) slices_S4096x7184_S4096x1024_0_5136 := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl

theorem V_v14 : V m c main_v14 = extractStridedSlice S4096x1024 ![0, 6160] (hostZ (m ((c : Thread nD τ).loc main_arg3))) slices_S4096x7184_S4096x1024_0_6160 := by
  rw [V_eq]
  simp only [hostOps0, hostOps0_1, hostOps0_2, hostOps0_3, StableHlo.TRef.nullary, StableHlo.TRef.binary, StableHlo.TRef.unary, StableHlo.TRef.toBuf, StableHlo.TRef.ofBuf, cast_eq]
  after_results_simp <;> rfl
end

theorem zero_word : (FloatOps.sitofp .bf16 (0#32) : Ideal .bf16) = (0 : EReal) := by
  show ((((0#32 : BitVec 32).toInt : ℝ)) : EReal) = 0
  simp

theorem wideW_at (w : FVec Ideal S1024x7184 .f32) (e : Fin 7168) (d : Fin 1024) : (wideW w (ix2 e d) : EReal)
    = if h : e.val < 3072 then w (ix2 d ⟨e.val, by omega⟩) else w (ix2 d ⟨3088 + (e.val - 3072), by omega⟩) := by
  pointwise [wideW, hostW]

theorem narrowW_at (w : FVec Ideal S1024x7184 .f32) (e : Fin 128) (d : Fin 1024) : (narrowW w (ix2 e d) : EReal)
    = if e.val < 16 then w (ix2 d ⟨3072 + e.val, by omega⟩) else 0 := by
  pointwise [narrowW, hostW]
  rw [zero_word]; rfl

theorem narrowZ_at (z : FVec Ideal S4096x7184 .f32) (t : Fin 4096) (e : Fin 128) : (narrowZ z (ix2 t e) : EReal)
    = if e.val < 16 then z (ix2 t ⟨3072 + e.val, by omega⟩) else 0 := by
  pointwise [narrowZ, hostZ]
  rw [zero_word]; rfl

theorem sec0_at (z : FVec Ideal S4096x7184 .f32) (t : Fin 4096) (e : Fin 1024) :
    (extractStridedSlice S4096x1024 ![0, 0] (hostZ z) slices_S4096x7184_S4096x1024_0_0 (ix2 t e) : EReal) = z (ix2 t ⟨0 + e.val, by omega⟩) := by
  pointwise [hostZ]

theorem sec1024_at (z : FVec Ideal S4096x7184 .f32) (t : Fin 4096) (e : Fin 1024) :
    (extractStridedSlice S4096x1024 ![0, 1024] (hostZ z) slices_S4096x7184_S4096x1024_0_1024 (ix2 t e) : EReal) = z (ix2 t ⟨1024 + e.val, by omega⟩) := by
  pointwise [hostZ]

theorem sec2048_at (z : FVec Ideal S4096x7184 .f32) (t : Fin 4096) (e : Fin 1024) :
    (extractStridedSlice S4096x1024 ![0, 2048] (hostZ z) slices_S4096x7184_S4096x1024_0_2048 (ix2 t e) : EReal) = z (ix2 t ⟨2048 + e.val, by omega⟩) := by
  pointwise [hostZ]

theorem sec3088_at (z : FVec Ideal S4096x7184 .f32) (t : Fin 4096) (e : Fin 1024) :
    (extractStridedSlice S4096x1024 ![0, 3088] (hostZ z) slices_S4096x7184_S4096x1024_0_3088 (ix2 t e) : EReal) = z (ix2 t ⟨3088 + e.val, by omega⟩) := by
  pointwise [hostZ]

theorem sec4112_at (z : FVec Ideal S4096x7184 .f32) (t : Fin 4096) (e : Fin 1024) :
    (extractStridedSlice S4096x1024 ![0, 4112] (hostZ z) slices_S4096x7184_S4096x1024_0_4112 (ix2 t e) : EReal) = z (ix2 t ⟨4112 + e.val, by omega⟩) := by
  pointwise [hostZ]

theorem sec5136_at (z : FVec Ideal S4096x7184 .f32) (t : Fin 4096) (e : Fin 1024) :
    (extractStridedSlice S4096x1024 ![0, 5136] (hostZ z) slices_S4096x7184_S4096x1024_0_5136 (ix2 t e) : EReal) = z (ix2 t ⟨5136 + e.val, by omega⟩) := by
  pointwise [hostZ]

theorem sec6160_at (z : FVec Ideal S4096x7184 .f32) (t : Fin 4096) (e : Fin 1024) :
    (extractStridedSlice S4096x1024 ![0, 6160] (hostZ z) slices_S4096x7184_S4096x1024_0_6160 (ix2 t e) : EReal) = z (ix2 t ⟨6160 + e.val, by omega⟩) := by
  pointwise [hostZ]

end Cert.Kernel3Ideal.Gen

end
-- ==== Proof.InputBlocks.lean ====
module

public import proofs.«01_k».proof.Proof.InputHost
public import Idealize.ShloMosaic.Lib.Pipeline.ValueKit.Geometry

/-! The blocks the call reads, as entries of the arguments. -/

@[expose] public section

set_option maxRecDepth 16384

noncomputable section

namespace Cert.Kernel3Ideal.Gen
open Idealize.ShloMosaic Idealize.ShloMosaic.TcCoe Idealize.SL.Sem Residual

theorem at0 : ∀ t : Fin cfg0.N, win0_0.index t = ![t.val / 7, 0] := (by decide +kernel : ∀ t : Fin grid0.N, _)

theorem at1 : ∀ t : Fin cfg0.N, win0_1.index t = ![t.val / 7, 0] := (by decide +kernel : ∀ t : Fin grid0.N, _)

theorem at2 : ∀ t : Fin cfg0.N, win0_2.index t = ![t.val / 7, 0] := (by decide +kernel : ∀ t : Fin grid0.N, _)

theorem at3 : ∀ t : Fin cfg0.N, win0_3.index t = ![t.val / 7, 0] := (by decide +kernel : ∀ t : Fin grid0.N, _)

theorem at4 : ∀ t : Fin cfg0.N, win0_4.index t = ![t.val / 7, 0] := (by decide +kernel : ∀ t : Fin grid0.N, _)

theorem at5 : ∀ t : Fin cfg0.N, win0_5.index t = ![t.val / 7, 0] := (by decide +kernel : ∀ t : Fin grid0.N, _)

theorem at6 : ∀ t : Fin cfg0.N, win0_6.index t = ![t.val / 7, 0] := (by decide +kernel : ∀ t : Fin grid0.N, _)

theorem at7 : ∀ t : Fin cfg0.N, win0_7.index t = ![t.val / 7, 0] := (by decide +kernel : ∀ t : Fin grid0.N, _)

theorem at8 : ∀ t : Fin cfg0.N, win0_8.index t = ![t.val % 7, 0] := (by decide +kernel : ∀ t : Fin grid0.N, _)

theorem at9 : ∀ t : Fin cfg0.N, win0_9.index t = ![0, 0] := (by decide +kernel : ∀ t : Fin grid0.N, _)

theorem at10 : ∀ t : Fin cfg0.N, win0_10.index t = ![t.val / 7, 0] := (by decide +kernel : ∀ t : Fin grid0.N, _)

theorem at11 : ∀ t : Fin cfg0.N, win0_11.index t = ![0, 0] := (by decide +kernel : ∀ t : Fin grid0.N, _)

theorem at12 : ∀ t : Fin cfg0.N, win0_12.index t = ![t.val / 7, 0] := (by decide +kernel : ∀ t : Fin grid0.N, _)

/-- The token of a row of a point's block. -/
def tok (t : Fin cfg0.N) (r : Fin 512) : Fin 4096 := ⟨512 * (t.val / 7) + r.val, by have := lt_of_lt_of_eq t.isLt (show cfg0.N = 56 from N_0); omega⟩

variable (m : (ℓ : Loc nD τ sig) → Buf (Elt Ideal) ℓ) (c : Dev nD)

def xA : S4096x1024.Idx → EReal := (m ((c : Thread nD τ).loc main_arg0) : FVec Ideal S4096x1024 .f32)

def gA : S1x1024.Idx → EReal := (m ((c : Thread nD τ).loc main_arg1) : FVec Ideal S1x1024 .f32)

def wA : S1024x7184.Idx → EReal := (m ((c : Thread nD τ).loc main_arg2) : FVec Ideal S1024x7184 .f32)

def zA : S4096x7184.Idx → EReal := (m ((c : Thread nD τ).loc main_arg3) : FVec Ideal S4096x7184 .f32)

def oA : S4096x1024.Idx → EReal := (m ((c : Thread nD τ).loc main_arg4) : FVec Ideal S4096x1024 .f32)

theorem blk0 (t : Fin cfg0.N) (r : Fin 512) (e : Fin 1024) : (iblk m c 0 t : FVec Ideal S512x1024 .bf16) (ix2 r e) = zA m c (ix2 (tok t r) ⟨0 + e.val, by omega⟩) := by
  have h : (iblk m c 0 t : FVec Ideal S512x1024 .bf16) (ix2 r e) = (V m c main_v8 : FVec Ideal S4096x1024 .bf16) (ix2 (tok t r) e) := by
    blk_simp [iblk]
    congr 1
    funext a
    fin_cases a <;> refine Fin.ext ?_ <;> blk_simp [at0] <;> simp [ix2, tok, Nat.mul_comm]
  rw [h, V_v8, sec0_at]
  rfl

theorem blk1 (t : Fin cfg0.N) (r : Fin 512) (e : Fin 1024) : (iblk m c 1 t : FVec Ideal S512x1024 .bf16) (ix2 r e) = zA m c (ix2 (tok t r) ⟨1024 + e.val, by omega⟩) := by
  have h : (iblk m c 1 t : FVec Ideal S512x1024 .bf16) (ix2 r e) = (V m c main_v9 : FVec Ideal S4096x1024 .bf16) (ix2 (tok t r) e) := by
    blk_simp [iblk]
    congr 1
    funext a
    fin_cases a <;> refine Fin.ext ?_ <;> blk_simp [at1] <;> simp [ix2, tok, Nat.mul_comm]
  rw [h, V_v9, sec1024_at]
  rfl

theorem blk2 (t : Fin cfg0.N) (r : Fin 512) (e : Fin 1024) : (iblk m c 2 t : FVec Ideal S512x1024 .bf16) (ix2 r e) = zA m c (ix2 (tok t r) ⟨2048 + e.val, by omega⟩) := by
  have h : (iblk m c 2 t : FVec Ideal S512x1024 .bf16) (ix2 r e) = (V m c main_v10 : FVec Ideal S4096x1024 .bf16) (ix2 (tok t r) e) := by
    blk_simp [iblk]
    congr 1
    funext a
    fin_cases a <;> refine Fin.ext ?_ <;> blk_simp [at2] <;> simp [ix2, tok, Nat.mul_comm]
  rw [h, V_v10, sec2048_at]
  rfl

theorem blk3 (t : Fin cfg0.N) (r : Fin 512) (e : Fin 1024) : (iblk m c 3 t : FVec Ideal S512x1024 .bf16) (ix2 r e) = zA m c (ix2 (tok t r) ⟨3088 + e.val, by omega⟩) := by
  have h : (iblk m c 3 t : FVec Ideal S512x1024 .bf16) (ix2 r e) = (V m c main_v11 : FVec Ideal S4096x1024 .bf16) (ix2 (tok t r) e) := by
    blk_simp [iblk]
    congr 1
    funext a
    fin_cases a <;> refine Fin.ext ?_ <;> blk_simp [at3] <;> simp [ix2, tok, Nat.mul_comm]
  rw [h, V_v11, sec3088_at]
  rfl

theorem blk4 (t : Fin cfg0.N) (r : Fin 512) (e : Fin 1024) : (iblk m c 4 t : FVec Ideal S512x1024 .bf16) (ix2 r e) = zA m c (ix2 (tok t r) ⟨4112 + e.val, by omega⟩) := by
  have h : (iblk m c 4 t : FVec Ideal S512x1024 .bf16) (ix2 r e) = (V m c main_v12 : FVec Ideal S4096x1024 .bf16) (ix2 (tok t r) e) := by
    blk_simp [iblk]
    congr 1
    funext a
    fin_cases a <;> refine Fin.ext ?_ <;> blk_simp [at4] <;> simp [ix2, tok, Nat.mul_comm]
  rw [h, V_v12, sec4112_at]
  rfl

theorem blk5 (t : Fin cfg0.N) (r : Fin 512) (e : Fin 1024) : (iblk m c 5 t : FVec Ideal S512x1024 .bf16) (ix2 r e) = zA m c (ix2 (tok t r) ⟨5136 + e.val, by omega⟩) := by
  have h : (iblk m c 5 t : FVec Ideal S512x1024 .bf16) (ix2 r e) = (V m c main_v13 : FVec Ideal S4096x1024 .bf16) (ix2 (tok t r) e) := by
    blk_simp [iblk]
    congr 1
    funext a
    fin_cases a <;> refine Fin.ext ?_ <;> blk_simp [at5] <;> simp [ix2, tok, Nat.mul_comm]
  rw [h, V_v13, sec5136_at]
  rfl

theorem blk6 (t : Fin cfg0.N) (r : Fin 512) (e : Fin 1024) : (iblk m c 6 t : FVec Ideal S512x1024 .bf16) (ix2 r e) = zA m c (ix2 (tok t r) ⟨6160 + e.val, by omega⟩) := by
  have h : (iblk m c 6 t : FVec Ideal S512x1024 .bf16) (ix2 r e) = (V m c main_v14 : FVec Ideal S4096x1024 .bf16) (ix2 (tok t r) e) := by
    blk_simp [iblk]
    congr 1
    funext a
    fin_cases a <;> refine Fin.ext ?_ <;> blk_simp [at6] <;> simp [ix2, tok, Nat.mul_comm]
  rw [h, V_v14, sec6160_at]
  rfl

theorem blk7 (t : Fin cfg0.N) (r : Fin 512) (e : Fin 128) : (iblk m c 7 t : FVec Ideal S512x128 .bf16) (ix2 r e) = if e.val < 16 then zA m c (ix2 (tok t r) ⟨3072 + e.val, by omega⟩) else 0 := by
  have h : (iblk m c 7 t : FVec Ideal S512x128 .bf16) (ix2 r e) = (V m c main_v16 : FVec Ideal S4096x128 .bf16) (ix2 (tok t r) e) := by
    blk_simp [iblk]
    congr 1
    funext a
    fin_cases a <;> refine Fin.ext ?_ <;> blk_simp [at7] <;> simp [ix2, tok, Nat.mul_comm]
  rw [h, V_v16, narrowZ_at]
  rfl

theorem blk8 (t : Fin cfg0.N) (e d : Fin 1024) : (iblk m c 8 t : FVec Ideal S1024x1024 .bf16) (ix2 e d) = if h : 1024 * (t.val % 7) + e.val < 3072 then wA m c (ix2 d ⟨1024 * (t.val % 7) + e.val, by omega⟩) else wA m c (ix2 d ⟨3088 + (1024 * (t.val % 7) + e.val - 3072), by omega⟩) := by
  have h : (iblk m c 8 t : FVec Ideal S1024x1024 .bf16) (ix2 e d) = (V m c main_v4 : FVec Ideal S7168x1024 .bf16) (ix2 ⟨1024 * (t.val % 7) + e.val, by omega⟩ d) := by
    blk_simp [iblk]
    congr 1
    funext a
    fin_cases a <;> refine Fin.ext ?_ <;> blk_simp [at8] <;> simp [ix2, tok, Nat.mul_comm]
  rw [h, V_v4, wideW_at]
  rfl

theorem blk9 (t : Fin cfg0.N) (e : Fin 128) (d : Fin 1024) : (iblk m c 9 t : FVec Ideal S128x1024 .bf16) (ix2 e d) = if e.val < 16 then wA m c (ix2 d ⟨3072 + e.val, by omega⟩) else 0 := by
  have h : (iblk m c 9 t : FVec Ideal S128x1024 .bf16) (ix2 e d) = (V m c main_v6 : FVec Ideal S128x1024 .bf16) (ix2 e d) := by
    blk_simp [iblk]
    congr 1
    funext a
    fin_cases a <;> refine Fin.ext ?_ <;> blk_simp [at9] <;> simp [ix2, tok, Nat.mul_comm]
  rw [h, V_v6, narrowW_at]
  rfl

theorem blk10 (t : Fin cfg0.N) (r : Fin 512) (d : Fin 1024) : (iblk m c 10 t : FVec Ideal S512x1024 .f32) (ix2 r d) = xA m c (ix2 (tok t r) d) := by
  have h : (iblk m c 10 t : FVec Ideal S512x1024 .f32) (ix2 r d) = (V m c main_arg0 : FVec Ideal S4096x1024 .f32) (ix2 (tok t r) d) := by
    blk_simp [iblk]
    congr 1
    funext a
    fin_cases a <;> refine Fin.ext ?_ <;> blk_simp [at10] <;> simp [ix2, tok, Nat.mul_comm]
  rw [h, V_main_arg0]
  rfl

theorem blk11 (t : Fin cfg0.N) (z : Fin 1) (d : Fin 1024) : (iblk m c 11 t : FVec Ideal S1x1024 .f32) (ix2 z d) = gA m c (ix2 z d) := by
  have h : (iblk m c 11 t : FVec Ideal S1x1024 .f32) (ix2 z d) = (V m c main_arg1 : FVec Ideal S1x1024 .f32) (ix2 z d) := by
    blk_simp [iblk]
    congr 1
    funext a
    fin_cases a <;> refine Fin.ext ?_ <;> blk_simp [at11] <;> simp [ix2, tok, Nat.mul_comm]
  rw [h, V_main_arg1]
  rfl

theorem blk12 (t : Fin cfg0.N) (r : Fin 512) (d : Fin 1024) : (iblk m c 12 t : FVec Ideal S512x1024 .f32) (ix2 r d) = oA m c (ix2 (tok t r) d) := by
  have h : (iblk m c 12 t : FVec Ideal S512x1024 .f32) (ix2 r d) = (V m c main_arg4 : FVec Ideal S4096x1024 .f32) (ix2 (tok t r) d) := by
    blk_simp [iblk]
    congr 1
    funext a
    fin_cases a <;> refine Fin.ext ?_ <;> blk_simp [at12] <;> simp [ix2, tok, Nat.mul_comm]
  rw [h, V_main_arg4]
  rfl

end Cert.Kernel3Ideal.Gen

end
-- ==== Proof.InputSums.lean ====
module

public import proofs.«01_k».proof.Proof.InputBlocks

/-! The sum over the projection's columns, one section at a time. -/

@[expose] public section

set_option maxRecDepth 16384

noncomputable section

namespace Cert.Kernel3Ideal.Gen
open Idealize.ShloMosaic Idealize.ShloMosaic.TcCoe Idealize.SL.Sem Residual

variable (m : (ℓ : Loc nD τ sig) → Buf (Elt Ideal) ℓ) (c : Dev nD)

/-- One column's part of the rows' gradient. -/
def col (t : Fin 4096) (d : Fin 1024) (e : ℕ) : EReal := if h : e < 7184 then zA m c (ix2 t ⟨e, h⟩) * wA m c (ix2 d ⟨e, h⟩) else 0
/-- The first column of a wide section. -/
def start (s : ℕ) : ℕ := if s < 3 then 1024 * s else 1024 * s + 16

def secSum (t : Fin 4096) (d : Fin 1024) (s : ℕ) : EReal := ∑ r ∈ Finset.range 1024, col m c t d (start s + r)
/-- The narrow section and the first `n` wide ones. -/
def upTo (t : Fin 4096) (d : Fin 1024) (n : ℕ) : EReal := ∑ e ∈ Finset.range 16, col m c t d (3072 + e) + ∑ s ∈ Finset.range n, secSum m c t d s
/-- The gradient of the normalised rows. -/
def dhA (t : Fin 4096) (d : Fin 1024) : EReal := ∑ e : Fin 7184, zA m c (ix2 t e) * wA m c (ix2 d e)

theorem upTo_all (t : Fin 4096) (d : Fin 1024) : upTo m c t d 7 = dhA m c t d := by
  have h : dhA m c t d = ∑ e ∈ Finset.range 7184, col m c t d e := by
    rw [← Fin.sum_univ_eq_sum_range (col m c t d) 7184]
    exact Finset.sum_congr rfl fun e _ => by rw [col, dif_pos e.isLt]
  rw [h, upTo]
  simp only [Finset.sum_range_succ _ 6, Finset.sum_range_succ _ 5, Finset.sum_range_succ _ 4, Finset.sum_range_succ _ 3, Finset.sum_range_succ _ 2,
    Finset.sum_range_succ _ 1, Finset.sum_range_succ _ 0, Finset.sum_range_zero, secSum, start]
  rw [Finset.sum_range_add _ 6160 1024, Finset.sum_range_add _ 5136 1024, Finset.sum_range_add _ 4112 1024, Finset.sum_range_add _ 3088 1024,
    Finset.sum_range_add _ 3072 16, Finset.sum_range_add _ 2048 1024, Finset.sum_range_add _ 1024 1024]
  simp only [Nat.reduceLT, if_true, if_false, Nat.reduceMul, Nat.reduceAdd, Nat.zero_add]
  abel

theorem upTo_succ (t : Fin 4096) (d : Fin 1024) (n : ℕ) : upTo m c t d (n + 1) = upTo m c t d n + secSum m c t d n := by
  rw [upTo, upTo, Finset.sum_range_succ (secSum m c t d), add_assoc]

theorem narrow_sum (t : Fin cfg0.N) (r : Fin 512) (d : Fin 1024) :
    (k0_pay6 (iblk m c 7 t) (iblk m c 9 t) (ix2 r d) : EReal) = upTo m c (tok t r) d 0 := by
  rw [narrow_at, upTo, Finset.sum_range_zero, add_zero]
  refine (Finset.sum_congr rfl fun e _ => (congrArg₂ (fun x y : EReal => x * y) (blk7 m c t r e) (blk9 m c t e d)).trans
    (show _ = if e.val < 16 then col m c (tok t r) d (3072 + e.val) else 0 from ?_)).trans ?_
  · split
    · rw [col, dif_pos (by omega)]
    · exact zero_mul _
  rw [Fin.sum_univ_eq_sum_range (fun e => if e < 16 then col m c (tok t r) d (3072 + e) else 0) 128, Finset.sum_range_add _ 16 112]
  refine (congrArg₂ (fun x y : EReal => x + y) (Finset.sum_congr rfl fun e he => if_pos (Finset.mem_range.mp he))
    (Finset.sum_eq_zero fun e _ => if_neg (by omega))).trans (add_zero _)

theorem wide_at (t : Fin cfg0.N) (s : ℕ) (hs : t.val % 7 = s) (e d : Fin 1024) (h : start s + e.val < 7184) :
    ((iblk m c 8 t : FVec Ideal S1024x1024 .bf16) (ix2 e d) : EReal) = wA m c (ix2 d ⟨start s + e.val, h⟩) := by
  refine (blk8 m c t e d).trans ?_
  subst hs
  have hs : start (t.val % 7) = if t.val % 7 < 3 then 1024 * (t.val % 7) else 1024 * (t.val % 7) + 16 := rfl
  split <;> refine congrArg _ (congrArg (ix2 d) (Fin.ext ?_)) <;> dsimp only <;> split at hs <;> omega

theorem section_sum (a : FVec Ideal S512x1024 .f32) (z : FVec Ideal S512x1024 .bf16) (t : Fin cfg0.N) (s : ℕ) (h7 : s < 7) (hs : t.val % 7 = s) (r : Fin 512) (d : Fin 1024)
    (ha : (a (ix2 r d) : EReal) = upTo m c (tok t r) d s)
    (hz : ∀ (e : Fin 1024) (h : start s + e.val < 7184), (z (ix2 r e) : EReal) = zA m c (ix2 (tok t r) ⟨start s + e.val, h⟩)) :
    (k0_pay7 a z (iblk m c 8 t) (ix2 r d) : EReal) = upTo m c (tok t r) d (s + 1) := by
  rw [section_at, ha, upTo_succ, secSum, ← Fin.sum_univ_eq_sum_range (fun r' => col m c (tok t r) d (start s + r')) 1024]
  refine congrArg (upTo m c (tok t r) d s + ·) (Finset.sum_congr rfl fun e _ => ?_)
  have h : start s + e.val < 7184 := by unfold start; split <;> omega
  rw [col, dif_pos h]
  exact congrArg₂ (fun x y : EReal => x * y) (hz e h) (wide_at m c t s hs e d h)

end Cert.Kernel3Ideal.Gen

end
-- ==== Proof.InputCases.lean ====
module

public import proofs.«01_k».proof.Proof.Gen.Kernel3Ideal.Value
public import proofs.«01_k».proof.Proof.InputSums
public import Idealize.ShloMosaic.Lib.WritesUnit

/-! What one grid point leaves in the two results' buffers, for each kind of point. -/

@[expose] public section

set_option maxRecDepth 16384

noncomputable section

namespace Cert.Kernel3Ideal.Gen
open Idealize.ShloMosaic Idealize.ShloMosaic.TcCoe Idealize.SL.Sem Residual

theorem zero2 : (![0, 0] : Fin 2 → Nat) = fun _ => 0 := funext fun a => by fin_cases a <;> rfl

variable {F : FTy → Type} [FloatOps F]
/-- The first row of an eight-row block. -/
def topRow (v : Vec F S8x1024 .f32) : Vec F S1x1024 .f32 := fun y => v (ix2 (0 : Fin 8) (⟨(y 1).val, (y 1).isLt⟩ : Fin 1024))

variable (c : Dev nD) (i : grid0.Coords)
  (a0 : Memref sig .tc .vmem S512x1024 .bf16) (h0 : a0.IsWhole)
  (a1 : Memref sig .tc .vmem S512x1024 .bf16) (h1 : a1.IsWhole)
  (a2 : Memref sig .tc .vmem S512x1024 .bf16) (h2 : a2.IsWhole)
  (a3 : Memref sig .tc .vmem S512x1024 .bf16) (h3 : a3.IsWhole)
  (a4 : Memref sig .tc .vmem S512x1024 .bf16) (h4 : a4.IsWhole)
  (a5 : Memref sig .tc .vmem S512x1024 .bf16) (h5 : a5.IsWhole)
  (a6 : Memref sig .tc .vmem S512x1024 .bf16) (h6 : a6.IsWhole)
  (a7 : Memref sig .tc .vmem S512x128 .bf16) (h7 : a7.IsWhole)
  (a8 : Memref sig .tc .vmem S1024x1024 .bf16) (h8 : a8.IsWhole)
  (a9 : Memref sig .tc .vmem S128x1024 .bf16) (h9 : a9.IsWhole)
  (a10 : Memref sig .tc .vmem S512x1024 .f32) (h10 : a10.IsWhole)
  (a11 : Memref sig .tc .vmem S1x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S8x1024 .f32) (h14 : a14.IsWhole)
  (x0 : Vec F S512x1024 .bf16)
  (x1 : Vec F S512x1024 .bf16)
  (x2 : Vec F S512x1024 .bf16)
  (x3 : Vec F S512x1024 .bf16)
  (x4 : Vec F S512x1024 .bf16)
  (x5 : Vec F S512x1024 .bf16)
  (x6 : Vec F S512x1024 .bf16)
  (x7 : Vec F S512x128 .bf16)
  (x8 : Vec F S1024x1024 .bf16)
  (x9 : Vec F S128x1024 .bf16)
  (x10 : Vec F S512x1024 .f32)
  (x11 : Vec F S1x1024 .f32)
  (x12 : Vec F S512x1024 .f32)
  (xg : Vec F S512x1024 .f32) (xs : Vec F S8x1024 .f32)

theorem firstA (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) :
    out0_A_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 = k0_pay7 (k0_pay6 x7 x9) x0 x8 := by
  unfold out0_A_13
  rw [View.read_writes_eq_canon _ _ _ (cover0_A_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12)]
  unfold kernelRun0_A
  dsimp only
  sl_unfold_words
  rw [View.canon_cons_unit_zero (S := S512x1024) zero2, View.readCov_unit_zero (S := S512x1024) _ zero2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S512x1024) zero2, View.ld_unit_zero (S := S512x128) zero2, View.ld_unit_zero (S := S1024x1024) zero2, View.ld_unit_zero (S := S128x1024) zero2, View.ld_unit_zero (S := S1x1024) zero2, View.ld_unit_zero (S := S8x1024) zero2]

theorem scaleA (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) :
    out0_A_14 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 = k0_pay5 := by
  unfold out0_A_14
  rw [View.read_writes_eq_canon _ _ _ (cover0_A_14 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12)]
  unfold kernelRun0_A
  dsimp only
  rw [View.canon_unit_zero zero2]

theorem firstH (hc0 : ¬cond0_0 i) (hc1 : cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) :
    out0_H_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 = k0_pay7 (k0_pay6 x7 x9) x0 x8 := by
  unfold out0_H_13
  rw [View.read_writes_eq_canon _ _ _ (cover0_H_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12)]
  unfold kernelRun0_H
  dsimp only
  sl_unfold_words
  rw [View.canon_cons_unit_zero (S := S512x1024) zero2, View.readCov_unit_zero (S := S512x1024) _ zero2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S512x1024) zero2, View.ld_unit_zero (S := S512x128) zero2, View.ld_unit_zero (S := S1024x1024) zero2, View.ld_unit_zero (S := S128x1024) zero2, View.ld_unit_zero (S := S1x1024) zero2, View.ld_unit_zero (S := S8x1024) zero2]

theorem nextB (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i) (hc9 : ¬cond0_9 i) :
    out0_B_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg = k0_pay7 xg x1 x8 := by
  unfold out0_B_13
  rw [View.read_writes_eq_canon _ _ _ (cover0_B_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg)]
  unfold kernelRun0_B
  dsimp only
  rw [View.canon_unit_zero zero2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S512x1024) zero2, View.ld_unit_zero (S := S512x128) zero2, View.ld_unit_zero (S := S1024x1024) zero2, View.ld_unit_zero (S := S128x1024) zero2, View.ld_unit_zero (S := S1x1024) zero2, View.ld_unit_zero (S := S8x1024) zero2]
  rfl

theorem nextC (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i) (hc9 : ¬cond0_9 i) :
    out0_C_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg = k0_pay7 xg x2 x8 := by
  unfold out0_C_13
  rw [View.read_writes_eq_canon _ _ _ (cover0_C_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg)]
  unfold kernelRun0_C
  dsimp only
  rw [View.canon_unit_zero zero2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S512x1024) zero2, View.ld_unit_zero (S := S512x128) zero2, View.ld_unit_zero (S := S1024x1024) zero2, View.ld_unit_zero (S := S128x1024) zero2, View.ld_unit_zero (S := S1x1024) zero2, View.ld_unit_zero (S := S8x1024) zero2]
  rfl

theorem nextD (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : ¬cond0_9 i) :
    out0_D_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg = k0_pay7 xg x3 x8 := by
  unfold out0_D_13
  rw [View.read_writes_eq_canon _ _ _ (cover0_D_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg)]
  unfold kernelRun0_D
  dsimp only
  rw [View.canon_unit_zero zero2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S512x1024) zero2, View.ld_unit_zero (S := S512x128) zero2, View.ld_unit_zero (S := S1024x1024) zero2, View.ld_unit_zero (S := S128x1024) zero2, View.ld_unit_zero (S := S1x1024) zero2, View.ld_unit_zero (S := S8x1024) zero2]
  rfl

theorem nextE (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i) (hc9 : ¬cond0_9 i) :
    out0_E_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg = k0_pay7 xg x4 x8 := by
  unfold out0_E_13
  rw [View.read_writes_eq_canon _ _ _ (cover0_E_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg)]
  unfold kernelRun0_E
  dsimp only
  rw [View.canon_unit_zero zero2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S512x1024) zero2, View.ld_unit_zero (S := S512x128) zero2, View.ld_unit_zero (S := S1024x1024) zero2, View.ld_unit_zero (S := S128x1024) zero2, View.ld_unit_zero (S := S1x1024) zero2, View.ld_unit_zero (S := S8x1024) zero2]
  rfl

theorem nextF (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i) (hc9 : ¬cond0_9 i) :
    out0_F_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg = k0_pay7 xg x5 x8 := by
  unfold out0_F_13
  rw [View.read_writes_eq_canon _ _ _ (cover0_F_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg)]
  unfold kernelRun0_F
  dsimp only
  rw [View.canon_unit_zero zero2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S512x1024) zero2, View.ld_unit_zero (S := S512x128) zero2, View.ld_unit_zero (S := S1024x1024) zero2, View.ld_unit_zero (S := S128x1024) zero2, View.ld_unit_zero (S := S1x1024) zero2, View.ld_unit_zero (S := S8x1024) zero2]
  rfl

theorem last (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : cond0_9 i) :
    out0_G_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg xs = k0_pay3 (k0_pay7 xg x6 x8) x10 x11 x12 := by
  unfold out0_G_13
  rw [View.read_writes_eq_canon _ _ _ (cover0_G_13 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg xs)]
  unfold kernelRun0_G
  dsimp only
  sl_unfold_words
  rw [View.canon_cons_unit_zero (S := S512x1024) zero2, View.readCov_unit_zero (S := S512x1024) _ zero2]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S512x1024) zero2, View.ld_unit_zero (S := S512x128) zero2, View.ld_unit_zero (S := S1024x1024) zero2, View.ld_unit_zero (S := S128x1024) zero2, View.ld_unit_zero (S := S1x1024) zero2, View.ld_unit_zero (S := S8x1024) zero2]
  rfl

theorem scaleG (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : cond0_9 i) (q : Fin 8) (d : Fin 1024) :
    out0_G_14 c i a0 h0 a1 h1 a2 h2 a3 h3 a4 h4 a5 h5 a6 h6 a7 h7 a8 h8 a9 h9 a10 h10 a11 h11 a12 h12 a13 h13 a14 h14 hc0 hc1 hc2 hc3 hc4 hc5 hc6 hc7 hc8 hc9 x0 x1 x2 x3 x4 x5 x6 x7 x8 x9 x10 x11 x12 xg xs (ix2 q d)
      = if q.val < 1 then k0_pay4 (k0_pay7 xg x6 x8) x10 (topRow xs) (ix2 0 d) else xs (ix2 q d) := by
  unfold out0_G_14
  unfold kernelRun0_G
  dsimp only
  sl_unfold_words
  by_cases hq : q.val < 1
  · obtain rfl : q = 0 := Fin.ext (by omega)
    rw [if_pos hq]
    refine (View.read_writes_cons_unit_of_mem a14.view _ (off' := ![0, 0]) _ _ _ _ (ix2 (0 : Fin 1) d) rfl
      (Fin.forall_fin_two.mpr ⟨rfl, (Nat.zero_add _).symm⟩)).trans ?_
    rw [View.readCov_unit_zero (S := S512x1024) _ zero2]
    simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S512x1024) zero2, View.ld_unit_zero (S := S1024x1024) zero2]
    refine congrArg (fun s => k0_pay4 (k0_pay7 xg x6 x8) x10 s (ix2 0 d)) ?_
    funext y
    refine congrArg xs (funext fun a => Fin.ext ?_)
    match a with
    | 0 =>
      have h0 : (y 0).val < 1 := (y 0).isLt
      show 0 + 1 * (y 0).val = 0
      omega
    | 1 =>
      show 0 + 1 * (y 1).val = (y 1).val
      omega
  · rw [if_neg hq]
    refine (View.read_writes_cons_unit_of_not_mem a14.view _ (off' := ![0, 0]) _ _ _ _ rfl 0 (Or.inr (by
      show 0 + 1 ≤ q.val
      omega))).trans ?_
    exact congrFun (h14.read_unread xs) _

end Cert.Kernel3Ideal.Gen

end
-- ==== Proof.InputArrays.lean ====
module

public import proofs.«01_k».proof.Proof.InputCases

/-! The two results' buffers from point to point, and the arrays they are written to. -/

@[expose] public section

set_option maxRecDepth 16384

noncomputable section

namespace Cert.Kernel3Ideal.Gen
open Idealize.ShloMosaic Idealize.ShloMosaic.TcCoe Idealize.SL.Sem Residual

variable (m : (ℓ : Loc nD τ sig) → Buf (Elt Ideal) ℓ) (c : Dev nD)

theorem before_lt (t : Fin cfg0.N) : t.val - 1 < cfg0.N := by have := t.isLt; omega

/-- The first section of a tile of tokens. -/
theorem step_first (t : Fin cfg0.N) (h : t.val % 7 = 0) :
    (outsAt0 m c t.val t.isLt).1 = k0_pay7 (k0_pay6 (iblk m c 7 t) (iblk m c 9 t)) (iblk m c 0 t) (iblk m c 8 t) := by
  by_cases h56 : t.val % 56 = 0
  · rw [outsAt0_A m c t h56 (by omega) (by omega) (by omega) (by omega) (by omega) (by omega) (by omega) (by omega) (by omega)]
    dsimp only
    rw [firstA]
  · rw [outsAt0_H m c t h56 (by omega) (by omega) (by omega) (by omega) (by omega) (by omega) (by omega) (by omega) (by omega)]
    dsimp only
    rw [firstH]

theorem stepB (t : Fin cfg0.N) (h : t.val % 7 = 1) :
    outsAt0 m c t.val t.isLt
      = (k0_pay7 (outsAt0 m c (t.val - 1) (before_lt t)).1 (iblk m c 1 t) (iblk m c 8 t), (outsAt0 m c (t.val - 1) (before_lt t)).2) := by
  rw [outsAt0_B m c t (by omega) (by omega) (by omega) (by omega) (by omega) (by omega) (by omega) (by omega) (by omega) (by omega)]
  rw [nextB]
  rfl

theorem stepC (t : Fin cfg0.N) (h : t.val % 7 = 2) :
    outsAt0 m c t.val t.isLt
      = (k0_pay7 (outsAt0 m c (t.val - 1) (before_lt t)).1 (iblk m c 2 t) (iblk m c 8 t), (outsAt0 m c (t.val - 1) (before_lt t)).2) := by
  rw [outsAt0_C m c t (by omega) (by omega) (by omega) (by omega) (by omega) (by omega) (by omega) (by omega) (by omega) (by omega)]
  rw [nextC]
  rfl

theorem stepD (t : Fin cfg0.N) (h : t.val % 7 = 3) :
    outsAt0 m c t.val t.isLt
      = (k0_pay7 (outsAt0 m c (t.val - 1) (before_lt t)).1 (iblk m c 3 t) (iblk m c 8 t), (outsAt0 m c (t.val - 1) (before_lt t)).2) := by
  rw [outsAt0_D m c t (by omega) (by omega) (by omega) (by omega) (by omega) (by omega) (by omega) (by omega) (by omega) (by omega)]
  rw [nextD]
  rfl

theorem stepE (t : Fin cfg0.N) (h : t.val % 7 = 4) :
    outsAt0 m c t.val t.isLt
      = (k0_pay7 (outsAt0 m c (t.val - 1) (before_lt t)).1 (iblk m c 4 t) (iblk m c 8 t), (outsAt0 m c (t.val - 1) (before_lt t)).2) := by
  rw [outsAt0_E m c t (by omega) (by omega) (by omega) (by omega) (by omega) (by omega) (by omega) (by omega) (by omega) (by omega)]
  rw [nextE]
  rfl

theorem stepF (t : Fin cfg0.N) (h : t.val % 7 = 5) :
    outsAt0 m c t.val t.isLt
      = (k0_pay7 (outsAt0 m c (t.val - 1) (before_lt t)).1 (iblk m c 5 t) (iblk m c 8 t), (outsAt0 m c (t.val - 1) (before_lt t)).2) := by
  rw [outsAt0_F m c t (by omega) (by omega) (by omega) (by omega) (by omega) (by omega) (by omega) (by omega) (by omega) (by omega)]
  rw [nextF]
  rfl

theorem step_last (t : Fin cfg0.N) (h : t.val % 7 = 6) :
    (outsAt0 m c t.val t.isLt).1
      = k0_pay3 (k0_pay7 (outsAt0 m c (t.val - 1) (before_lt t)).1 (iblk m c 6 t) (iblk m c 8 t)) (iblk m c 10 t) (iblk m c 11 t) (iblk m c 12 t) := by
  rw [outsAt0_G m c t (by omega) (by omega) (by omega) (by omega) (by omega) (by omega) (by omega) (by omega) (by omega) (by omega)]
  dsimp only
  rw [last]

theorem scale_last (t : Fin cfg0.N) (h : t.val % 7 = 6) (q : Fin 8) (d : Fin 1024) :
    (outsAt0 m c t.val t.isLt).2 (ix2 q d)
      = if q.val < 1 then k0_pay4 (k0_pay7 (outsAt0 m c (t.val - 1) (before_lt t)).1 (iblk m c 6 t) (iblk m c 8 t)) (iblk m c 10 t)
          (topRow (outsAt0 m c (t.val - 1) (before_lt t)).2) (ix2 0 d)
        else (outsAt0 m c (t.val - 1) (before_lt t)).2 (ix2 q d) := by
  rw [outsAt0_G m c t (by omega) (by omega) (by omega) (by omega) (by omega) (by omega) (by omega) (by omega) (by omega) (by omega)]
  dsimp only
  rw [scaleG]

theorem scale_first (t : Fin cfg0.N) (h56 : t.val % 56 = 0) : (outsAt0 m c t.val t.isLt).2 = k0_pay5 (F := Ideal) := by
  rw [outsAt0_A m c t h56 (by omega) (by omega) (by omega) (by omega) (by omega) (by omega) (by omega) (by omega) (by omega)]
  dsimp only
  rw [scaleA]

theorem scale_keep (t : Fin cfg0.N) (h56 : ¬ t.val % 56 = 0) (h6 : ¬ t.val % 7 = 6) :
    (outsAt0 m c t.val t.isLt).2 = (outsAt0 m c (t.val - 1) (before_lt t)).2 := by
  have h7 := Nat.mod_lt t.val (show 0 < 7 by omega)
  rcases (show t.val % 7 = 0 ∨ t.val % 7 = 1 ∨ t.val % 7 = 2 ∨ t.val % 7 = 3 ∨ t.val % 7 = 4 ∨ t.val % 7 = 5 by omega) with h | h | h | h | h | h
  · rw [outsAt0_H m c t h56 (by omega) (by omega) (by omega) (by omega) (by omega) (by omega) (by omega) (by omega) (by omega)]
    rfl
  · rw [stepB m c t h]
  · rw [stepC m c t h]
  · rw [stepD m c t h]
  · rw [stepE m c t h]
  · rw [stepF m c t h]

/-- What the gradient's buffer holds before a tile's last section. -/
theorem rows_eq : ∀ (s : ℕ), s < 6 → ∀ (t : Fin cfg0.N), t.val % 7 = s → ∀ (r : Fin 512) (d : Fin 1024),
    ((outsAt0 m c t.val t.isLt).1 (ix2 r d) : EReal) = upTo m c (tok t r) d (s + 1)
  | 0, _, t, h, r, d => by
    rw [step_first m c t h]
    exact section_sum m c _ _ t 0 (by omega) h r d (narrow_sum m c t r d) fun e _ => blk0 m c t r e
  | 1, _, t, h, r, d => by
    rw [stepB m c t h]
    refine section_sum m c _ _ t 1 (by omega) h r d ?_ fun e _ => blk1 m c t r e
    refine (rows_eq 0 (by omega) ⟨t.val - 1, before_lt t⟩ (by show (t.val - 1) % 7 = 0; omega) r d).trans ?_
    exact congrArg (fun k => upTo m c k d 1) (Fin.ext (by show 512 * ((t.val - 1) / 7) + r.val = 512 * (t.val / 7) + r.val; omega))
  | 2, _, t, h, r, d => by
    rw [stepC m c t h]
    refine section_sum m c _ _ t 2 (by omega) h r d ?_ fun e _ => blk2 m c t r e
    refine (rows_eq 1 (by omega) ⟨t.val - 1, before_lt t⟩ (by show (t.val - 1) % 7 = 1; omega) r d).trans ?_
    exact congrArg (fun k => upTo m c k d 2) (Fin.ext (by show 512 * ((t.val - 1) / 7) + r.val = 512 * (t.val / 7) + r.val; omega))
  | 3, _, t, h, r, d => by
    rw [stepD m c t h]
    refine section_sum m c _ _ t 3 (by omega) h r d ?_ fun e _ => blk3 m c t r e
    refine (rows_eq 2 (by omega) ⟨t.val - 1, before_lt t⟩ (by show (t.val - 1) % 7 = 2; omega) r d).trans ?_
    exact congrArg (fun k => upTo m c k d 3) (Fin.ext (by show 512 * ((t.val - 1) / 7) + r.val = 512 * (t.val / 7) + r.val; omega))
  | 4, _, t, h, r, d => by
    rw [stepE m c t h]
    refine section_sum m c _ _ t 4 (by omega) h r d ?_ fun e _ => blk4 m c t r e
    refine (rows_eq 3 (by omega) ⟨t.val - 1, before_lt t⟩ (by show (t.val - 1) % 7 = 3; omega) r d).trans ?_
    exact congrArg (fun k => upTo m c k d 4) (Fin.ext (by show 512 * ((t.val - 1) / 7) + r.val = 512 * (t.val / 7) + r.val; omega))
  | 5, _, t, h, r, d => by
    rw [stepF m c t h]
    refine section_sum m c _ _ t 5 (by omega) h r d ?_ fun e _ => blk5 m c t r e
    refine (rows_eq 4 (by omega) ⟨t.val - 1, before_lt t⟩ (by show (t.val - 1) % 7 = 4; omega) r d).trans ?_
    exact congrArg (fun k => upTo m c k d 5) (Fin.ext (by show 512 * ((t.val - 1) / 7) + r.val = 512 * (t.val / 7) + r.val; omega))

/-- The whole sum over the projection's columns. -/
theorem rows_all (t : Fin cfg0.N) (h : t.val % 7 = 6) (r : Fin 512) (d : Fin 1024) :
    (k0_pay7 (outsAt0 m c (t.val - 1) (before_lt t)).1 (iblk m c 6 t) (iblk m c 8 t) (ix2 r d) : EReal) = dhA m c (tok t r) d := by
  rw [← upTo_all]
  refine section_sum m c _ _ t 6 (by omega) h r d ?_ fun e _ => blk6 m c t r e
  refine (rows_eq m c 5 (by omega) ⟨t.val - 1, before_lt t⟩ (by show (t.val - 1) % 7 = 5; omega) r d).trans ?_
  exact congrArg (fun k => upTo m c k d 6) (Fin.ext (by show 512 * ((t.val - 1) / 7) + r.val = 512 * (t.val / 7) + r.val; omega))

/-- A token's row of the first result. -/
def resA (k : Fin 4096) (d : Fin 1024) : EReal :=
  rowX (fun e => xA m c (ix2 k e)) (fun e => dhA m c k e) (fun e => gA m c (ix2 0 e)) (fun e => oA m c (ix2 k e)) d

theorem rows_last (t : Fin cfg0.N) (h : t.val % 7 = 6) (r : Fin 512) (d : Fin 1024) :
    ((outsAt0 m c t.val t.isLt).1 (ix2 r d) : EReal) = resA m c (tok t r) d := by
  rw [step_last m c t h]
  refine (final_at _ _ _ _ r d).trans ?_
  have hx := funext fun e => blk10 m c t r e
  have hg := funext fun e => blk11 m c t 0 e
  have ho := funext fun e => blk12 m c t r e
  have hd := funext fun e => rows_all m c t h r e
  exact hx ▸ hg ▸ ho ▸ hd ▸ rfl

/-- One token's part of the scale's gradient. -/
def tokenPart (k : ℕ) (d : Fin 1024) : EReal :=
  if h : k < 4096 then dhA m c ⟨k, h⟩ d * xA m c (ix2 ⟨k, h⟩ d) * rowR (fun e => xA m c (ix2 ⟨k, h⟩ e)) else 0

theorem scale_eq : ∀ (n : ℕ) (h : n < cfg0.N) (q : Fin 8) (d : Fin 1024),
    ((outsAt0 m c n h).2 (ix2 q d) : EReal)
      = if q.val < 1 then ∑ k ∈ Finset.range (512 * ((n + 1) / 7)), tokenPart m c k d else 0 := by
  intro n
  induction n with
  | zero =>
    intro h q d
    rw [show (outsAt0 m c 0 h).2 = k0_pay5 (F := Ideal) from scale_first m c ⟨0, h⟩ rfl]
    refine (zeros_at q d).trans ?_
    simp
  | succ n ih =>
    intro h q d
    have h56 : n + 1 < 56 := lt_of_lt_of_eq h N_0
    by_cases h6 : (n + 1) % 7 = 6
    · refine (scale_last m c ⟨n + 1, h⟩ h6 q d).trans ?_
      by_cases hq : q.val < 1
      · rw [if_pos hq, if_pos hq]
        refine (scale_at _ _ _ 0 d).trans ?_
        have hx := fun r : Fin 512 => (funext fun e => blk10 m c ⟨n + 1, h⟩ r e : (fun e => (iblk m c 10 ⟨n + 1, h⟩ : FVec Ideal S512x1024 .f32) (ix2 r e)) = _)
        have hp : ((outsAt0 m c n (by omega)).2 (ix2 0 d) : EReal) = _ := ih (by omega) 0 d
        rw [if_pos (show ((0 : Fin 8) : ℕ) < 1 from Nat.zero_lt_one)] at hp
        rw [show 512 * ((n + 1 + 1) / 7) = 512 * ((n + 1) / 7) + 512 by omega, Finset.sum_range_add,
          ← Fin.sum_univ_eq_sum_range (fun r => tokenPart m c (512 * ((n + 1) / 7) + r) d) 512]
        refine congrArg₂ (fun x y : EReal => x + y) hp (Finset.sum_congr rfl fun r _ => ?_)
        rw [tokenPart, dif_pos (show 512 * ((n + 1) / 7) + r.val < 4096 by omega)]
        exact congrArg₂ (fun x y : EReal => x * y) (congrArg₂ (fun x y : EReal => x * y) (rows_all m c ⟨n + 1, h⟩ h6 r d) (blk10 m c ⟨n + 1, h⟩ r d))
          (congrArg rowR (hx r))
      · rw [if_neg hq, if_neg hq]
        refine (ih (by omega) q d).trans (if_neg hq)
    · rw [show (outsAt0 m c (n + 1) h).2 = (outsAt0 m c n (by omega)).2 from scale_keep m c ⟨n + 1, h⟩ (by show ¬ (n + 1) % 56 = 0; omega) h6, ih]
      rw [show (n + 1 + 1) / 7 = (n + 1) / 7 by omega]

/-- The scale's gradient: the sum over the tokens, in the first of eight rows. -/
def scaleT (d : Fin 1024) : EReal := ∑ k : Fin 4096, dhA m c k d * xA m c (ix2 k d) * rowR (fun e => xA m c (ix2 k e))

theorem scale_all (t : Fin cfg0.N) (ht : t.val % 56 = 55) (q : Fin 8) (d : Fin 1024) :
    ((outsAt0 m c t.val t.isLt).2 (ix2 q d) : EReal) = if q.val < 1 then scaleT m c d else 0 := by
  have hN := lt_of_lt_of_eq t.isLt (show cfg0.N = 56 from N_0)
  rw [scale_eq m c t.val t.isLt q d, show 512 * ((t.val + 1) / 7) = 4096 by omega, ← Fin.sum_univ_eq_sum_range (fun k => tokenPart m c k d) 4096]
  refine if_congr Iff.rfl (Finset.sum_congr rfl fun k _ => ?_) rfl
  rw [tokenPart, dif_pos k.isLt]

theorem at13 : ∀ t : Fin cfg0.N, win0_13.index t = ![t.val / 7, 0] := (by decide +kernel : ∀ t : Fin grid0.N, _)

theorem at14 : ∀ t : Fin cfg0.N, win0_14.index t = ![0, 0] := (by decide +kernel : ∀ t : Fin grid0.N, _)

/-- The call's first result. -/
def resX : FVec Ideal S4096x1024 .f32 := fun j => resA m c (j 0) (j 1)
/-- The call's second result. -/
def resG : FVec Ideal S8x1024 .f32 := fun j => (if (j 0).val < 1 then scaleT m c (j 1) else 0 : EReal)

theorem array13 : (dats m 0 c).arrAt 13 cfg0.N = resX m c := by
  refine (dats m 0 c).arrAt_eq_of_covers 13 _ (by decide +kernel) fun t hf y => ?_
  obtain ⟨r, d, rfl⟩ : ∃ (r : Fin 512) (d : Fin 1024), y = ix2 r d := ⟨_, _, eq_ix2 y⟩
  have hj : ((cfg0.win 13).blk t).view.emb (ix2 r d) = (ix2 (tok t r) d : S4096x1024.Idx) := by
    funext a
    fin_cases a <;> refine Fin.ext ?_ <;> blk_simp [at13] <;> simp [ix2, tok, Nat.mul_comm]
  rw [hj]
  blk_simp
  rw [after0_13]
  exact rows_last m c t ((flush0_13 t).mp hf) r d

theorem array14 : (dats m 0 c).arrAt 14 cfg0.N = resG m c := by
  refine (dats m 0 c).arrAt_eq_of_covers 14 _ (by decide +kernel) fun t hf y => ?_
  obtain ⟨q, d, rfl⟩ : ∃ (q : Fin 8) (d : Fin 1024), y = ix2 q d := ⟨_, _, eq_ix2 y⟩
  have hj : ((cfg0.win 14).blk t).view.emb (ix2 q d) = (ix2 q d : S8x1024.Idx) := by
    funext a
    fin_cases a <;> refine Fin.ext ?_ <;> blk_simp [at14] <;> simp [ix2]
  rw [hj]
  blk_simp
  rw [after0_14]
  exact scale_all m c t ((flush0_14 t).mp hf) q d

end Cert.Kernel3Ideal.Gen

end
-- ==== Proof.InputRef.lean ====
module

public import proofs.«01_k».proof.Proof.Gen.Reference3Ideal.Run
public import proofs.«01_k».proof.Proof.RowNorm
public import Idealize.ShloMosaic.Lib.Pointwise

/-! The reference's gradients of the normalised projection, read at an entry. -/

@[expose] public section

set_option maxRecDepth 16384

noncomputable section

namespace Cert.Reference3Ideal.Value
open Idealize.ShloMosaic Idealize.ShloMosaic.TcCoe Idealize.SL.Sem Residual Cert.Reference3Ideal Cert.Reference3Ideal.Gen

variable (m : (ℓ : Loc nD τ sig) → Buf (Elt Ideal) ℓ) (c : Dev nD)

def xA : S4096x1024.Idx → EReal := (m ((c.tc : Thread nD τ).loc main_arg0) : FVec Ideal S4096x1024 .f32)

def gA : S1x1024.Idx → EReal := (m ((c.tc : Thread nD τ).loc main_arg1) : FVec Ideal S1x1024 .f32)

def wA : S1024x7184.Idx → EReal := (m ((c.tc : Thread nD τ).loc main_arg2) : FVec Ideal S1024x7184 .f32)

def zA : S4096x7184.Idx → EReal := (m ((c.tc : Thread nD τ).loc main_arg3) : FVec Ideal S4096x7184 .f32)

def oA : S4096x1024.Idx → EReal := (m ((c.tc : Thread nD τ).loc main_arg4) : FVec Ideal S4096x1024 .f32)

def dhA (t : Fin 4096) (d : Fin 1024) : EReal := ∑ e : Fin 7184, zA m c (ix2 t e) * wA m c (ix2 d e)

theorem stream_at (t : Fin 4096) (d : Fin 1024) :
    (res_main_v39 m c (ix2 t d) : EReal) = oA m c (ix2 t d) + dhA m c t d * gA m c (ix2 0 d) * rowR (fun k => xA m c (ix2 t k))
      + xA m c (ix2 t d) * rowS (fun k => xA m c (ix2 t k)) (dhA m c t) (fun k => gA m c (ix2 0 k))
      + rowS (fun k => xA m c (ix2 t k)) (dhA m c t) (fun k => gA m c (ix2 0 k)) * xA m c (ix2 t d) := by
  unfold res_main_v39
  pointwise [xA, gA, wA, zA, oA, dhA, rowS, rowR, rowV]
  simp only [Fin.sum_univ_one]

/-- The second result's text. -/
def scaleText (x : FVec Ideal S4096x1024 .f32) (w : FVec Ideal S1024x7184 .f32) (z : FVec Ideal S4096x7184 .f32) : FVec Ideal S8x1024 .f32 :=
  concatenate S8x1024 0 [⟨S1x1024, (broadcastInDim S1x1024 ![1] bcast_S1024_S1x1024_1 (Host.reduceAdd (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x7184_S1024x7184_S4096x1024_1_1_0_0_n_n none z w)) (constant S_ .f32 0x00000000#32) reducesTo_S4096x1024_S1024_d0 h_S_) shapeCasts_S1024_S1x1024) (constant S_ .f32 0x00000000#32) reducesTo_S1x1024_S1024_d0 h_S_))⟩, ⟨S7x1024, (broadcastInDim S7x1024 ![] bcast_S_S7x1024 (constant S_ .f32 0x00000000#32))⟩] concatenates_S1x1024_S7x1024_S8x1024_d0

theorem scale_at (x : FVec Ideal S4096x1024 .f32) (w : FVec Ideal S1024x7184 .f32) (z : FVec Ideal S4096x7184 .f32) (q : Fin 8) (d : Fin 1024) :
    (scaleText x w z (ix2 q d) : EReal) = if q.val < 1 then
      ∑ t : Fin 4096, x (ix2 t d) * rowR (fun k => x (ix2 t k)) * ∑ e : Fin 7184, (z (ix2 t e) : EReal) * w (ix2 d e) else (0 : EReal) := by
  pointwise [scaleText, rowR, rowV]
  simp only [Fin.sum_univ_one, dite_eq_ite]

end Cert.Reference3Ideal.Value

end
-- ==== Proof.Input.lean ====
module

public import proofs.«01_k».proof.Proof.InputArrays
public import proofs.«01_k».proof.Proof.InputRef
public import proofs.«01_k».proof.Proof.Gen.Kernel3
public import proofs.«01_k».proof.Defs

/-! The gradients of the residual stream and of the norm's scale: frames, and equality with the reference. -/

@[expose] public section

noncomputable section

namespace Cert.Proof

open Idealize.ShloMosaic Idealize.ShloMosaic.TcCoe Idealize.SL.Sem Residual

local instance inputIdeal : Cert.Kernel3Ideal.Facts := Cert.Kernel3Ideal.Gen.facts
local instance inputReference : Cert.Reference3Ideal.Facts := Cert.Reference3Ideal.Gen.facts
local instance inputWords : Cert.Kernel3.Facts := Cert.Kernel3.Gen.facts

theorem frame_input_ideal : Cert.quiescent_Kernel3Ideal := fun m ρ _ => Cert.Kernel3Ideal.Gen.frame (F := Ideal) m ρ

set_option maxHeartbeats 4000000 in
/-- The two programs have one table of bodies. -/
theorem input_table {F : FTy → Type} [FloatOps F] : Cert.Kernel3.defs (F := F) = Cert.Kernel3Ideal.defs := by
  refine congrArg (Pipeline.defs Cert.Kernel3Ideal.pcfgs) (congrArg Defs.onTc ?_)
  funext l x
  match l, x with
  | 0, (t, s) => rfl

set_option maxHeartbeats 4000000 in
/-- The call at words: the same run. -/
theorem frame_input_bits : Cert.quiescent_Kernel3 := fun m ρ _ => by
  have h := Cert.Kernel3Ideal.Gen.frame (F := Bits) m ρ
  rw [← input_table] at h
  exact h

theorem frame_input_reference : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

theorem input_text : Cert.preserves_Kernel3_Kernel3Ideal := trivial

/-- The call's two results are the reference's, for all arguments. -/
theorem same_input : Cert.algebraic_Kernel3Ideal_Reference3Ideal := by
  intro m ρ m' ρ' _ hargs
  refine ⟨fun c => Cert.Kernel3Ideal.Gen.resX m c, fun c => Cert.Kernel3Ideal.Gen.resG m c, ?_, ?_⟩
  · exact (θ_run Cert.Kernel3Ideal.defs _ _).mono
      (fun r h c => ⟨(h c).1.trans (Cert.Kernel3Ideal.Gen.array13 m c), (h c).2.1.trans (Cert.Kernel3Ideal.Gen.array14 m c), (h c).2.2⟩)
      (Cert.Kernel3Ideal.Value.run_blocks m ρ)
  · refine (θ_run Cert.Reference3Ideal.defs _ _).mono (fun r h c => ⟨(h c).1.trans ?_, (h c).2.1.trans ?_, (h c).2.2⟩)
      (Cert.Reference3Ideal.Value.run (F := Ideal) m' ρ')
    · obtain ⟨ax, ag, aw, az, ao⟩ := hargs c
      have hx : Cert.Reference3Ideal.Value.xA m' c = Cert.Kernel3Ideal.Gen.xA m c := ax
      have hg : Cert.Reference3Ideal.Value.gA m' c = Cert.Kernel3Ideal.Gen.gA m c := ag
      have hw : Cert.Reference3Ideal.Value.wA m' c = Cert.Kernel3Ideal.Gen.wA m c := aw
      have hz : Cert.Reference3Ideal.Value.zA m' c = Cert.Kernel3Ideal.Gen.zA m c := az
      have ho : Cert.Reference3Ideal.Value.oA m' c = Cert.Kernel3Ideal.Gen.oA m c := ao
      have hd : Cert.Reference3Ideal.Value.dhA m' c = Cert.Kernel3Ideal.Gen.dhA m c := by
        unfold Cert.Reference3Ideal.Value.dhA Cert.Kernel3Ideal.Gen.dhA
        rw [hw, hz]
      funext j
      obtain ⟨t, d, rfl⟩ : ∃ (t : Fin 4096) (d : Fin 1024), j = ix2 t d := ⟨_, _, eq_ix2 j⟩
      refine (Cert.Reference3Ideal.Value.stream_at m' c t d).trans ?_
      rw [hx, hg, ho, hd]
      exact row_same (fun k => Cert.Kernel3Ideal.Gen.xA m c (ix2 t k)) (Cert.Kernel3Ideal.Gen.dhA m c t) (fun k => Cert.Kernel3Ideal.Gen.gA m c (ix2 0 k))
        (fun k => Cert.Kernel3Ideal.Gen.oA m c (ix2 t k)) d
    · obtain ⟨ax, ag, aw, az, ao⟩ := hargs c
      funext j
      obtain ⟨q, d, rfl⟩ : ∃ (q : Fin 8) (d : Fin 1024), j = ix2 q d := ⟨_, _, eq_ix2 j⟩
      refine (Cert.Reference3Ideal.Value.scale_at _ _ _ q d).trans ?_
      rw [ax, aw, az]
      refine if_congr Iff.rfl (Finset.sum_congr rfl fun t _ => ?_) rfl
      exact (mul_comm _ _).trans (mul_assoc _ _ _).symm

end Cert.Proof

end
-- ==== Proof.OutRow.lean ====
module

public import proofs.«01_k».proof.Proof.RowNorm
public import Idealize.ShloMosaic.Lib.Pointwise

/-! The output projection's mathematics: the gate, the error, and the loss's constants. -/

@[expose] public section

set_option maxRecDepth 16384

noncomputable section

namespace Output
open Idealize.ShloMosaic Idealize.ShloMosaic.TcCoe Residual

/-- A gate times its logistic. -/
def silu (g : EReal) : EReal := g * Ideal.div 1 (1 + Ideal.exp (-g))

/-- The residual stream and the two mixers' projections, less the target. -/
def errV (x : EReal) (u v wl wh : Fin 1024 → EReal) (t : EReal) : EReal := x + (∑ e, u e * wl e + ∑ e, v e * wh e) - t

/-- An error over the row's width. -/
def overD (e : EReal) : EReal := e * Ideal.ofBits .f32 0x3A800000#32

theorem bits_mean : Ideal.ofBits .f32 0x3A800000#32 = ((1 / 1024 : ℝ) : EReal) := by
  simp [Ideal.ofBits, Ideal.ieee]
  rw [← EReal.coe_mul]
  exact congrArg (fun x : ℝ => (x : EReal)) (by norm_num)

theorem bits_loss : Ideal.ofBits .f32 0x3A000000#32 = ((1 / 2048 : ℝ) : EReal) := by
  simp [Ideal.ofBits, Ideal.ieee]
  rw [← EReal.coe_mul]
  exact congrArg (fun x : ℝ => (x : EReal)) (by norm_num)

theorem bits_two : Ideal.ofBits .f32 0x40000000#32 = ((2 : ℝ) : EReal) := by
  simp [Ideal.ofBits, Ideal.ieee]
  rw [← EReal.coe_mul]
  exact congrArg (fun x : ℝ => (x : EReal)) (by norm_num)

theorem bits_pos_half : Ideal.ofBits .f32 0x3F000000#32 = ((1 / 2 : ℝ) : EReal) := by
  simp [Ideal.ofBits, Ideal.ieee]
  rw [← EReal.coe_mul]
  exact congrArg (fun x : ℝ => (x : EReal)) (by norm_num)

/-- The loss's derivative by the chain rule is the error over the row's width. -/
theorem slope_same (e : EReal) :
    Ideal.div (Ideal.ofBits .f32 0x3F000000#32 * 1) (Ideal.ofBits .f32 0x44800000#32) * (Ideal.ofBits .f32 0x40000000#32 * e)
      = overD e := by
  rw [overD, mul_one, bits_pos_half, bits_1024, bits_two, bits_mean, Ideal.div_coe (by norm_num), ← EReal.coe_mul, ← mul_assoc, ← EReal.coe_mul, mul_comm]
  exact congrArg (fun x : ℝ => e * (x : EReal)) (by norm_num)

/-- A nonnegative real multiple of a sum. -/
theorem real_mul_sum {ι : Type} (s : Finset ι) (f : ι → EReal) {k : ℝ} (hk : 0 ≤ k) : (k : EReal) * ∑ i ∈ s, f i = ∑ i ∈ s, (k : EReal) * f i := by
  classical
  induction s using Finset.induction_on with
  | empty => simp
  | insert a s ha ih => rw [Finset.sum_insert ha, Finset.sum_insert ha,
      EReal.left_distrib_of_nonneg_of_ne_top (EReal.coe_nonneg.mpr hk) (EReal.coe_ne_top _), ih]

/-- Half the sum of the rows' means is the sum of the rows' parts of the loss. -/
theorem loss_same {n : Nat} (f : Fin n → EReal) :
    Ideal.ofBits .f32 0x3F000000#32 * ∑ t, Ideal.div (f t) (Ideal.ofBits .f32 0x44800000#32) = ∑ t, f t * Ideal.ofBits .f32 0x3A000000#32 := by
  rw [bits_pos_half, real_mul_sum _ _ (by norm_num), bits_1024, bits_loss]
  refine Finset.sum_congr rfl fun t _ => ?_
  rw [Ideal.div_coe (by norm_num), mul_left_comm, ← EReal.coe_mul]
  exact congrArg (fun x : ℝ => f t * (x : EReal)) (by norm_num)

/-- A tile's part of the loss, a row at a time. -/
theorem tile_loss {n : Nat} (f : Fin n → EReal) : (∑ t, f t) * Ideal.ofBits .f32 0x3A000000#32 = ∑ t, f t * Ideal.ofBits .f32 0x3A000000#32 := by
  rw [bits_loss, mul_comm, real_mul_sum _ _ (by norm_num)]
  exact Finset.sum_congr rfl fun t _ => mul_comm _ _

/-! The results over whole arrays: the two mixers' outputs `a` (to be gated) and `u`, the projection `z`, the residual stream `x`, the target `t` and the weight `w`. -/

section
variable (a : (⟨2, ![4096, 1024]⟩ : Shape).Idx → EReal) (z : (⟨2, ![4096, 7184]⟩ : Shape).Idx → EReal) (u x t : (⟨2, ![4096, 1024]⟩ : Shape).Idx → EReal)
  (w : (⟨2, ![2048, 1024]⟩ : Shape).Idx → EReal)

/-- The first mixer's output, gated. -/
def gatedA (k : Fin 4096) (e : Fin 1024) : EReal := a (ix2 k e) * silu (z (ix2 k ⟨3088 + e.val, by omega⟩))

def errA (k : Fin 4096) (d : Fin 1024) : EReal :=
  errV (x (ix2 k d)) (gatedA a z k) (fun e => u (ix2 k e)) (fun e => w (ix2 ⟨e.val, by omega⟩ d)) (fun e => w (ix2 ⟨1024 + e.val, by omega⟩ d)) (t (ix2 k d))

/-- Both mixers' outputs, side by side. -/
def mixA (k : Fin 4096) (e : Fin 2048) : EReal := if h : e.val < 1024 then gatedA a z k ⟨e.val, h⟩ else u (ix2 k ⟨e.val - 1024, by omega⟩)

/-- The gradient in the mixers' outputs. -/
def mixG (k : Fin 4096) (e : Fin 2048) : EReal := ∑ d : Fin 1024, overD (errA a z u x t w k d) * w (ix2 e d)

/-- The gradient in the weight. -/
def weightG (e : Fin 2048) (d : Fin 1024) : EReal := ∑ k : Fin 4096, mixA a z u k e * overD (errA a z u x t w k d)

/-- A token's squared error. -/
def sqA (k : Fin 4096) : EReal := ∑ d : Fin 1024, errA a z u x t w k d * errA a z u x t w k d

def lossA : EReal := ∑ k : Fin 4096, sqA a z u x t w k * Ideal.ofBits .f32 0x3A000000#32
end

/-- A sum over both mixers' columns, one mixer at a time. -/
theorem sum_halves (f : Fin 2048 → EReal) : ∑ e, f e = ∑ e : Fin 1024, f ⟨e.val, by omega⟩ + ∑ e : Fin 1024, f ⟨1024 + e.val, by omega⟩ :=
  Fin.sum_univ_add (a := 1024) (b := 1024) f

end Output

end
-- ==== Proof.OutPay.lean ====
module

public import proofs.«01_k».proof.Proof.Gen.Kernel4Ideal.Skeleton
public import proofs.«01_k».proof.Proof.OutRow

/-! The output projection's tile operations, read at an entry. -/

@[expose] public section

set_option maxRecDepth 16384

noncomputable section

namespace Cert.Kernel4Ideal.Gen
open Idealize.ShloMosaic Idealize.ShloMosaic.TcCoe Output

theorem gated_at (g a : Vec Ideal S256x1024 .f32) (r : Fin 256) (e : Fin 1024) :
    (k0_pay9 g a (ix2 r e) : EReal) = a (ix2 r e) * silu (g (ix2 r e)) := by
  pointwise [k0_pay9, silu, Ideal.logistic]

theorem err_at (g a : Vec Ideal S256x1024 .f32) (u : Vec Ideal S256x1024 .bf16) (x : Vec Ideal S256x1024 .f32)
    (wl wh : Vec Ideal S1024x1024 .bf16) (t : Vec Ideal S256x1024 .f32) (r : Fin 256) (d : Fin 1024) :
    (k0_pay11 g a u x wl wh t (ix2 r d) : EReal) = errV (x (ix2 r d)) (fun e => a (ix2 r e) * silu (g (ix2 r e))) (fun e => u (ix2 r e))
      (fun e => wl (ix2 e d)) (fun e => wh (ix2 e d)) (t (ix2 r d)) := by
  pointwise [k0_pay11, k0_pay10, gated_at, errV]

theorem slope_at (e : Vec Ideal S256x1024 .f32) (r : Fin 256) (d : Fin 1024) :
    (k0_pay1 (F := Ideal) e (ix2 r d) : EReal) = overD (e (ix2 r d)) := by
  pointwise [k0_pay1, overD]

theorem lower_at (e : Vec Ideal S256x1024 .f32) (w : Vec Ideal S1024x1024 .bf16) (r : Fin 256) (c : Fin 1024) :
    (k0_pay3 (F := Ideal) e w (ix2 r c) : EReal) = ∑ d : Fin 1024, overD (e (ix2 r d)) * w (ix2 c d) := by
  pointwise [k0_pay3, k0_pay2, slope_at]

theorem upper_at (e : Vec Ideal S256x1024 .f32) (w : Vec Ideal S1024x1024 .bf16) (r : Fin 256) (c : Fin 1024) :
    (k0_pay4 (F := Ideal) e w (ix2 r c) : EReal) = ∑ d : Fin 1024, overD (e (ix2 r d)) * w (ix2 c d) := by
  pointwise [k0_pay4, k0_pay2, slope_at]

theorem outer_at (u : Vec Ideal S256x1024 .bf16) (e : Vec Ideal S256x1024 .f32) (s : Vec Ideal S1024x1024 .f32) (c d : Fin 1024) :
    (k0_pay5 (F := Ideal) u e s (ix2 c d) : EReal) = s (ix2 c d) + ∑ r : Fin 256, (u (ix2 r c) : EReal) * overD (e (ix2 r d)) := by
  pointwise [k0_pay5, k0_pay2, slope_at]

theorem outer2_at (u : Vec Ideal S256x1024 .bf16) (e : Vec Ideal S256x1024 .f32) (s : Vec Ideal S1024x1024 .f32) (c d : Fin 1024) :
    (k0_pay6 (F := Ideal) u e s (ix2 c d) : EReal) = s (ix2 c d) + ∑ r : Fin 256, (u (ix2 r c) : EReal) * overD (e (ix2 r d)) := by
  pointwise [k0_pay6, k0_pay2, slope_at]

theorem mixer_at (u : Vec Ideal S256x1024 .bf16) (r : Fin 256) (e : Fin 1024) : (k0_pay10 u (ix2 r e) : EReal) = u (ix2 r e) := by
  pointwise [k0_pay10]

theorem zero_weight_at (e : Fin 2048) (d : Fin 1024) : (k0_pay7 (ix2 e d) : Ideal .f32) = (0 : EReal) := by
  pointwise [k0_pay7]

theorem zero_loss_at (q : Fin 8) (l : Fin 128) : (k0_pay8 (ix2 q l) : Ideal .f32) = (0 : EReal) := by
  pointwise [k0_pay8]

theorem loss_at (g a : Vec Ideal S256x1024 .f32) (u : Vec Ideal S256x1024 .bf16) (x : Vec Ideal S256x1024 .f32)
    (wl wh : Vec Ideal S1024x1024 .bf16) (t : Vec Ideal S256x1024 .f32) (s : Vec Ideal S8x128 .f32) (q : Fin 8) (l : Fin 128) :
    (k0_pay12 g a u x wl wh t s (ix2 q l) : EReal) = s (ix2 q l) + (∑ r : Fin 256, ∑ d : Fin 1024,
      (k0_pay11 g a u x wl wh t (ix2 r d) : EReal) * k0_pay11 g a u x wl wh t (ix2 r d)) * Ideal.ofBits .f32 0x3A000000#32 := by
  pointwise [k0_pay12]

end Cert.Kernel4Ideal.Gen

end
-- ==== Proof.OutTiles.lean ====
module

public import proofs.«01_k».proof.Proof.Gen.Kernel4Ideal.Skeleton
public import proofs.«01_k».proof.Proof.OutRow
public import Idealize.ShloMosaic.Lib.WritesUnit
public import Idealize.ShloMosaic.Lib.Pipeline.ReadBack
public import Idealize.ShloMosaic.Lib.Pipeline.ValueKit.Geometry

/-! Buffers stored one half at a time. -/

@[expose] public section

set_option maxRecDepth 16384

noncomputable section

namespace Cert.Kernel4Ideal.Gen
open Idealize.ShloMosaic Idealize.ShloMosaic.TcCoe Idealize.SL.Sem Output

variable {F : FTy → Type} [FloatOps F]

/-- The first mixer's rows of a weight. -/
def lowRows {e : EltTy} (v : Vec F S2048x1024 e) : Vec F S1024x1024 e := View.ld v (Rect.unit (s := S2048x1024) ![0, 0] S1024x1024.size inb_S2048x1024_S1024x1024_0_0)

/-- The second mixer's. -/
def highRows {e : EltTy} (v : Vec F S2048x1024 e) : Vec F S1024x1024 e := View.ld v (Rect.unit (s := S2048x1024) ![1024, 0] S1024x1024.size inb_S2048x1024_S1024x1024_1024_0)

theorem lowRows_at {e : EltTy} (v : Vec F S2048x1024 e) (a d : Fin 1024) : lowRows v (ix2 a d) = v (ix2 (⟨a.val, by omega⟩ : Fin 2048) d) := by
  refine congrArg v (funext fun k => Fin.ext ?_)
  match k with
  | 0 => show 0 + 1 * a.val = a.val; omega
  | 1 => show 0 + 1 * d.val = d.val; omega

theorem highRows_at {e : EltTy} (v : Vec F S2048x1024 e) (a d : Fin 1024) : highRows v (ix2 a d) = v (ix2 (⟨1024 + a.val, by omega⟩ : Fin 2048) d) := by
  refine congrArg v (funext fun k => Fin.ext ?_)
  match k with
  | 0 => show 1024 + 1 * a.val = 1024 + a.val; omega
  | 1 => show 0 + 1 * d.val = d.val; omega

/-- Two blocks of columns, side by side. -/
def colPair (v w : Vec F S256x1024 .f32) : Vec F S256x2048 .f32 := fun y =>
  if h : (y 1).val < 1024 then v (ix2 (⟨(y 0).val, (y 0).isLt⟩ : Fin 256) (⟨(y 1).val, h⟩ : Fin 1024))
  else w (ix2 (⟨(y 0).val, (y 0).isLt⟩ : Fin 256) (⟨(y 1).val - 1024, by have h1 : (y 1).val < 2048 := (y 1).isLt; omega⟩ : Fin 1024))

/-- Two blocks of rows, one over the other. -/
def rowPair (v w : Vec F S1024x1024 .f32) : Vec F S2048x1024 .f32 := fun y =>
  if h : (y 0).val < 1024 then v (ix2 (⟨(y 0).val, h⟩ : Fin 1024) (⟨(y 1).val, (y 1).isLt⟩ : Fin 1024))
  else w (ix2 (⟨(y 0).val - 1024, by have h1 : (y 0).val < 2048 := (y 0).isLt; omega⟩ : Fin 1024) (⟨(y 1).val, (y 1).isLt⟩ : Fin 1024))

theorem canon_cols (v w : Vec F S256x1024 .f32) (L : List (View.Piece (Elt F) S256x2048 .f32)) :
    View.canon (⟨Rect.unit (s := S256x2048) ![0, 1024] S256x1024.size inb_S256x2048_S256x1024_0_1024, w⟩
      :: ⟨Rect.unit (s := S256x2048) ![0, 0] S256x1024.size inb_S256x2048_S256x1024_0_0, v⟩ :: L) = colPair v w := by
  funext y
  have h1 : (y 1).val < 2048 := (y 1).isLt
  unfold colPair
  by_cases h : (y 1).val < 1024
  · rw [dif_pos h]
    refine (View.canon_cons_of_not_mem _ _ fun hm => ?_).trans ?_
    · have := ((Rect.mem_set_unit (inb := inb_S256x2048_S256x1024_0_1024)).mp hm 1).1
      have h2 : 1024 ≤ (y 1).val := this
      omega
    · have hy : y = (Rect.unit (s := S256x2048) ![0, 0] S256x1024.size inb_S256x2048_S256x1024_0_0).emb
          (ix2 (⟨(y 0).val, (y 0).isLt⟩ : Fin 256) (⟨(y 1).val, h⟩ : Fin 1024)) := by
        funext k
        refine Fin.ext ?_
        match k with
        | 0 => show (y 0).val = 0 + 1 * (y 0).val; omega
        | 1 => show (y 1).val = 0 + 1 * (y 1).val; omega
      exact (congrArg (View.canon _) hy).trans (View.canon_cons_emb _ _ _ _)
  · rw [dif_neg h]
    have hy : y = (Rect.unit (s := S256x2048) ![0, 1024] S256x1024.size inb_S256x2048_S256x1024_0_1024).emb
        (ix2 (⟨(y 0).val, (y 0).isLt⟩ : Fin 256) (⟨(y 1).val - 1024, by omega⟩ : Fin 1024)) := by
      funext k
      refine Fin.ext ?_
      match k with
      | 0 => show (y 0).val = 0 + 1 * (y 0).val; omega
      | 1 => show (y 1).val = 1024 + 1 * ((y 1).val - 1024); omega
    exact (congrArg (View.canon _) hy).trans (View.canon_cons_emb _ _ _ _)

theorem canon_rows (v w : Vec F S1024x1024 .f32) (L : List (View.Piece (Elt F) S2048x1024 .f32)) :
    View.canon (⟨Rect.unit (s := S2048x1024) ![1024, 0] S1024x1024.size inb_S2048x1024_S1024x1024_1024_0, w⟩
      :: ⟨Rect.unit (s := S2048x1024) ![0, 0] S1024x1024.size inb_S2048x1024_S1024x1024_0_0, v⟩ :: L) = rowPair v w := by
  funext y
  have h1 : (y 0).val < 2048 := (y 0).isLt
  unfold rowPair
  by_cases h : (y 0).val < 1024
  · rw [dif_pos h]
    refine (View.canon_cons_of_not_mem _ _ fun hm => ?_).trans ?_
    · have := ((Rect.mem_set_unit (inb := inb_S2048x1024_S1024x1024_1024_0)).mp hm 0).1
      have h2 : 1024 ≤ (y 0).val := this
      omega
    · have hy : y = (Rect.unit (s := S2048x1024) ![0, 0] S1024x1024.size inb_S2048x1024_S1024x1024_0_0).emb
          (ix2 (⟨(y 0).val, h⟩ : Fin 1024) (⟨(y 1).val, (y 1).isLt⟩ : Fin 1024)) := by
        funext k
        refine Fin.ext ?_
        match k with
        | 0 => show (y 0).val = 0 + 1 * (y 0).val; omega
        | 1 => show (y 1).val = 0 + 1 * (y 1).val; omega
      exact (congrArg (View.canon _) hy).trans (View.canon_cons_emb _ _ _ _)
  · rw [dif_neg h]
    have hy : y = (Rect.unit (s := S2048x1024) ![1024, 0] S1024x1024.size inb_S2048x1024_S1024x1024_1024_0).emb
        (ix2 (⟨(y 0).val - 1024, by omega⟩ : Fin 1024) (⟨(y 1).val, (y 1).isLt⟩ : Fin 1024)) := by
      funext k
      refine Fin.ext ?_
      match k with
      | 0 => show (y 0).val = 1024 + 1 * ((y 0).val - 1024); omega
      | 1 => show (y 1).val = 0 + 1 * (y 1).val; omega
    exact (congrArg (View.canon _) hy).trans (View.canon_cons_emb _ _ _ _)

/-- The first mixer's rows of a buffer just filled; -/
theorem fill_low (b : View sig .tc .vmem S2048x1024 .f32) (Z : Vec F S2048x1024 .f32) :
    b.readCov (Val := Elt F) [⟨Rect.unit (s := S2048x1024) ![0, 0] S2048x1024.size inb_S2048x1024_S2048x1024_0_0, Z⟩]
      (Rect.unit (s := S2048x1024) ![0, 0] S1024x1024.size inb_S2048x1024_S1024x1024_0_0).toLoadRect = lowRows Z :=
  View.readCov_fill b _ Z _ _ (Fin.forall_fin_two.mpr ⟨rfl, rfl⟩)

/-- the second's, when the first's have been stored since. -/
theorem fill_high (b : View sig .tc .vmem S2048x1024 .f32) (v : Vec F S1024x1024 .f32) (Z : Vec F S2048x1024 .f32) :
    b.readCov (Val := Elt F) [⟨Rect.unit (s := S2048x1024) ![0, 0] S1024x1024.size inb_S2048x1024_S1024x1024_0_0, v⟩,
        ⟨Rect.unit (s := S2048x1024) ![0, 0] S2048x1024.size inb_S2048x1024_S2048x1024_0_0, Z⟩]
      (Rect.unit (s := S2048x1024) ![1024, 0] S1024x1024.size inb_S2048x1024_S1024x1024_1024_0).toLoadRect = highRows Z := by
  rw [View.readCov_eq_canon']
  funext j
  refine (View.canon_cons_of_not_mem _ _ fun hm => ?_).trans (congrFun (View.canon_unit_zero (S := S2048x1024) (funext fun a => by fin_cases a <;> rfl) _ Z) _)
  have h1 := ((Rect.mem_set_unit (inb := inb_S2048x1024_S1024x1024_0_0)).mp hm 0).2
  have h2 : 1024 + 1 * (j 0).val < 0 + 1024 := h1
  omega

theorem colPair_low (v w : Vec F S256x1024 .f32) (r : Fin 256) (e : Fin 2048) (h : e.val < 1024) : colPair v w (ix2 r e) = v (ix2 r ⟨e.val, h⟩) := dif_pos h

theorem colPair_high (v w : Vec F S256x1024 .f32) (r : Fin 256) (e : Fin 2048) (h : ¬ e.val < 1024) :
    colPair v w (ix2 r e) = w (ix2 r ⟨e.val - 1024, by omega⟩) := dif_neg h

theorem rowPair_low (v w : Vec F S1024x1024 .f32) (e : Fin 2048) (d : Fin 1024) (h : e.val < 1024) : rowPair v w (ix2 e d) = v (ix2 ⟨e.val, h⟩ d) := dif_pos h

theorem rowPair_high (v w : Vec F S1024x1024 .f32) (e : Fin 2048) (d : Fin 1024) (h : ¬ e.val < 1024) :
    rowPair v w (ix2 e d) = w (ix2 ⟨e.val - 1024, by omega⟩ d) := dif_neg h

end Cert.Kernel4Ideal.Gen

end
-- ==== Proof.OutCases.lean ====
module

public import proofs.«01_k».proof.Proof.Gen.Kernel4Ideal.Value
public import proofs.«01_k».proof.Proof.OutPay
public import proofs.«01_k».proof.Proof.OutTiles

/-! What one grid point leaves in the four results' buffers, at the first point and at the others. -/

@[expose] public section

set_option maxRecDepth 16384

noncomputable section

namespace Cert.Kernel4Ideal.Gen
open Idealize.ShloMosaic Idealize.ShloMosaic.TcCoe Idealize.SL.Sem Output

theorem zero2 : (![0, 0] : Fin 2 → Nat) = fun _ => 0 := funext fun a => by fin_cases a <;> rfl

variable {F : FTy → Type} [FloatOps F]

variable (c : Dev nD) (i : grid0.Coords)
  (a0 : Memref sig .tc .vmem S256x1024 .f32) (h0 : a0.IsWhole)
  (a1 : Memref sig .tc .vmem S256x1024 .f32) (h1 : a1.IsWhole)
  (a2 : Memref sig .tc .vmem S256x1024 .bf16) (h2 : a2.IsWhole)
  (a3 : Memref sig .tc .vmem S256x1024 .f32) (h3 : a3.IsWhole)
  (a4 : Memref sig .tc .vmem S256x1024 .f32) (h4 : a4.IsWhole)
  (a5 : Memref sig .tc .vmem S2048x1024 .bf16) (h5 : a5.IsWhole)
  (a6 : Memref sig .tc .vmem S256x1024 .f32) (h6 : a6.IsWhole)
  (a7 : Memref sig .tc .vmem S256x2048 .f32) (h7 : a7.IsWhole)
  (a8 : Memref sig .tc .vmem S2048x1024 .f32) (h8 : a8.IsWhole)
  (a9 : Memref sig .tc .vmem S8x128 .f32) (h9 : a9.IsWhole)
  (x0 : Vec F S256x1024 .f32)
  (x1 : Vec F S256x1024 .f32)
  (x2 : Vec F S256x1024 .bf16)
  (x3 : Vec F S256x1024 .f32)
  (x4 : Vec F S256x1024 .f32)
  (x5 : Vec F S2048x1024 .bf16)
  (xw : Vec F S2048x1024 .f32) (xl : Vec F S8x128 .f32)

/-- A tile's error. -/
def errT : Vec F S256x1024 .f32 := k0_pay11 x1 x0 x2 x3 (lowRows x5) (highRows x5) x4

theorem doutA (hc0 : cond0_0 i) : out0_A_6 c i a0 h0 a1 h1 a2 h2 a3 h3 a4 h4 a5 h5 a6 h6 a7 h7 a8 h8 a9 h9 hc0 x0 x1 x2 x3 x4 x5 = k0_pay1 (errT x0 x1 x2 x3 x4 x5) := by
  unfold out0_A_6
  rw [View.read_writes_eq_canon _ _ _ (cover0_A_6 c i a0 h0 a1 h1 a2 h2 a3 h3 a4 h4 a5 h5 a6 h6 a7 h7 a8 h8 a9 h9 hc0 x0 x1 x2 x3 x4 x5)]
  unfold kernelRun0_A
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h9.read_unread, View.ld_unit_zero (S := S256x1024) zero2, View.ld_unit_zero (S := S8x128) zero2]
  rfl

theorem dyA (hc0 : cond0_0 i) : out0_A_7 c i a0 h0 a1 h1 a2 h2 a3 h3 a4 h4 a5 h5 a6 h6 a7 h7 a8 h8 a9 h9 hc0 x0 x1 x2 x3 x4 x5 = colPair (k0_pay3 (errT x0 x1 x2 x3 x4 x5) (lowRows x5)) (k0_pay4 (errT x0 x1 x2 x3 x4 x5) (highRows x5)) := by
  unfold out0_A_7
  rw [View.read_writes_eq_canon _ _ _ (cover0_A_7 c i a0 h0 a1 h1 a2 h2 a3 h3 a4 h4 a5 h5 a6 h6 a7 h7 a8 h8 a9 h9 hc0 x0 x1 x2 x3 x4 x5)]
  unfold kernelRun0_A
  dsimp only
  sl_unfold_words
  rw [canon_cols]
  simp only [View.readAt_eq_ld, h0.read_unread, h1.read_unread, h2.read_unread, h3.read_unread, h4.read_unread, h5.read_unread, h6.read_unread, h7.read_unread, h8.read_unread, h9.read_unread, View.ld_unit_zero (S := S256x1024) zero2, View.ld_unit_zero (S := S8x128) zero2]
  rfl

theorem dwoA (hc0 : cond0_0 i) : out0_A_8 c i a0 h0 a1 h1 a2 h2 a3 h3 a4 h4 a5 h5 a6 h6 a7 h7 a8 h8 a9 h9 hc0 x0 x1 x2 x3 x4 x5 = rowPair (k0_pay5 (k0_pay9 x1 x0) (errT x0 x1 x2 x3 x4 x5) (lowRows k0_pay7)) (k0_pay6 (k0_pay10 x2) (errT x0 x1 x2 x3 x4 x5) (highRows k0_pay7)) := by
  unfold out0_A_8
  rw [View.read_writes_eq_canon _ _ _ (cover0_A_8 c i a0 h0 a1 h1 a2 h2 a3 h3 a4 h4 a5 h5 a6 h6 a7 h7 a8 h8 a9 h9 hc0 x0 x1 x2 x3 x4 x5)]
  unfold kernelRun0_A
  dsimp only
  sl_unfold_words
  rw [canon_rows]
  rw [fill_high, fill_low]
  simp only [View.readAt_eq_ld, h0.read_unread, h1.read_unread, h2.read_unread, h3.read_unread, h4.read_unread, h5.read_unread, h6.read_unread, h7.read_unread, h8.read_unread, h9.read_unread, View.ld_unit_zero (S := S256x1024) zero2, View.ld_unit_zero (S := S8x128) zero2]
  rfl

theorem lossA (hc0 : cond0_0 i) : out0_A_9 c i a0 h0 a1 h1 a2 h2 a3 h3 a4 h4 a5 h5 a6 h6 a7 h7 a8 h8 a9 h9 hc0 x0 x1 x2 x3 x4 x5 = k0_pay12 x1 x0 x2 x3 (lowRows x5) (highRows x5) x4 k0_pay8 := by
  unfold out0_A_9
  rw [View.read_writes_eq_canon _ _ _ (cover0_A_9 c i a0 h0 a1 h1 a2 h2 a3 h3 a4 h4 a5 h5 a6 h6 a7 h7 a8 h8 a9 h9 hc0 x0 x1 x2 x3 x4 x5)]
  unfold kernelRun0_A
  dsimp only
  sl_unfold_words
  rw [View.canon_cons_unit_zero (S := S8x128) zero2, View.readCov_unit_zero (S := S8x128) _ zero2]
  simp only [View.readAt_eq_ld, h0.read_unread, h1.read_unread, h2.read_unread, h3.read_unread, h4.read_unread, h5.read_unread, h6.read_unread, h7.read_unread, h8.read_unread, h9.read_unread, View.ld_unit_zero (S := S256x1024) zero2, View.ld_unit_zero (S := S8x128) zero2]
  rfl

theorem doutB (hc0 : ¬cond0_0 i) : out0_B_6 c i a0 h0 a1 h1 a2 h2 a3 h3 a4 h4 a5 h5 a6 h6 a7 h7 a8 h8 a9 h9 hc0 x0 x1 x2 x3 x4 x5 xw xl = k0_pay1 (errT x0 x1 x2 x3 x4 x5) := by
  unfold out0_B_6
  rw [View.read_writes_eq_canon _ _ _ (cover0_B_6 c i a0 h0 a1 h1 a2 h2 a3 h3 a4 h4 a5 h5 a6 h6 a7 h7 a8 h8 a9 h9 hc0 x0 x1 x2 x3 x4 x5 xw xl)]
  unfold kernelRun0_B
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h9.read_unread, View.ld_unit_zero (S := S256x1024) zero2, View.ld_unit_zero (S := S8x128) zero2]
  rfl

theorem dyB (hc0 : ¬cond0_0 i) : out0_B_7 c i a0 h0 a1 h1 a2 h2 a3 h3 a4 h4 a5 h5 a6 h6 a7 h7 a8 h8 a9 h9 hc0 x0 x1 x2 x3 x4 x5 xw xl = colPair (k0_pay3 (errT x0 x1 x2 x3 x4 x5) (lowRows x5)) (k0_pay4 (errT x0 x1 x2 x3 x4 x5) (highRows x5)) := by
  unfold out0_B_7
  rw [View.read_writes_eq_canon _ _ _ (cover0_B_7 c i a0 h0 a1 h1 a2 h2 a3 h3 a4 h4 a5 h5 a6 h6 a7 h7 a8 h8 a9 h9 hc0 x0 x1 x2 x3 x4 x5 xw xl)]
  unfold kernelRun0_B
  dsimp only
  sl_unfold_words
  rw [canon_cols]
  simp only [View.readAt_eq_ld, h0.read_unread, h1.read_unread, h2.read_unread, h3.read_unread, h4.read_unread, h5.read_unread, h6.read_unread, h7.read_unread, h8.read_unread, h9.read_unread, View.ld_unit_zero (S := S256x1024) zero2, View.ld_unit_zero (S := S8x128) zero2]
  rfl

theorem dwoB (hc0 : ¬cond0_0 i) : out0_B_8 c i a0 h0 a1 h1 a2 h2 a3 h3 a4 h4 a5 h5 a6 h6 a7 h7 a8 h8 a9 h9 hc0 x0 x1 x2 x3 x4 x5 xw xl = rowPair (k0_pay5 (k0_pay9 x1 x0) (errT x0 x1 x2 x3 x4 x5) (lowRows xw)) (k0_pay6 (k0_pay10 x2) (errT x0 x1 x2 x3 x4 x5) (highRows xw)) := by
  unfold out0_B_8
  rw [View.read_writes_eq_canon _ _ _ (cover0_B_8 c i a0 h0 a1 h1 a2 h2 a3 h3 a4 h4 a5 h5 a6 h6 a7 h7 a8 h8 a9 h9 hc0 x0 x1 x2 x3 x4 x5 xw xl)]
  unfold kernelRun0_B
  dsimp only
  sl_unfold_words
  rw [canon_rows]
  simp only [View.readAt_eq_ld, h0.read_unread, h1.read_unread, h2.read_unread, h3.read_unread, h4.read_unread, h5.read_unread, h6.read_unread, h7.read_unread, h8.read_unread, h9.read_unread, View.ld_unit_zero (S := S256x1024) zero2, View.ld_unit_zero (S := S8x128) zero2]
  rfl

theorem lossB (hc0 : ¬cond0_0 i) : out0_B_9 c i a0 h0 a1 h1 a2 h2 a3 h3 a4 h4 a5 h5 a6 h6 a7 h7 a8 h8 a9 h9 hc0 x0 x1 x2 x3 x4 x5 xw xl = k0_pay12 x1 x0 x2 x3 (lowRows x5) (highRows x5) x4 xl := by
  unfold out0_B_9
  rw [View.read_writes_eq_canon _ _ _ (cover0_B_9 c i a0 h0 a1 h1 a2 h2 a3 h3 a4 h4 a5 h5 a6 h6 a7 h7 a8 h8 a9 h9 hc0 x0 x1 x2 x3 x4 x5 xw xl)]
  unfold kernelRun0_B
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h9.read_unread, View.ld_unit_zero (S := S256x1024) zero2, View.ld_unit_zero (S := S8x128) zero2]
  rfl

end Cert.Kernel4Ideal.Gen

end
-- ==== Proof.OutBlocks.lean ====
module

public import proofs.«01_k».proof.Proof.Gen.Kernel4Ideal.Frame.Runs
public import proofs.«01_k».proof.Proof.OutPay
public import Idealize.ShloMosaic.Lib.Pipeline.ValueKit.Geometry

/-! What the host passes to the output projection's call, and the blocks the call reads, as entries of the arguments. -/

@[expose] public section

set_option maxRecDepth 16384

noncomputable section

namespace Cert.Kernel4Ideal.Gen
open Idealize.ShloMosaic Idealize.ShloMosaic.TcCoe Idealize.SL.Sem Output

/-- The projection without its narrow section. -/
def wideZ (z : FVec Ideal S4096x7184 .f32) : FVec Ideal S4096x7168 .f32 :=
  concatenate S4096x7168 1 [⟨S4096x3072, extractStridedSlice S4096x3072 ![0, 0] z slices_S4096x7184_S4096x3072_0_0⟩,
    ⟨S4096x4096, extractStridedSlice S4096x4096 ![0, 3088] z slices_S4096x7184_S4096x4096_0_3088⟩] concatenates_S4096x3072_S4096x4096_S4096x7168_d1

theorem wideZ_at (z : FVec Ideal S4096x7184 .f32) (t : Fin 4096) (e : Fin 7168) : (wideZ z (ix2 t e) : EReal)
    = if h : e.val < 3072 then z (ix2 t ⟨e.val, by omega⟩) else z (ix2 t ⟨3088 + (e.val - 3072), by omega⟩) := by
  pointwise [wideZ]

/-- The second mixer's output and the weight in bf16. -/
def castU (u : FVec Ideal S4096x1024 .f32) : FVec Ideal S4096x1024 .bf16 := truncf .bf16 u bitsLt_bf16_f32

def castW (w : FVec Ideal S2048x1024 .f32) : FVec Ideal S2048x1024 .bf16 := truncf .bf16 w bitsLt_bf16_f32

variable (m : (ℓ : Loc nD τ sig) → Buf (Elt Ideal) ℓ) (c : Dev nD)

theorem V_v2 : V m c main_v2 = wideZ (m ((c : Thread nD τ).loc main_arg1)) := by
  simp only [V, hostOps0, StableHlo.TRef.nullary, StableHlo.TRef.binary, StableHlo.TRef.unary, StableHlo.TRef.toBuf, StableHlo.TRef.ofBuf, cast_eq]
  after_results_simp <;> rfl

theorem V_v3 : V m c main_v3 = castU (m ((c : Thread nD τ).loc main_arg2)) := by
  simp only [V, hostOps0, StableHlo.TRef.nullary, StableHlo.TRef.binary, StableHlo.TRef.unary, StableHlo.TRef.toBuf, StableHlo.TRef.ofBuf, cast_eq]
  after_results_simp <;> rfl

theorem V_v4 : V m c main_v4 = castW (m ((c : Thread nD τ).loc main_arg5)) := by
  simp only [V, hostOps0, StableHlo.TRef.nullary, StableHlo.TRef.binary, StableHlo.TRef.unary, StableHlo.TRef.toBuf, StableHlo.TRef.ofBuf, cast_eq]
  after_results_simp <;> rfl

/-- The token of a row of a point's block. -/
def tok (t : Fin cfg0.N) (r : Fin 256) : Fin 4096 := ⟨256 * t.val + r.val, by have := lt_of_lt_of_eq t.isLt (show cfg0.N = 16 from N_0); omega⟩

theorem at0 : ∀ t : Fin cfg0.N, win0_0.index t = ![t.val, 0] := (by decide +kernel : ∀ t : Fin grid0.N, _)

theorem at1 : ∀ t : Fin cfg0.N, win0_1.index t = ![t.val, 3] := (by decide +kernel : ∀ t : Fin grid0.N, _)

theorem at2 : ∀ t : Fin cfg0.N, win0_2.index t = ![t.val, 0] := (by decide +kernel : ∀ t : Fin grid0.N, _)

theorem at3 : ∀ t : Fin cfg0.N, win0_3.index t = ![t.val, 0] := (by decide +kernel : ∀ t : Fin grid0.N, _)

theorem at4 : ∀ t : Fin cfg0.N, win0_4.index t = ![t.val, 0] := (by decide +kernel : ∀ t : Fin grid0.N, _)

theorem at5 : ∀ t : Fin cfg0.N, win0_5.index t = ![0, 0] := (by decide +kernel : ∀ t : Fin grid0.N, _)

def aA : S4096x1024.Idx → EReal := (m ((c : Thread nD τ).loc main_arg0) : FVec Ideal S4096x1024 .f32)

def zA : S4096x7184.Idx → EReal := (m ((c : Thread nD τ).loc main_arg1) : FVec Ideal S4096x7184 .f32)

def uA : S4096x1024.Idx → EReal := (m ((c : Thread nD τ).loc main_arg2) : FVec Ideal S4096x1024 .f32)

def xA : S4096x1024.Idx → EReal := (m ((c : Thread nD τ).loc main_arg3) : FVec Ideal S4096x1024 .f32)

def tA : S4096x1024.Idx → EReal := (m ((c : Thread nD τ).loc main_arg4) : FVec Ideal S4096x1024 .f32)

def wA : S2048x1024.Idx → EReal := (m ((c : Thread nD τ).loc main_arg5) : FVec Ideal S2048x1024 .f32)

theorem blk0 (t : Fin cfg0.N) (r : Fin 256) (e : Fin 1024) : (iblk m c 0 t : FVec Ideal S256x1024 .f32) (ix2 r e) = aA m c (ix2 (tok t r) e) := by
  have h : (iblk m c 0 t : FVec Ideal S256x1024 .f32) (ix2 r e) = (V m c main_arg0 : FVec Ideal S4096x1024 .f32) (ix2 (tok t r) e) := by
    blk_simp [iblk]
    congr 1
    funext a
    fin_cases a <;> refine Fin.ext ?_ <;> blk_simp [at0] <;> simp [ix2, tok, Nat.mul_comm]
  rw [h, V_main_arg0]
  rfl

theorem blk2 (t : Fin cfg0.N) (r : Fin 256) (e : Fin 1024) : (iblk m c 2 t : FVec Ideal S256x1024 .bf16) (ix2 r e) = uA m c (ix2 (tok t r) e) := by
  have h : (iblk m c 2 t : FVec Ideal S256x1024 .bf16) (ix2 r e) = (V m c main_v3 : FVec Ideal S4096x1024 .bf16) (ix2 (tok t r) e) := by
    blk_simp [iblk]
    congr 1
    funext a
    fin_cases a <;> refine Fin.ext ?_ <;> blk_simp [at2] <;> simp [ix2, tok, Nat.mul_comm]
  rw [h, V_v3]
  rfl

theorem blk3 (t : Fin cfg0.N) (r : Fin 256) (e : Fin 1024) : (iblk m c 3 t : FVec Ideal S256x1024 .f32) (ix2 r e) = xA m c (ix2 (tok t r) e) := by
  have h : (iblk m c 3 t : FVec Ideal S256x1024 .f32) (ix2 r e) = (V m c main_arg3 : FVec Ideal S4096x1024 .f32) (ix2 (tok t r) e) := by
    blk_simp [iblk]
    congr 1
    funext a
    fin_cases a <;> refine Fin.ext ?_ <;> blk_simp [at3] <;> simp [ix2, tok, Nat.mul_comm]
  rw [h, V_main_arg3]
  rfl

theorem blk4 (t : Fin cfg0.N) (r : Fin 256) (e : Fin 1024) : (iblk m c 4 t : FVec Ideal S256x1024 .f32) (ix2 r e) = tA m c (ix2 (tok t r) e) := by
  have h : (iblk m c 4 t : FVec Ideal S256x1024 .f32) (ix2 r e) = (V m c main_arg4 : FVec Ideal S4096x1024 .f32) (ix2 (tok t r) e) := by
    blk_simp [iblk]
    congr 1
    funext a
    fin_cases a <;> refine Fin.ext ?_ <;> blk_simp [at4] <;> simp [ix2, tok, Nat.mul_comm]
  rw [h, V_main_arg4]
  rfl

theorem blk1 (t : Fin cfg0.N) (r : Fin 256) (e : Fin 1024) : (iblk m c 1 t : FVec Ideal S256x1024 .f32) (ix2 r e) = zA m c (ix2 (tok t r) ⟨3088 + e.val, by omega⟩) := by
  have h : (iblk m c 1 t : FVec Ideal S256x1024 .f32) (ix2 r e) = (V m c main_v2 : FVec Ideal S4096x7168 .f32) (ix2 (tok t r) ⟨3072 + e.val, by omega⟩) := by
    blk_simp [iblk]
    congr 1
    funext a
    fin_cases a <;> refine Fin.ext ?_ <;> blk_simp [at1] <;> simp [ix2, tok, Nat.mul_comm]
  rw [h, V_v2, wideZ_at, dif_neg (by show ¬ 3072 + e.val < 3072; omega)]
  exact congrArg (zA m c) (congrArg (ix2 (tok t r)) (Fin.ext (by show 3088 + (3072 + e.val - 3072) = 3088 + e.val; omega)))

theorem blk5 (t : Fin cfg0.N) (e : Fin 2048) (d : Fin 1024) : (iblk m c 5 t : FVec Ideal S2048x1024 .bf16) (ix2 e d) = wA m c (ix2 e d) := by
  have h : (iblk m c 5 t : FVec Ideal S2048x1024 .bf16) (ix2 e d) = (V m c main_v4 : FVec Ideal S2048x1024 .bf16) (ix2 e d) := by
    blk_simp [iblk]
    congr 1
    funext a
    fin_cases a <;> refine Fin.ext ?_ <;> blk_simp [at5] <;> simp [ix2]
  rw [h, V_v4]
  rfl

end Cert.Kernel4Ideal.Gen

end
-- ==== Proof.OutArrays.lean ====
module

public import proofs.«01_k».proof.Proof.OutCases
public import proofs.«01_k».proof.Proof.OutBlocks

/-! The four results' buffers from point to point, and the arrays they are written to. -/

@[expose] public section

set_option maxRecDepth 16384

noncomputable section

namespace Cert.Kernel4Ideal.Gen
open Idealize.ShloMosaic Idealize.ShloMosaic.TcCoe Idealize.SL.Sem Output

variable (m : (ℓ : Loc nD τ sig) → Buf (Elt Ideal) ℓ) (c : Dev nD)

/-- The error over all tokens. -/
def eA : Fin 4096 → Fin 1024 → EReal := errA (aA m c) (zA m c) (uA m c) (xA m c) (tA m c) (wA m c)

/-- A point's tile of it. -/
def eT (t : Fin cfg0.N) : Vec Ideal S256x1024 .f32 := errT (iblk m c 0 t) (iblk m c 1 t) (iblk m c 2 t) (iblk m c 3 t) (iblk m c 4 t) (iblk m c 5 t)

theorem gated_blk (t : Fin cfg0.N) (r : Fin 256) (e : Fin 1024) :
    (fun x y : EReal => x * silu y) ((iblk m c 0 t : FVec Ideal S256x1024 .f32) (ix2 r e)) ((iblk m c 1 t : FVec Ideal S256x1024 .f32) (ix2 r e)) = gatedA (aA m c) (zA m c) (tok t r) e :=
  congrArg₂ (fun x y : EReal => x * silu y) (blk0 m c t r e) (blk1 m c t r e)

theorem low_blk (t : Fin cfg0.N) (e d : Fin 1024) : (lowRows (F := Ideal) (iblk m c 5 t : FVec Ideal S2048x1024 .bf16) (ix2 e d) : EReal) = wA m c (ix2 ⟨e.val, by omega⟩ d) :=
  (lowRows_at (F := Ideal) (e := .bf16) _ e d).trans (blk5 m c t _ d)

theorem high_blk (t : Fin cfg0.N) (e d : Fin 1024) :
    (highRows (F := Ideal) (iblk m c 5 t : FVec Ideal S2048x1024 .bf16) (ix2 e d) : EReal) = wA m c (ix2 ⟨1024 + e.val, by omega⟩ d) :=
  (highRows_at (F := Ideal) (e := .bf16) _ e d).trans (blk5 m c t _ d)

theorem err_blk (t : Fin cfg0.N) (r : Fin 256) (d : Fin 1024) : (eT m c t (ix2 r d) : EReal) = eA m c (tok t r) d := by
  refine (err_at _ _ _ _ _ _ _ r d).trans ?_
  exact congrArg₂ (fun x y : EReal => x - y)
    (congrArg₂ (fun x y : EReal => x + y) (blk3 m c t r d)
      (congrArg₂ (fun x y : EReal => x + y)
        (Finset.sum_congr rfl fun e _ => congrArg₂ (fun x y : EReal => x * y) (gated_blk m c t r e) (low_blk m c t e d))
        (Finset.sum_congr rfl fun e _ => congrArg₂ (fun x y : EReal => x * y) (blk2 m c t r e) (high_blk m c t e d))))
    (blk4 m c t r d)

theorem step_dout (t : Fin cfg0.N) : (outsAt0 m c t.val t.isLt).1 = k0_pay1 (F := Ideal) (eT m c t) := by
  by_cases h : t.val % 16 = 0
  · rw [outsAt0_A m c t h]
    dsimp only
    rw [doutA]
    rfl
  · rw [outsAt0_B m c t h]
    dsimp only
    rw [doutB]
    rfl

theorem step_dy (t : Fin cfg0.N) : (outsAt0 m c t.val t.isLt).2.1
    = colPair (F := Ideal) (k0_pay3 (F := Ideal) (eT m c t) (lowRows (iblk m c 5 t))) (k0_pay4 (F := Ideal) (eT m c t) (highRows (iblk m c 5 t))) := by
  by_cases h : t.val % 16 = 0
  · rw [outsAt0_A m c t h]
    dsimp only
    rw [dyA]
    rfl
  · rw [outsAt0_B m c t h]
    dsimp only
    rw [dyB]
    rfl

/-- A point's addition to the weight's gradient. -/
def addW (t : Fin cfg0.N) (s : Vec Ideal S2048x1024 .f32) : Vec Ideal S2048x1024 .f32 :=
  rowPair (k0_pay5 (k0_pay9 (iblk m c 1 t) (iblk m c 0 t)) (eT m c t) (lowRows s)) (k0_pay6 (k0_pay10 (iblk m c 2 t)) (eT m c t) (highRows s))

/-- A point's addition to the loss. -/
def addL (t : Fin cfg0.N) (s : Vec Ideal S8x128 .f32) : Vec Ideal S8x128 .f32 :=
  k0_pay12 (iblk m c 1 t) (iblk m c 0 t) (iblk m c 2 t) (iblk m c 3 t) (lowRows (iblk m c 5 t)) (highRows (iblk m c 5 t)) (iblk m c 4 t) s

theorem before_lt (t : Fin cfg0.N) : t.val - 1 < cfg0.N := by have := t.isLt; omega

theorem first_w (t : Fin cfg0.N) (h : t.val % 16 = 0) : (outsAt0 m c t.val t.isLt).2.2.1 = addW m c t (k0_pay7 (F := Ideal)) := by
  rw [outsAt0_A m c t h]
  dsimp only
  rw [dwoA]
  rfl

theorem next_w (t : Fin cfg0.N) (h : ¬ t.val % 16 = 0) : (outsAt0 m c t.val t.isLt).2.2.1 = addW m c t (outsAt0 m c (t.val - 1) (before_lt t)).2.2.1 := by
  rw [outsAt0_B m c t h]
  dsimp only
  rw [dwoB]
  rfl

theorem first_l (t : Fin cfg0.N) (h : t.val % 16 = 0) : (outsAt0 m c t.val t.isLt).2.2.2 = addL m c t (k0_pay8 (F := Ideal)) := by
  rw [outsAt0_A m c t h]
  dsimp only
  rw [lossA]
  rfl

theorem next_l (t : Fin cfg0.N) (h : ¬ t.val % 16 = 0) : (outsAt0 m c t.val t.isLt).2.2.2 = addL m c t (outsAt0 m c (t.val - 1) (before_lt t)).2.2.2 := by
  rw [outsAt0_B m c t h]
  dsimp only
  rw [lossB]
  rfl

/-- One token's part of the weight's gradient. -/
def partW (e : Fin 2048) (d : Fin 1024) (k : ℕ) : EReal :=
  if h : k < 4096 then mixA (aA m c) (zA m c) (uA m c) ⟨k, h⟩ e * overD (eA m c ⟨k, h⟩ d) else 0

/-- One token's part of the loss. -/
def partL (k : ℕ) : EReal :=
  if h : k < 4096 then sqA (aA m c) (zA m c) (uA m c) (xA m c) (tA m c) (wA m c) ⟨k, h⟩ * Ideal.ofBits .f32 0x3A000000#32 else 0

theorem tile_lt (t : Fin cfg0.N) (r : Fin 256) : 256 * t.val + r.val < 4096 := by
  have := lt_of_lt_of_eq t.isLt (show cfg0.N = 16 from N_0)
  omega

theorem addW_at (t : Fin cfg0.N) (s : Vec Ideal S2048x1024 .f32) (e : Fin 2048) (d : Fin 1024) :
    (addW m c t s (ix2 e d) : EReal) = s (ix2 e d) + ∑ r ∈ Finset.range 256, partW m c e d (256 * t.val + r) := by
  rw [← Fin.sum_univ_eq_sum_range (fun r => partW m c e d (256 * t.val + r)) 256]
  by_cases h : e.val < 1024
  · refine (congrArg (fun v : EReal => v) (rowPair_low (F := Ideal) _ _ e d h)).trans ((outer_at _ _ _ _ d).trans ?_)
    refine congrArg₂ (fun x y : EReal => x + y) (lowRows_at (F := Ideal) (e := .f32) s ⟨e.val, h⟩ d) (Finset.sum_congr rfl fun r _ => ?_)
    rw [partW, dif_pos (tile_lt t r), mixA, dif_pos h]
    exact congrArg₂ (fun x y : EReal => x * overD y) ((gated_at _ _ r _).trans (gated_blk m c t r _)) (err_blk m c t r d)
  · refine (congrArg (fun v : EReal => v) (rowPair_high (F := Ideal) _ _ e d h)).trans ((outer2_at _ _ _ _ d).trans ?_)
    refine congrArg₂ (fun x y : EReal => x + y) ((highRows_at (F := Ideal) (e := .f32) s ⟨e.val - 1024, by omega⟩ d).trans ?_) (Finset.sum_congr rfl fun r _ => ?_)
    · exact congrArg s (congrArg (fun k => ix2 k d) (Fin.ext (by show 1024 + (e.val - 1024) = e.val; omega)))
    · rw [partW, dif_pos (tile_lt t r), mixA, dif_neg h]
      exact congrArg₂ (fun x y : EReal => x * overD y) ((mixer_at _ r _).trans (blk2 m c t r _)) (err_blk m c t r d)

theorem addL_at (t : Fin cfg0.N) (s : Vec Ideal S8x128 .f32) (q : Fin 8) (l : Fin 128) :
    (addL m c t s (ix2 q l) : EReal) = s (ix2 q l) + ∑ r ∈ Finset.range 256, partL m c (256 * t.val + r) := by
  rw [← Fin.sum_univ_eq_sum_range (fun r => partL m c (256 * t.val + r)) 256]
  refine (loss_at _ _ _ _ _ _ _ s q l).trans (congrArg (fun y : EReal => (s (ix2 q l) : EReal) + y) ((tile_loss _).trans (Finset.sum_congr rfl fun r _ => ?_)))
  rw [partL, dif_pos (tile_lt t r)]
  exact congrArg (fun y : EReal => y * Ideal.ofBits .f32 0x3A000000#32)
    (Finset.sum_congr rfl fun d _ => congrArg₂ (fun x y : EReal => x * y) (err_blk m c t r d) (err_blk m c t r d))

/-- After tile `n` the weight's buffer holds the sum over the tokens up to its end. -/
theorem weight_eq : ∀ (n : ℕ) (h : n < cfg0.N) (e : Fin 2048) (d : Fin 1024),
    ((outsAt0 m c n h).2.2.1 (ix2 e d) : EReal) = ∑ k ∈ Finset.range (256 * (n + 1)), partW m c e d k
  | 0, h, e, d => by
    rw [show (outsAt0 m c 0 h).2.2.1 = _ from first_w m c ⟨0, h⟩ rfl]
    refine (addW_at m c ⟨0, h⟩ _ e d).trans ?_
    rw [zero_weight_at, zero_add]
    simp
  | n + 1, h, e, d => by
    have hN := lt_of_lt_of_eq h (show cfg0.N = 16 from N_0)
    rw [show (outsAt0 m c (n + 1) h).2.2.1 = _ from next_w m c ⟨n + 1, h⟩ (by dsimp only; omega)]
    refine (addW_at m c ⟨n + 1, h⟩ _ e d).trans ?_
    refine (congrArg (· + _) (weight_eq n (by omega) e d)).trans ?_
    rw [Nat.mul_succ 256 (n + 1), Finset.sum_range_add]

/-- So does the loss's, in all its entries. -/
theorem loss_eq : ∀ (n : ℕ) (h : n < cfg0.N) (q : Fin 8) (l : Fin 128),
    ((outsAt0 m c n h).2.2.2 (ix2 q l) : EReal) = ∑ k ∈ Finset.range (256 * (n + 1)), partL m c k
  | 0, h, q, l => by
    rw [show (outsAt0 m c 0 h).2.2.2 = _ from first_l m c ⟨0, h⟩ rfl]
    refine (addL_at m c ⟨0, h⟩ _ q l).trans ?_
    rw [zero_loss_at, zero_add]
    simp
  | n + 1, h, q, l => by
    have hN := lt_of_lt_of_eq h (show cfg0.N = 16 from N_0)
    rw [show (outsAt0 m c (n + 1) h).2.2.2 = _ from next_l m c ⟨n + 1, h⟩ (by dsimp only; omega)]
    refine (addL_at m c ⟨n + 1, h⟩ _ q l).trans ?_
    refine (congrArg (· + _) (loss_eq n (by omega) q l)).trans ?_
    rw [Nat.mul_succ 256 (n + 1), Finset.sum_range_add]

/-- The call's results. -/
def resOut : FVec Ideal S4096x1024 .f32 := fun j => overD (eA m c (j 0) (j 1))

def resMix : FVec Ideal S4096x2048 .f32 := fun j => mixG (aA m c) (zA m c) (uA m c) (xA m c) (tA m c) (wA m c) (j 0) (j 1)

def resWeight : FVec Ideal S2048x1024 .f32 := fun j => weightG (aA m c) (zA m c) (uA m c) (xA m c) (tA m c) (wA m c) (j 0) (j 1)

def resLoss : FVec Ideal S8x128 .f32 := fun _ => Output.lossA (aA m c) (zA m c) (uA m c) (xA m c) (tA m c) (wA m c)

theorem at6 : ∀ t : Fin cfg0.N, win0_6.index t = ![t.val, 0] := (by decide +kernel : ∀ t : Fin grid0.N, _)

theorem at7 : ∀ t : Fin cfg0.N, win0_7.index t = ![t.val, 0] := (by decide +kernel : ∀ t : Fin grid0.N, _)

theorem at8 : ∀ t : Fin cfg0.N, win0_8.index t = ![0, 0] := (by decide +kernel : ∀ t : Fin grid0.N, _)

theorem at9 : ∀ t : Fin cfg0.N, win0_9.index t = ![0, 0] := (by decide +kernel : ∀ t : Fin grid0.N, _)

theorem array6 : (dats m 0 c).arrAt 6 cfg0.N = resOut m c := by
  refine (dats m 0 c).arrAt_eq_of_covers 6 _ (by decide +kernel) fun t hf y => ?_
  obtain ⟨r, d, rfl⟩ : ∃ (r : Fin 256) (d : Fin 1024), y = ix2 r d := ⟨_, _, eq_ix2 y⟩
  have hj : ((cfg0.win 6).blk t).view.emb (ix2 r d) = (ix2 (tok t r) d : S4096x1024.Idx) := by
    funext a
    fin_cases a <;> refine Fin.ext ?_ <;> blk_simp [at6] <;> simp [ix2, tok, Nat.mul_comm]
  rw [hj]
  blk_simp
  rw [after0_6, step_dout]
  exact (slope_at _ r d).trans (congrArg overD (err_blk m c t r d))

theorem array7 : (dats m 0 c).arrAt 7 cfg0.N = resMix m c := by
  refine (dats m 0 c).arrAt_eq_of_covers 7 _ (by decide +kernel) fun t hf y => ?_
  obtain ⟨r, e, rfl⟩ : ∃ (r : Fin 256) (e : Fin 2048), y = ix2 r e := ⟨_, _, eq_ix2 y⟩
  have hj : ((cfg0.win 7).blk t).view.emb (ix2 r e) = (ix2 (tok t r) e : S4096x2048.Idx) := by
    funext a
    fin_cases a <;> refine Fin.ext ?_ <;> blk_simp [at7] <;> simp [ix2, tok, Nat.mul_comm]
  rw [hj]
  blk_simp
  rw [after0_7, step_dy]
  by_cases h : e.val < 1024
  · refine (congrArg (fun v : EReal => v) (colPair_low (F := Ideal) _ _ r e h)).trans ((lower_at _ _ r _).trans ?_)
    refine (Finset.sum_congr rfl fun d _ => ?_ : (_ : EReal) = ∑ d : Fin 1024, overD (eA m c (tok t r) d) * wA m c (ix2 e d))
    exact congrArg₂ (fun x y : EReal => overD x * y) (err_blk m c t r d) (low_blk m c t ⟨e.val, h⟩ d)
  · refine (congrArg (fun v : EReal => v) (colPair_high (F := Ideal) _ _ r e h)).trans ((upper_at _ _ r _).trans ?_)
    refine (Finset.sum_congr rfl fun d _ => ?_ : (_ : EReal) = ∑ d : Fin 1024, overD (eA m c (tok t r) d) * wA m c (ix2 e d))
    refine congrArg₂ (fun x y : EReal => overD x * y) (err_blk m c t r d) ((high_blk m c t ⟨e.val - 1024, by omega⟩ d).trans ?_)
    exact congrArg (wA m c) (congrArg (fun k => ix2 k d) (Fin.ext (by show 1024 + (e.val - 1024) = e.val; omega)))

theorem array8 : (dats m 0 c).arrAt 8 cfg0.N = resWeight m c := by
  refine (dats m 0 c).arrAt_eq_of_covers 8 _ (by decide +kernel) fun t hf y => ?_
  obtain ⟨e, d, rfl⟩ : ∃ (e : Fin 2048) (d : Fin 1024), y = ix2 e d := ⟨_, _, eq_ix2 y⟩
  have hj : ((cfg0.win 8).blk t).view.emb (ix2 e d) = (ix2 e d : S2048x1024.Idx) := by
    funext a
    fin_cases a <;> refine Fin.ext ?_ <;> blk_simp [at8] <;> simp [ix2]
  have hN := lt_of_lt_of_eq t.isLt (show cfg0.N = 16 from N_0)
  have ht := (flush0_8 t).mp hf
  rw [hj]
  blk_simp
  rw [after0_8]
  refine (weight_eq m c t.val t.isLt e d).trans ?_
  rw [show 256 * (t.val + 1) = 4096 by omega, ← Fin.sum_univ_eq_sum_range (partW m c e d) 4096]
  exact Finset.sum_congr rfl fun (k : Fin 4096) _ => dif_pos k.isLt

theorem array9 : (dats m 0 c).arrAt 9 cfg0.N = resLoss m c := by
  refine (dats m 0 c).arrAt_eq_of_covers 9 _ (by decide +kernel) fun t hf y => ?_
  obtain ⟨q, l, rfl⟩ : ∃ (q : Fin 8) (l : Fin 128), y = ix2 q l := ⟨_, _, eq_ix2 y⟩
  have hj : ((cfg0.win 9).blk t).view.emb (ix2 q l) = (ix2 q l : S8x128.Idx) := by
    funext a
    fin_cases a <;> refine Fin.ext ?_ <;> blk_simp [at9] <;> simp [ix2]
  have hN := lt_of_lt_of_eq t.isLt (show cfg0.N = 16 from N_0)
  have ht := (flush0_9 t).mp hf
  rw [hj]
  blk_simp
  rw [after0_9]
  refine (loss_eq m c t.val t.isLt q l).trans ?_
  rw [show 256 * (t.val + 1) = 4096 by omega, ← Fin.sum_univ_eq_sum_range (partL m c) 4096]
  exact Finset.sum_congr rfl fun (k : Fin 4096) _ => dif_pos k.isLt

end Cert.Kernel4Ideal.Gen

end
-- ==== Proof.OutRef.lean ====
module

public import proofs.«01_k».proof.Proof.Gen.Reference4Ideal.Run
public import proofs.«01_k».proof.Proof.OutRow
public import Idealize.ShloMosaic.Lib.Pointwise

/-! The reference's loss and its gradients, read at an entry. -/

@[expose] public section

set_option maxRecDepth 16384

noncomputable section

namespace Cert.Reference4Ideal.Value
open Idealize.ShloMosaic Idealize.ShloMosaic.TcCoe Idealize.SL.Sem Output Cert.Reference4Ideal Cert.Reference4Ideal.Gen

variable (a : FVec Ideal S4096x1024 .f32) (z : FVec Ideal S4096x7184 .f32) (u x t : FVec Ideal S4096x1024 .f32) (w : FVec Ideal S2048x1024 .f32)

/-- The gate's columns of the projection. -/
def gateText : FVec Ideal S4096x1024 .f32 := extractStridedSlice S4096x1024 ![0, 3088] z slices_S4096x7184_S4096x1024_0_3088

def oneText : FVec Ideal S4096x1024 .f32 := broadcastInDim S4096x1024 ![] bcast_S_S4096x1024 (constant S_ .f32 0x3F800000#32)

/-- Both mixers' outputs. -/
def mixText : FVec Ideal S4096x2048 .f32 :=
  concatenate S4096x2048 1 [⟨S4096x1024, (mulf a (mulf (gateText z) (Host.divf oneText (addf oneText (Host.exp (Host.negf (gateText z)))))))⟩, ⟨S4096x1024, u⟩]
    concatenates_S4096x1024_S4096x1024_S4096x2048_d1

def errText : FVec Ideal S4096x1024 .f32 :=
  subf (addf x (Host.dotGeneral dot_S4096x2048_S2048x1024_S4096x1024_1_0_0_1_n_n none (mixText a z u) w)) t

def slopeText : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32)))) (mulf (broadcastInDim S4096x1024 ![] bcast_S_S4096x1024 (constant S_ .f32 0x40000000#32)) (errText a z u x t w))

def mixGText : FVec Ideal S4096x2048 .f32 := Host.dotGeneral dot_S4096x1024_S2048x1024_S4096x2048_1_1_0_0_n_n none (slopeText a z u x t w) w

def weightText : FVec Ideal S2048x1024 .f32 :=
  transpose S2048x1024 [1, 0] (Host.dotGeneral dot_S4096x1024_S4096x2048_S1024x2048_0_0_1_1_n_n none (slopeText a z u x t w) (mixText a z u)) transposes_S1024x2048_S2048x1024_1_0

def meanText : FVec Ideal S4096 .f32 :=
  Host.divf (Host.reduceAdd (mulf (errText a z u x t w) (errText a z u x t w)) (constant S_ .f32 0x00000000#32) reducesTo_S4096x1024_S4096_d1 h_S_)
    (broadcastInDim S4096 ![] bcast_S_S4096 (constant S_ .f32 0x44800000#32))

def lossText : FVec Ideal S8x128 .f32 :=
  broadcastInDim S8x128 ![] bcast_S_S8x128 (mulf (constant S_ .f32 0x3F000000#32) (Host.reduceAdd (meanText a z u x t w) (constant S_ .f32 0x00000000#32) reducesTo_S4096_S_d0 h_S_))

theorem mix_at (k : Fin 4096) (e : Fin 2048) : (mixText a z u (ix2 k e) : EReal) = mixA a z u k e := by
  unfold mixA gatedA silu
  pointwise [mixText, gateText, oneText]

theorem err_at (k : Fin 4096) (d : Fin 1024) : (errText a z u x t w (ix2 k d) : EReal) = errA a z u x t w k d := by
  have h : (errText a z u x t w (ix2 k d) : EReal) = x (ix2 k d) + ∑ e : Fin 2048, mixA a z u k e * w (ix2 e d) - t (ix2 k d) := by
    pointwise [errText, mix_at]
  rw [h, sum_halves]
  unfold errA errV
  refine congrArg₂ (fun p q : EReal => (x (ix2 k d) : EReal) + (p + q) - t (ix2 k d)) (Finset.sum_congr rfl fun e _ => ?_) (Finset.sum_congr rfl fun e _ => ?_)
  · rw [mixA, dif_pos e.isLt]
  · rw [mixA, dif_neg (by show ¬ 1024 + e.val < 1024; omega)]
    exact congrArg (fun i => (u (ix2 k i) : EReal) * w (ix2 ⟨1024 + e.val, by omega⟩ d)) (Fin.ext (by show 1024 + e.val - 1024 = e.val; omega))

theorem slope_at (k : Fin 4096) (d : Fin 1024) : (slopeText a z u x t w (ix2 k d) : EReal) = overD (errA a z u x t w k d) := by
  rw [← slope_same]
  pointwise [slopeText, err_at]

theorem mixG_at (k : Fin 4096) (e : Fin 2048) : (mixGText a z u x t w (ix2 k e) : EReal) = mixG a z u x t w k e := by
  unfold mixG
  pointwise [mixGText, slope_at]

theorem weight_at (e : Fin 2048) (d : Fin 1024) : (weightText a z u x t w (ix2 e d) : EReal) = weightG a z u x t w e d := by
  have h : (weightText a z u x t w (ix2 e d) : EReal) = ∑ k : Fin 4096, overD (errA a z u x t w k d) * mixA a z u k e := by
    pointwise [weightText, slope_at, mix_at]
  rw [h]
  exact Finset.sum_congr rfl fun k _ => mul_comm _ _

theorem mean_at (k : Fin 4096) : (meanText a z u x t w (ix1 k) : EReal) = Ideal.div (sqA a z u x t w k) (Ideal.ofBits .f32 0x44800000#32) := by
  unfold sqA
  pointwise [meanText, err_at]

theorem loss_at (q : Fin 8) (l : Fin 128) : (lossText a z u x t w (ix2 q l) : EReal) = Output.lossA a z u x t w := by
  unfold Output.lossA
  rw [← loss_same]
  pointwise [lossText, mean_at]

end Cert.Reference4Ideal.Value

end
-- ==== Proof.Output.lean ====
module

public import proofs.«01_k».proof.Proof.OutArrays
public import proofs.«01_k».proof.Proof.OutRef
public import proofs.«01_k».proof.Proof.Gen.Kernel4
public import proofs.«01_k».proof.Defs

/-! The loss and its gradients at the output projection: frames, and equality with the reference. -/

@[expose] public section

noncomputable section

namespace Cert.Proof

open Idealize.ShloMosaic Idealize.ShloMosaic.TcCoe Idealize.SL.Sem Output

local instance outputIdeal : Cert.Kernel4Ideal.Facts := Cert.Kernel4Ideal.Gen.facts
local instance outputReference : Cert.Reference4Ideal.Facts := Cert.Reference4Ideal.Gen.facts
local instance outputWords : Cert.Kernel4.Facts := Cert.Kernel4.Gen.facts

theorem frame_output_ideal : Cert.quiescent_Kernel4Ideal := fun m ρ _ => Cert.Kernel4Ideal.Gen.frame (F := Ideal) m ρ

set_option maxHeartbeats 4000000 in
/-- The two programs have one table of bodies. -/
theorem output_table {F : FTy → Type} [FloatOps F] : Cert.Kernel4.defs (F := F) = Cert.Kernel4Ideal.defs := by
  refine congrArg (Pipeline.defs Cert.Kernel4Ideal.pcfgs) (congrArg Defs.onTc ?_)
  funext l x
  match l, x with
  | 0, (t, s) => rfl

set_option maxHeartbeats 4000000 in
/-- The call at words: the same run. -/
theorem frame_output_bits : Cert.quiescent_Kernel4 := fun m ρ _ => by
  have h := Cert.Kernel4Ideal.Gen.frame (F := Bits) m ρ
  rw [← output_table] at h
  exact h

theorem frame_output_reference : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

theorem output_text : Cert.preserves_Kernel4_Kernel4Ideal := trivial

section
variable (m : (ℓ : Loc Cert.Reference4Ideal.nD Cert.Reference4Ideal.τ Cert.Reference4Ideal.sig) → Buf (Elt Ideal) ℓ) (c : Dev Cert.Reference4Ideal.nD)

/-- One text of the reference, at its arguments. -/
abbrev atArgs {α : Type} (f : FVec Ideal Cert.Reference4Ideal.S4096x1024 .f32 → FVec Ideal Cert.Reference4Ideal.S4096x7184 .f32 → FVec Ideal Cert.Reference4Ideal.S4096x1024 .f32 →
    FVec Ideal Cert.Reference4Ideal.S4096x1024 .f32 → FVec Ideal Cert.Reference4Ideal.S4096x1024 .f32 → FVec Ideal Cert.Reference4Ideal.S2048x1024 .f32 → α) : α :=
  f (m ((c : Thread Cert.Reference4Ideal.nD Cert.Reference4Ideal.τ).loc Cert.Reference4Ideal.main_arg0))
    (m ((c : Thread Cert.Reference4Ideal.nD Cert.Reference4Ideal.τ).loc Cert.Reference4Ideal.main_arg1))
    (m ((c : Thread Cert.Reference4Ideal.nD Cert.Reference4Ideal.τ).loc Cert.Reference4Ideal.main_arg2))
    (m ((c : Thread Cert.Reference4Ideal.nD Cert.Reference4Ideal.τ).loc Cert.Reference4Ideal.main_arg3))
    (m ((c : Thread Cert.Reference4Ideal.nD Cert.Reference4Ideal.τ).loc Cert.Reference4Ideal.main_arg4))
    (m ((c : Thread Cert.Reference4Ideal.nD Cert.Reference4Ideal.τ).loc Cert.Reference4Ideal.main_arg5))
end

/-- The call's four results are the reference's, for all arguments. -/
theorem same_output : Cert.algebraic_Kernel4Ideal_Reference4Ideal := by
  intro m ρ m' ρ' _ hargs
  refine ⟨fun c => Cert.Kernel4Ideal.Gen.resOut m c, fun c => Cert.Kernel4Ideal.Gen.resMix m c, fun c => Cert.Kernel4Ideal.Gen.resWeight m c,
    fun c => Cert.Kernel4Ideal.Gen.resLoss m c, ?_, ?_⟩
  · exact (θ_run Cert.Kernel4Ideal.defs _ _).mono
      (fun r h c => ⟨(h c).1.trans (Cert.Kernel4Ideal.Gen.array6 m c), (h c).2.1.trans (Cert.Kernel4Ideal.Gen.array7 m c),
        (h c).2.2.1.trans (Cert.Kernel4Ideal.Gen.array8 m c), (h c).2.2.2.1.trans (Cert.Kernel4Ideal.Gen.array9 m c), (h c).2.2.2.2⟩)
      (Cert.Kernel4Ideal.Value.run_blocks m ρ)
  · refine (θ_run Cert.Reference4Ideal.defs _ _).mono (fun r h c => ⟨(h c).1.trans ?_, (h c).2.1.trans ?_, (h c).2.2.1.trans ?_, (h c).2.2.2.1.trans ?_, (h c).2.2.2.2⟩)
      (Cert.Reference4Ideal.Value.run (F := Ideal) m' ρ')
    · obtain ⟨a0, a1, a2, a3, a4, a5⟩ := hargs c
      refine (show _ = atArgs m' c Cert.Reference4Ideal.Value.slopeText from rfl).trans ?_
      unfold atArgs
      rw [a0, a1, a2, a3, a4, a5]
      funext j
      obtain ⟨k, d, rfl⟩ : ∃ (k : Fin 4096) (d : Fin 1024), j = ix2 k d := ⟨_, _, eq_ix2 j⟩
      exact Cert.Reference4Ideal.Value.slope_at _ _ _ _ _ _ k d
    · obtain ⟨a0, a1, a2, a3, a4, a5⟩ := hargs c
      refine (show _ = atArgs m' c Cert.Reference4Ideal.Value.mixGText from rfl).trans ?_
      unfold atArgs
      rw [a0, a1, a2, a3, a4, a5]
      funext j
      obtain ⟨k, e, rfl⟩ : ∃ (k : Fin 4096) (e : Fin 2048), j = ix2 k e := ⟨_, _, eq_ix2 j⟩
      exact Cert.Reference4Ideal.Value.mixG_at _ _ _ _ _ _ k e
    · obtain ⟨a0, a1, a2, a3, a4, a5⟩ := hargs c
      refine (show _ = atArgs m' c Cert.Reference4Ideal.Value.weightText from rfl).trans ?_
      unfold atArgs
      rw [a0, a1, a2, a3, a4, a5]
      funext j
      obtain ⟨e, d, rfl⟩ : ∃ (e : Fin 2048) (d : Fin 1024), j = ix2 e d := ⟨_, _, eq_ix2 j⟩
      exact Cert.Reference4Ideal.Value.weight_at _ _ _ _ _ _ e d
    · obtain ⟨a0, a1, a2, a3, a4, a5⟩ := hargs c
      refine (show _ = atArgs m' c Cert.Reference4Ideal.Value.lossText from rfl).trans ?_
      unfold atArgs
      rw [a0, a1, a2, a3, a4, a5]
      funext j
      obtain ⟨q, l, rfl⟩ : ∃ (q : Fin 8) (l : Fin 128), j = ix2 q l := ⟨_, _, eq_ix2 j⟩
      exact Cert.Reference4Ideal.Value.loss_at _ _ _ _ _ _ q l

end Cert.Proof

end
-- ==== Proof.FwdFrame.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

/-! The input projection up to its call: what the host lines leave, the blocks of the windows, and the points at which
the normalised rows are stored. -/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer as the call finds it. -/
abbrev V (c : Dev nD) (b : Ref sig .tc) : Buf (Elt F) ((c : Thread nD τ).loc b) :=
  StableHlo.after (List.flatten [hostOps0, hostOps0_1]) (fun b => m (c, b)) b

theorem lines_fresh : (hostOps0 : List (HloOp τ sig (Elt F))).Forall fun op => op.fresh = ∅ := by
  simp only [List.Forall]; repeat' constructor

theorem pad_fresh : (hostOps0_1 : List (HloOp τ sig (Elt F))).Forall fun op => op.fresh = ∅ := by
  simp only [List.Forall]; repeat' constructor

set_option maxHeartbeats 800000 in
/-- The program is its host lines and the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨lines_fresh, pad_fresh⟩) main_chain

/-- The host lines write no argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first section of a tile of tokens. -/
abbrev First (i : grid0.Coords) : Prop := (Scalar.cmpi .ne (Scalar.extui (Scalar.cmpi .eq (BitVec.ofNat 32 (i 1).val) 0#32)) 0#32) = 1#1

theorem first_iff : ∀ t : Fin cfg0.N, First (grid0.coords t) ↔ t.val % 7 = 0 :=
  (by decide +kernel : ∀ t : Fin grid0.N, First (grid0.coords t) ↔ t.val % 7 = 0)

/-- The buffers a point works on. -/
abbrev st0 (t : Fin cfg0.N) : Memref sig .tc .vmem S1024x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1024x1024 .bf16 := win0_2.stage (cfg0.slots t 2)
abbrev st3 (t : Fin cfg0.N) : Memref sig .tc .vmem S128x1024 .bf16 := win0_3.stage (cfg0.slots t 3)
abbrev st4 (t : Fin cfg0.N) : Memref sig .tc .vmem S1024x1024 .f32 := win0_4.stage (cfg0.slots t 4)
abbrev st5 (t : Fin cfg0.N) : Memref sig .tc .vmem S1024x128 .f32 := win0_5.stage (cfg0.slots t 5)
abbrev st6 (t : Fin cfg0.N) : Memref sig .tc .vmem S1024x1024 .bf16 := win0_6.stage (cfg0.slots t 6)
/-- The buffer which keeps the normalised rows from section to section. -/
abbrev keep : Memref sig .tc .vmem S1024x1024 .bf16 := Memref.whole cc0_scratch0

theorem wh0 (t : Fin cfg0.N) : (st0 t).IsWhole := hstage0_0 ((cfg0.slots t 0).cast nbuf0_0)
theorem wh1 (t : Fin cfg0.N) : (st1 t).IsWhole := hstage0_1 ((cfg0.slots t 1).cast nbuf0_1)
theorem wh2 (t : Fin cfg0.N) : (st2 t).IsWhole := hstage0_2 ((cfg0.slots t 2).cast nbuf0_2)
theorem wh3 (t : Fin cfg0.N) : (st3 t).IsWhole := hstage0_3 ((cfg0.slots t 3).cast nbuf0_3)
theorem wh4 (t : Fin cfg0.N) : (st4 t).IsWhole := hstage0_4 ((cfg0.slots t 4).cast nbuf0_4)
theorem wh5 (t : Fin cfg0.N) : (st5 t).IsWhole := hstage0_5 ((cfg0.slots t 5).cast nbuf0_5)
theorem wh6 (t : Fin cfg0.N) : (st6 t).IsWhole := hstage0_6 ((cfg0.slots t 6).cast nbuf0_6)

theorem rest_eq (c : Dev nD) :
    (Pipeline.ΦA spec0 c : sProp 𝕄)
      = iprop(iprop((∃ d, owns (c : Thread nD τ) keep fullShare d)) ∗ (∃ r, prngReg c r)) := by
  unfold Pipeline.ΦA; rw [scopedRest0_eq]; simp only [keep, owns_whole]; try rfl

end Cert.Kernel5Ideal.Gen

end
-- ==== Proof.FwdBody.lean ====
module

public import proofs.«01_k».proof.Proof.FwdFrame
public import Idealize.ShloMosaic.Lib.VecWindow
public import Idealize.ShloMosaic.Lib.Pipeline.Value

/-! One point of the input projection: at a tile's first section the rows are normalised and kept, and at every section
the kept rows are multiplied by the section's weights. -/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A tile's normalised rows. -/
def normT (x : Vec F S1024x1024 .f32) (g : Vec F S1x1024 .f32) : Vec F S1024x1024 .bf16 := k0_pay1 x g
/-- A section of the projection. -/
def wideT (h : Vec F S1024x1024 .bf16) (w : Vec F S1024x1024 .bf16) : Vec F S1024x1024 .f32 := k0_pay4 h w
/-- The narrow section. -/
def narrowT (h : Vec F S1024x1024 .bf16) (w : Vec F S128x1024 .bf16) : Vec F S1024x128 .f32 :=
  matmul dot_S1024x1024_S128x1024_S1024x128_1_1_0_0_n_n none h (shapeCast S128x1024 w shapeCasts_S128x1024_S128x1024) (constant S1024x128 .f32 0x00000000#32)

theorem kept_eq (x : Vec F S1024x1024 .f32) (g : Vec F S1x1024 .f32) : k0_pay2 x g = normT x g := shapeCast_self _ _

set_option maxHeartbeats 1000000 in
theorem run_first (c : Dev nD) (i : grid0.Coords)
    (a0 : Memref sig .tc .vmem S1024x1024 .f32) (h0 : a0.IsWhole)
    (a1 : Memref sig .tc .vmem S1x1024 .f32) (h1 : a1.IsWhole)
    (a2 : Memref sig .tc .vmem S1024x1024 .bf16) (h2 : a2.IsWhole)
    (a3 : Memref sig .tc .vmem S128x1024 .bf16) (h3 : a3.IsWhole)
    (a4 : Memref sig .tc .vmem S1024x1024 .f32) (h4 : a4.IsWhole)
    (a5 : Memref sig .tc .vmem S1024x128 .f32) (h5 : a5.IsWhole)
    (a6 : Memref sig .tc .vmem S1024x1024 .bf16) (h6 : a6.IsWhole)
    (a7 : Memref sig .tc .vmem S1024x1024 .bf16) (h7 : a7.IsWhole)
    (x0 : Vec F S1024x1024 .f32) (x1 : Vec F S1x1024 .f32) (x2 : Vec F S1024x1024 .bf16) (x3 : Vec F S128x1024 .bf16)
    (E : Set ℕ) (K : PUnit → sProp 𝕄) (hc : First i) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (wideT (normT x0 x1) x2) ∗ owns (c : Thread nD τ) a5 fullShare (narrowT (normT x0 x1) x3)
            ∗ owns (c : Thread nD τ) a6 fullShare (normT x0 x1) ∗ owns (c : Thread nD τ) a7 fullShare (normT x0 x1)) -∗ K ⟨⟩))
      ⊢ wp frame (wpE (defs₀ (F := F)) Variants.none c none) E (cc0_inproj_fwd i a0 h0 a1 h1 a2 h2 a3 h3 a4 h4 a5 h5 a6 h6 a7 h7) K := by
  simp only [cc0_inproj_fwd_eq_skeleton]; unfold cc0_inproj_fwd_skel
  unfold owns
  iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, ⟨%d6, %f6, %hf6, H6⟩, ⟨%d7, %f7, %hf7, H7⟩, Hk⟩
  obtain rfl := h0.eq_unread hf0; obtain rfl := h1.eq_unread hf1; obtain rfl := h2.eq_unread hf2; obtain rfl := h3.eq_unread hf3
  have e0 : View.readAt (Elt F) a0.view (Rect.unit (s := S1024x1024) ![0, 0] S1024x1024.size inb_S1024x1024_S1024x1024_0_0).toLoadRect (h0.unread x0) = x0 :=
    (View.readAt_full a0.view _ _).trans (h0.read_unread _)
  have e1 : View.readAt (Elt F) a1.view (Rect.unit (s := S1x1024) ![0, 0] S1x1024.size inb_S1x1024_S1x1024_0_0).toLoadRect (h1.unread x1) = x1 :=
    (View.readAt_full a1.view _ _).trans (h1.read_unread _)
  have e2 : View.readAt (Elt F) a2.view (Rect.unit (s := S1024x1024) ![0, 0] S1024x1024.size inb_S1024x1024_S1024x1024_0_0).toLoadRect (h2.unread x2) = x2 :=
    (View.readAt_full a2.view _ _).trans (h2.read_unread _)
  have e3 : View.readAt (Elt F) a3.view (Rect.unit (s := S128x1024) ![0, 0] S128x1024.size inb_S128x1024_S128x1024_0_0).toLoadRect (h3.unread x3) = x3 :=
    (View.readAt_full a3.view _ _).trans (h3.read_unread _)
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    refine (View.read_writes_full _ _ _ _ _).trans ?_
    refine congrArg (fun h => k0_pay4 h x2) (?_ : _ = normT x0 x1)
    exact (View.readCov_full _ _ _ _ _).trans (kept_eq _ _)
  isplitl [H5]
  · iexists _; isplitr
    swap; · iexact H5
    ipureintro
    refine (View.read_writes_full _ _ _ _ _).trans ?_
    rfl
  isplitl [H6]
  · iexists _; isplitr
    swap; · iexact H6
    ipureintro
    refine (View.read_writes_full _ _ _ _ _).trans ?_
    rfl
  iexists _; isplitr
  swap; · iexact H7
  ipureintro
  refine (View.read_writes_full _ _ _ _ _).trans ?_
  exact kept_eq _ _

set_option maxHeartbeats 1000000 in
theorem run_next (c : Dev nD) (i : grid0.Coords)
    (a0 : Memref sig .tc .vmem S1024x1024 .f32) (h0 : a0.IsWhole)
    (a1 : Memref sig .tc .vmem S1x1024 .f32) (h1 : a1.IsWhole)
    (a2 : Memref sig .tc .vmem S1024x1024 .bf16) (h2 : a2.IsWhole)
    (a3 : Memref sig .tc .vmem S128x1024 .bf16) (h3 : a3.IsWhole)
    (a4 : Memref sig .tc .vmem S1024x1024 .f32) (h4 : a4.IsWhole)
    (a5 : Memref sig .tc .vmem S1024x128 .f32) (h5 : a5.IsWhole)
    (a6 : Memref sig .tc .vmem S1024x1024 .bf16) (h6 : a6.IsWhole)
    (a7 : Memref sig .tc .vmem S1024x1024 .bf16) (h7 : a7.IsWhole)
    (x0 : Vec F S1024x1024 .f32) (x1 : Vec F S1x1024 .f32) (x2 : Vec F S1024x1024 .bf16) (x3 : Vec F S128x1024 .bf16)
    (E : Set ℕ) (K : PUnit → sProp 𝕄)
    (hc : ¬ First i) (s : Vec F S1024x1024 .bf16) (y5 : Vec F S1024x128 .f32) (y6 : Vec F S1024x1024 .bf16) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ owns (c : Thread nD τ) a5 fullShare y5 ∗ owns (c : Thread nD τ) a6 fullShare y6 ∗ owns (c : Thread nD τ) a7 fullShare s
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (wideT s x2) ∗ owns (c : Thread nD τ) a5 fullShare y5
            ∗ owns (c : Thread nD τ) a6 fullShare y6 ∗ owns (c : Thread nD τ) a7 fullShare s) -∗ K ⟨⟩))
      ⊢ wp frame (wpE (defs₀ (F := F)) Variants.none c none) E (cc0_inproj_fwd i a0 h0 a1 h1 a2 h2 a3 h3 a4 h4 a5 h5 a6 h6 a7 h7) K := by
  simp only [cc0_inproj_fwd_eq_skeleton]; unfold cc0_inproj_fwd_skel
  unfold owns
  iintro ⟨⟨%f0, %hf0, H0⟩, ⟨%f1, %hf1, H1⟩, ⟨%f2, %hf2, H2⟩, ⟨%f3, %hf3, H3⟩, ⟨%d4, %f4, %hf4, H4⟩, ⟨%f5, %hf5, H5⟩, ⟨%f6, %hf6, H6⟩, ⟨%f7, %hf7, H7⟩, Hk⟩
  obtain rfl := h0.eq_unread hf0; obtain rfl := h1.eq_unread hf1; obtain rfl := h2.eq_unread hf2; obtain rfl := h3.eq_unread hf3
  obtain rfl := h5.eq_unread hf5; obtain rfl := h6.eq_unread hf6; obtain rfl := h7.eq_unread hf7
  have e2 : View.readAt (Elt F) a2.view (Rect.unit (s := S1024x1024) ![0, 0] S1024x1024.size inb_S1024x1024_S1024x1024_0_0).toLoadRect (h2.unread x2) = x2 :=
    (View.readAt_full a2.view _ _).trans (h2.read_unread _)
  have e7 : View.readAt (Elt F) a7.view (Rect.unit (s := S1024x1024) ![0, 0] S1024x1024.size inb_S1024x1024_S1024x1024_0_0).toLoadRect (h7.unread s) = s :=
    (View.readAt_full a7.view _ _).trans (h7.read_unread _)
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    refine (View.read_writes_full _ _ _ _ _).trans ?_
    rfl
  isplitl [H5]
  · iexists _; isplitr; · ipureintro; exact h5.read_unread _
    iexact H5
  isplitl [H6]
  · iexists _; isplitr; · ipureintro; exact h6.read_unread _
    iexact H6
  iexists _; isplitr; · ipureintro; exact h7.read_unread _
  iexact H7

end Cert.Kernel5Ideal.Gen

end
-- ==== Proof.FwdRun.lean ====
module

public import proofs.«01_k».proof.Proof.FwdBody

/-! The run of the input projection: what its buffers hold after each point, and what the program leaves. -/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normalised rows of a point's tile. -/
def rowsAt (c : Dev nD) (t : Fin cfg0.N) : Vec F S1024x1024 .bf16 := normT (iblk m c 0 t) (iblk m c 1 t)
/-- The narrow section of a point's tile. -/
def narrowAt (c : Dev nD) (t : Fin cfg0.N) : Vec F S1024x128 .f32 := narrowT (rowsAt m c t) (iblk m c 3 t)
/-- A point's section. -/
def wideAt (c : Dev nD) (t : Fin cfg0.N) : Vec F S1024x1024 .f32 := wideT (rowsAt m c t) (iblk m c 2 t)

/-- What the kept buffer holds before a point. -/
def Kept (c : Dev nD) : (n : ℕ) → n ≤ cfg0.N → sProp 𝕄
  | 0, _ => Pipeline.ΦA spec0 c
  | n + 1, hn => iprop(iprop(owns (c : Thread nD τ) keep fullShare (rowsAt m c ⟨n, hn⟩)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wideAt m c t
    | ⟨5, _⟩ => narrowAt m c t
    | ⟨6, _⟩ => rowsAt m c t
  Φ t := Kept m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = wideAt m c t := by dsimp only [dats]
theorem after5 (c : Dev nD) (t : Fin cfg0.N) : (dats m 0 c).after 5 t = narrowAt m c t := by dsimp only [dats]
theorem after6 (c : Dev nD) (t : Fin cfg0.N) : (dats m 0 c).after 6 t = rowsAt m c t := by dsimp only [dats]

/-- A fetched block is the window's block. -/
theorem fetched0 (c : Dev nD) (t : Fin cfg0.N) (d) : (dats m 0 c).fetched 0 t d = iblk m c 0 t := by
  unfold Dat.fetched Dat.blockOf iblk; rw [A_eq m c 0]; try rfl
theorem fetched1 (c : Dev nD) (t : Fin cfg0.N) (d) : (dats m 0 c).fetched 1 t d = iblk m c 1 t := by
  unfold Dat.fetched Dat.blockOf iblk; rw [A_eq m c 1]; try rfl
theorem fetched2 (c : Dev nD) (t : Fin cfg0.N) (d) : (dats m 0 c).fetched 2 t d = iblk m c 2 t := by
  unfold Dat.fetched Dat.blockOf iblk; rw [A_eq m c 2]; try rfl
theorem fetched3 (c : Dev nD) (t : Fin cfg0.N) (d) : (dats m 0 c).fetched 3 t d = iblk m c 3 t := by
  unfold Dat.fetched Dat.blockOf iblk; rw [A_eq m c 3]; try rfl

/-- The body finds each input's block. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq m c 0]; try rfl) t d).trans
    (fetched0 m c t d)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq m c 1]; try rfl) t d).trans
    (fetched1 m c t d)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq m c 2]; try rfl) t d).trans
    (fetched2 m c t d)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq m c 3]; try rfl) t d).trans
    (fetched3 m c t d)

/-- The point before. -/
def prev (t : Fin cfg0.N) : Fin cfg0.N := ⟨t.val - 1, Nat.lt_of_le_of_lt (Nat.sub_le _ _) t.isLt⟩

/-- Within a tile the point before has the same rows, the same scale and the same narrow weights. -/
theorem stay0 : ∀ t : Fin cfg0.N, ¬ t.val % 7 = 0 → (cfg0.win 0).index t = (cfg0.win 0).index (prev t) :=
  (by decide +kernel : ∀ t : Fin grid0.N, ¬ t.val % 7 = 0 → win0_0.index t = win0_0.index ⟨t.val - 1, Nat.lt_of_le_of_lt (Nat.sub_le _ _) t.isLt⟩)
theorem stay1 : ∀ t : Fin cfg0.N, ¬ t.val % 7 = 0 → (cfg0.win 1).index t = (cfg0.win 1).index (prev t) :=
  (by decide +kernel : ∀ t : Fin grid0.N, ¬ t.val % 7 = 0 → win0_1.index t = win0_1.index ⟨t.val - 1, Nat.lt_of_le_of_lt (Nat.sub_le _ _) t.isLt⟩)
theorem stay3 : ∀ t : Fin cfg0.N, ¬ t.val % 7 = 0 → (cfg0.win 3).index t = (cfg0.win 3).index (prev t) :=
  (by decide +kernel : ∀ t : Fin grid0.N, ¬ t.val % 7 = 0 → win0_3.index t = win0_3.index ⟨t.val - 1, Nat.lt_of_le_of_lt (Nat.sub_le _ _) t.isLt⟩)

theorem rows_stay (c : Dev nD) (t : Fin cfg0.N) (h : ¬ t.val % 7 = 0) : rowsAt m c t = rowsAt m c (prev t) := by
  have e0 : iblk m c 0 t = iblk m c 0 (prev t) :=
    (fetched0 m c t (iblk m c 0 t)).symm.trans (((dats m 0 c).fetched_congr 0 (stay0 t h) rfl _).trans (fetched0 m c (prev t) _))
  have e1 : iblk m c 1 t = iblk m c 1 (prev t) :=
    (fetched1 m c t (iblk m c 1 t)).symm.trans (((dats m 0 c).fetched_congr 1 (stay1 t h) rfl _).trans (fetched1 m c (prev t) _))
  exact congrArg₂ normT e0 e1

theorem narrow_stay (c : Dev nD) (t : Fin cfg0.N) (h : ¬ t.val % 7 = 0) : narrowAt m c t = narrowAt m c (prev t) := by
  have e3 : iblk m c 3 t = iblk m c 3 (prev t) :=
    (fetched3 m c t (iblk m c 3 t)).symm.trans (((dats m 0 c).fetched_congr 3 (stay3 t h) rfl _).trans (fetched3 m c (prev t) _))
  exact congrArg₂ narrowT (rows_stay m c t h) e3

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, t.val % 7 = 0 → cfg0.idle 5 (grid0.coords t) = false := by decide +kernel
theorem live6 : ∀ t : Fin cfg0.N, t.val % 7 = 0 → cfg0.idle 6 (grid0.coords t) = false := by decide +kernel
theorem idle5 : ∀ t : Fin cfg0.N, ¬ t.val % 7 = 0 → cfg0.idle 5 (grid0.coords t) = true := by decide +kernel
theorem idle6 : ∀ t : Fin cfg0.N, ¬ t.val % 7 = 0 → cfg0.idle 6 (grid0.coords t) = true := by decide +kernel
theorem old5 : ∀ t : Fin cfg0.N, ¬ t.val % 7 = 0 → cfg0.fresh 5 t.val = false := by decide +kernel
theorem old6 : ∀ t : Fin cfg0.N, ¬ t.val % 7 = 0 → cfg0.fresh 6 t.val = false := by decide +kernel

/-- At a later section the narrow section and the rows are still in their buffers. -/
theorem before5 (c : Dev nD) (t : Fin cfg0.N) (h : ¬ t.val % 7 = 0) (d) : (dats m 0 c).before 5 t d = narrowAt m c t := by
  refine ((dats m 0 c).before_out_traj 5 rfl (fun _ _ => rfl) (fun t _ hi _ => ?_) t.val t rfl d).trans ?_
  · by_cases h0 : t.val % 7 = 0
    · rw [live5 t h0] at hi; exact absurd hi Bool.false_ne_true
    · exact (after5 m c t).trans ((narrow_stay m c t h0).trans (after5 m c (prev t)).symm)
  · rw [old5 t h, if_neg Bool.false_ne_true]
    exact (after5 m c (prev t)).trans (narrow_stay m c t h).symm

theorem before6 (c : Dev nD) (t : Fin cfg0.N) (h : ¬ t.val % 7 = 0) (d) : (dats m 0 c).before 6 t d = rowsAt m c t := by
  refine ((dats m 0 c).before_out_traj 6 rfl (fun _ _ => rfl) (fun t _ hi _ => ?_) t.val t rfl d).trans ?_
  · by_cases h0 : t.val % 7 = 0
    · rw [live6 t h0] at hi; exact absurd hi Bool.false_ne_true
    · exact (after6 m c t).trans ((rows_stay m c t h0).trans (after6 m c (prev t)).symm)
  · rw [old6 t h, if_neg Bool.false_ne_true]
    exact (after6 m c (prev t)).trans (rows_stay m c t h).symm

/-- What an idle buffer is left at, whether or not the point writes it back. -/
theorem leave5 (c : Dev nD) (t : Fin cfg0.N) (h : ¬ t.val % 7 = 0) :
    owns (c : Thread nD τ) (st5 t) fullShare (narrowAt m c t) ⊢ (dats m 0 c).leavesExact 5 t := by
  cases hf : (cfg0.win 5).flush t
  · rw [Dat.leavesExact_idle (dats m 0 c) 5 t (idle5 t h) hf]
    iintro H
    iexists (narrowAt m c t)
    rw [before5 m c t h]
    iexact H
  · rw [show (dats m 0 c).leavesExact 5 t = owns (c : Thread nD τ) (st5 t) fullShare ((dats m 0 c).after 5 t) from by
      unfold Dat.leavesExact; rw [idle5 t h, hf], after5]

theorem leave6 (c : Dev nD) (t : Fin cfg0.N) (h : ¬ t.val % 7 = 0) :
    owns (c : Thread nD τ) (st6 t) fullShare (rowsAt m c t) ⊢ (dats m 0 c).leavesExact 6 t := by
  cases hf : (cfg0.win 6).flush t
  · rw [Dat.leavesExact_idle (dats m 0 c) 6 t (idle6 t h) hf]
    iintro H
    iexists (rowsAt m c t)
    rw [before6 m c t h]
    iexact H
  · rw [show (dats m 0 c).leavesExact 6 t = owns (c : Thread nD τ) (st6 t) fullShare ((dats m 0 c).after 6 t) from by
      unfold Dat.leavesExact; rw [idle6 t h, hf], after6]

theorem Kept_first (c : Dev nD) (n : ℕ) (h : n ≤ cfg0.N) :
    Kept m c n h ⊢ iprop(iprop((∃ d, owns (c : Thread nD τ) keep fullShare d)) ∗ (∃ r, prngReg c r)) := by
  cases n with
  | zero =>
    rw [show Kept m c 0 h = Pipeline.ΦA spec0 c from rfl, rest_eq]
  | succ n =>
    unfold Kept
    iintro ⟨H, Hg⟩
    isplitl [H]
    · iexists _; iexact H
    iexact Hg

theorem Kept_next (c : Dev nD) (t : Fin cfg0.N) (h : ¬ t.val % 7 = 0) :
    Kept m c t.val (Nat.le_of_lt t.isLt) = iprop(iprop(owns (c : Thread nD τ) keep fullShare (rowsAt m c t)) ∗ (∃ r, prngReg c r)) := by
  rw [rows_stay m c t h]
  obtain ⟨n, hn⟩ := t
  cases n with
  | zero => exact absurd (Nat.zero_mod 7) h
  | succ n => rfl

theorem Kept_castSucc (c : Dev nD) (t : Fin cfg0.N) :
    (dats m 0 c).Φ t.castSucc = Kept m c t.val (Nat.le_of_lt t.isLt) := by
  dsimp only [dats]; exact Pipeline.Dat.Φ_castSucc (Kept m c) t

/-- What a point is given. -/
def given (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- What a point returns. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
theorem point_sound (c : Dev nD) (t : Fin cfg0.N) :
    given m c t ⊢ wp frame (wpE (defs₀ (F := F)) Variants.none c none) Set.univ (bodyAt0 t) (fun _ => returned m c t) := by
  unfold given returned bodyAt0
  simp only [before0, before1, before2, before3]
  rw [show (dats m 0 c).owesAt () t.succ = (dats m 0 c).owesAt () t.castSucc from rfl]
  rw [show (dats m 0 c).Φ t.succ = iprop(iprop(owns (c : Thread nD τ) keep fullShare (rowsAt m c t)) ∗ (∃ r, prngReg c r)) from rfl]
  rw [Kept_castSucc]
  rw [show (dats m 0 c).leavesExact 0 t = owns (c : Thread nD τ) (st0 t) fullShare ((dats m 0 c).after 0 t) from by
    unfold Dat.leavesExact; rw [live0 t], after0]
  rw [show (dats m 0 c).leavesExact 1 t = owns (c : Thread nD τ) (st1 t) fullShare ((dats m 0 c).after 1 t) from by
    unfold Dat.leavesExact; rw [live1 t], after1]
  rw [show (dats m 0 c).leavesExact 2 t = owns (c : Thread nD τ) (st2 t) fullShare ((dats m 0 c).after 2 t) from by
    unfold Dat.leavesExact; rw [live2 t], after2]
  rw [show (dats m 0 c).leavesExact 3 t = owns (c : Thread nD τ) (st3 t) fullShare ((dats m 0 c).after 3 t) from by
    unfold Dat.leavesExact; rw [live3 t], after3]
  rw [show (dats m 0 c).leavesExact 4 t = owns (c : Thread nD τ) (st4 t) fullShare ((dats m 0 c).after 4 t) from by
    unfold Dat.leavesExact; rw [live4 t], after4]
  by_cases h : t.val % 7 = 0
  · rw [show (dats m 0 c).leavesExact 5 t = owns (c : Thread nD τ) (st5 t) fullShare ((dats m 0 c).after 5 t) from by
      unfold Dat.leavesExact; rw [live5 t h], after5]
    rw [show (dats m 0 c).leavesExact 6 t = owns (c : Thread nD τ) (st6 t) fullShare ((dats m 0 c).after 6 t) from by
      unfold Dat.leavesExact; rw [live6 t h], after6]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HK := (Kept_first m c t.val (Nat.le_of_lt t.isLt)) $$ HΦ
    icases HK with ⟨HS, Hg⟩
    iapply (run_first c (grid0.coords t) _ (wh0 t) _ (wh1 t) _ (wh2 t) _ (wh3 t) _ (wh4 t) _ (wh5 t) _ (wh6 t) _ (Memref.isWhole_whole _)
      (iblk m c 0 t) (iblk m c 1 t) (iblk m c 2 t) (iblk m c 3 t) Set.univ _ ((first_iff t).mpr h))
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before5 m c t h, before6 m c t h]
    rw [Kept_next m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_next c (grid0.coords t) _ (wh0 t) _ (wh1 t) _ (wh2 t) _ (wh3 t) _ (wh4 t) _ (wh5 t) _ (wh6 t) _ (Memref.isWhole_whole _)
      (iblk m c 0 t) (iblk m c 1 t) (iblk m c 2 t) (iblk m c 3 t) Set.univ _ (fun hc => h ((first_iff t).mp hc)) (rowsAt m c t) (narrowAt m c t) (rowsAt m c t))
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leave5 m c t h); iexact H5
    iapply (leave6 m c t h); iexact H6

theorem table_row (t : Fin cfg0.N) :
    defs₀ (F := F) .tc cfg0.body (cfg0.bodyArgs t (cfg0.slots t)) = bodyAt0 t := by
  unfold defs₀; rw [Defs.onTc_tc]

theorem points_sound (c : Dev nD) : BodyObligation (dats (F := F) m 0 c) (defs₀ (F := F)) Variants.none () Set.univ := fun t => by
  rw [bigSep_W0, bigSep_W0, table_row]
  exact triple_restated (point_sound m c t) rfl .rfl fun _ => .rfl

theorem Kept_out (c : Dev nD) (t : Fin (cfg0.N + 1)) : (dats m 0 c).Φ t ⊢ Pipeline.ΦA spec0 c := by
  rw [show (dats m 0 c).Φ t = Kept m c t.val (Nat.le_of_lt_succ t.isLt) from rfl, rest_eq]
  exact Kept_first m c _ _

set_option backward.isDefEq.respectTransparency.types false in
theorem whole_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (points_sound m c).loose) (hshare := fun c => (dats m 0 c).share_full fun _ => rfl)
    (howed := fun _ _ => rfl) (V := V m) (hmain := hmain m Variants.none) (hA := A_eq m)
    (hin := fun c => Idealize.SL.BI.Entails.refl _) (hout := fun c => Kept_out m c _)

/-- The program ends with its arguments unchanged and its three results at what the points wrote. -/
theorem frame_blocks : θ_run defs (onTc (τ := τ) (main (F := F))) ⟨m, fun _ => 0, ρ⟩ (fun r => (∀ c : Dev nD,
      r.2.mem ((c.tc : Thread nD τ).loc main_v7_0) = (dats m 0 c).arrAt 4 cfg0.N
      ∧ r.2.mem ((c.tc : Thread nD τ).loc main_v7_1) = (dats m 0 c).arrAt 5 cfg0.N
      ∧ r.2.mem ((c.tc : Thread nD τ).loc main_v7_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 4, (h.1 c).1 5, (h.1 c).1 6,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c)⟩, h.2⟩) (whole_run m ρ)

end Cert.Kernel5Ideal.Gen

end
-- ==== Proof.FwdArrays.lean ====
module

public import proofs.«01_k».proof.Proof.FwdRun
public import proofs.«01_k».proof.Proof.InputHost
public import Idealize.ShloMosaic.Lib.Pointwise
public import Idealize.ShloMosaic.Lib.Pipeline.ValueKit.Geometry

/-! The three results of the input projection as arrays of the arguments' entries. -/

@[expose] public section

set_option maxRecDepth 16384

noncomputable section

namespace Cert.Kernel5Ideal.Gen
open Idealize.ShloMosaic Idealize.ShloMosaic.TcCoe Idealize.SL.Sem Residual

@[expose] public section
variable {F : FTy → Type} [FloatOps F] (m : (ℓ : Loc nD τ sig) → Buf (Elt F) ℓ) (c : Dev nD)

theorem V_eq (b : Ref sig .tc) : V m c b = StableHlo.after hostOps0_1 (StableHlo.after hostOps0 (fun b => m (c, b))) (Proc.devRef .tc b) := by
  unfold V
  simp only [List.flatten_cons, List.flatten_nil, List.append_nil, StableHlo.after_append]

theorem V_v4 : V m c main_v4 = Cert.Kernel3Ideal.Gen.wideW (m ((c : Thread nD τ).loc main_arg2)) := by
  rw [V_eq]
  simp only [hostOps0, hostOps0_1, StableHlo.TRef.nullary, StableHlo.TRef.binary, StableHlo.TRef.unary, StableHlo.TRef.toBuf, StableHlo.TRef.ofBuf, cast_eq]
  after_results_simp <;> rfl

theorem V_v6 : V m c main_v6 = Cert.Kernel3Ideal.Gen.narrowW (m ((c : Thread nD τ).loc main_arg2)) := by
  rw [V_eq]
  simp only [hostOps0, hostOps0_1, StableHlo.TRef.nullary, StableHlo.TRef.binary, StableHlo.TRef.unary, StableHlo.TRef.toBuf, StableHlo.TRef.ofBuf, cast_eq]
  after_results_simp <;> rfl
end

theorem normT_at (x : Vec Ideal S1024x1024 .f32) (g : Vec Ideal S1x1024 .f32) (r d : Fin 1024) :
    (normT x g (ix2 r d) : EReal) = x (ix2 r d) * rowR (fun k => x (ix2 r k)) * g (ix2 0 d) := by
  pointwise [normT, k0_pay1, rowR, rowV]

theorem wideT_at (h w : Vec Ideal S1024x1024 .bf16) (r e : Fin 1024) :
    (wideT h w (ix2 r e) : EReal) = ∑ d : Fin 1024, (h (ix2 r d) : EReal) * w (ix2 e d) := by
  pointwise [wideT, k0_pay4]

theorem narrowT_at (h : Vec Ideal S1024x1024 .bf16) (w : Vec Ideal S128x1024 .bf16) (r : Fin 1024) (e : Fin 128) :
    (narrowT h w (ix2 r e) : EReal) = ∑ d : Fin 1024, (h (ix2 r d) : EReal) * w (ix2 e d) := by
  pointwise [narrowT]

theorem at0 : ∀ t : Fin cfg0.N, win0_0.index t = ![t.val / 7, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val % 7, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val / 7, t.val % 7] := (by decide +kernel : ∀ t : Fin grid0.N, _)
theorem at5 : ∀ t : Fin cfg0.N, win0_5.index t = ![t.val / 7, 0] := (by decide +kernel : ∀ t : Fin grid0.N, _)
theorem at6 : ∀ t : Fin cfg0.N, win0_6.index t = ![t.val / 7, 0] := (by decide +kernel : ∀ t : Fin grid0.N, _)

/-- The token of a row of a point's tile. -/
def tok (t : Fin cfg0.N) (r : Fin 1024) : Fin 4096 := ⟨1024 * (t.val / 7) + r.val, by have := lt_of_lt_of_eq t.isLt (show cfg0.N = 28 from N_0); omega⟩
/-- The column of the wide result which a point's column is. -/
def col (t : Fin cfg0.N) (e : Fin 1024) : Fin 7168 := ⟨1024 * (t.val % 7) + e.val, by omega⟩

variable (m : (ℓ : Loc nD τ sig) → Buf (Elt Ideal) ℓ) (c : Dev nD)

def xA : S4096x1024.Idx → EReal := (m ((c : Thread nD τ).loc main_arg0) : FVec Ideal S4096x1024 .f32)

def gA : S1x1024.Idx → EReal := (m ((c : Thread nD τ).loc main_arg1) : FVec Ideal S1x1024 .f32)

def wA : S1024x7184.Idx → EReal := (m ((c : Thread nD τ).loc main_arg2) : FVec Ideal S1024x7184 .f32)

/-- The weight of a column of the wide result: the narrow section's columns are left out. -/
def wideC (e : Fin 7168) (d : Fin 1024) : EReal :=
  if h : e.val < 3072 then wA m c (ix2 d ⟨e.val, by omega⟩) else wA m c (ix2 d ⟨3088 + (e.val - 3072), by omega⟩)
/-- The weight of a lane of the narrow result. -/
def narrowC (e : Fin 128) (d : Fin 1024) : EReal := if e.val < 16 then wA m c (ix2 d ⟨3072 + e.val, by omega⟩) else 0
/-- A normalised entry. -/
def normA (k : Fin 4096) (d : Fin 1024) : EReal := xA m c (ix2 k d) * rowR (fun e => xA m c (ix2 k e)) * gA m c (ix2 0 d)

theorem blk0 (t : Fin cfg0.N) (r d : Fin 1024) : (iblk m c 0 t : FVec Ideal S1024x1024 .f32) (ix2 r d) = xA m c (ix2 (tok t r) d) := by
  have h : (iblk m c 0 t : FVec Ideal S1024x1024 .f32) (ix2 r d) = (V m c main_arg0 : FVec Ideal S4096x1024 .f32) (ix2 (tok t r) d) := by
    blk_simp [iblk]
    congr 1
    funext a
    fin_cases a <;> refine Fin.ext ?_ <;> blk_simp [at0] <;> simp [ix2, tok, Nat.mul_comm]
  rw [h, V_main_arg0]
  rfl

theorem blk1 (t : Fin cfg0.N) (z : Fin 1) (d : Fin 1024) : (iblk m c 1 t : FVec Ideal S1x1024 .f32) (ix2 z d) = gA m c (ix2 z d) := by
  have h : (iblk m c 1 t : FVec Ideal S1x1024 .f32) (ix2 z d) = (V m c main_arg1 : FVec Ideal S1x1024 .f32) (ix2 z d) := by
    blk_simp [iblk]
    congr 1
    funext a
    fin_cases a <;> refine Fin.ext ?_ <;> blk_simp [at1] <;> simp [ix2]
  rw [h, V_main_arg1]
  rfl

theorem blk2 (t : Fin cfg0.N) (e d : Fin 1024) : (iblk m c 2 t : FVec Ideal S1024x1024 .bf16) (ix2 e d) = wideC m c (col t e) d := by
  have h : (iblk m c 2 t : FVec Ideal S1024x1024 .bf16) (ix2 e d) = (V m c main_v4 : FVec Ideal S7168x1024 .bf16) (ix2 (col t e) d) := by
    blk_simp [iblk]
    congr 1
    funext a
    fin_cases a <;> refine Fin.ext ?_ <;> blk_simp [at2] <;> simp [ix2, col, Nat.mul_comm]
  rw [h, V_v4]
  exact Cert.Kernel3Ideal.Gen.wideW_at _ (col t e) d

theorem blk3 (t : Fin cfg0.N) (e : Fin 128) (d : Fin 1024) : (iblk m c 3 t : FVec Ideal S128x1024 .bf16) (ix2 e d) = narrowC m c e d := by
  have h : (iblk m c 3 t : FVec Ideal S128x1024 .bf16) (ix2 e d) = (V m c main_v6 : FVec Ideal S128x1024 .bf16) (ix2 e d) := by
    blk_simp [iblk]
    congr 1
    funext a
    fin_cases a <;> refine Fin.ext ?_ <;> blk_simp [at3] <;> simp [ix2]
  rw [h, V_v6]
  exact Cert.Kernel3Ideal.Gen.narrowW_at _ e d

theorem rowsAt_at (t : Fin cfg0.N) (r d : Fin 1024) : (rowsAt m c t (ix2 r d) : EReal) = normA m c (tok t r) d := by
  refine (normT_at _ _ r d).trans ?_
  have hx := funext fun e => blk0 m c t r e
  exact congrArg₂ (fun x y : EReal => x * y) (congrArg₂ (fun x y : EReal => x * y) (blk0 m c t r d) (congrArg rowR hx)) (blk1 m c t 0 d)

/-- The call's three results. -/
def resZ : FVec Ideal S4096x7168 .f32 := fun j => (∑ d : Fin 1024, normA m c (j 0) d * wideC m c (j 1) d : EReal)
def resF : FVec Ideal S4096x128 .f32 := fun j => (∑ d : Fin 1024, normA m c (j 0) d * narrowC m c (j 1) d : EReal)
def resH : FVec Ideal S4096x1024 .bf16 := fun j => normA m c (j 0) (j 1)

theorem array4 : (dats m 0 c).arrAt 4 cfg0.N = resZ m c := by
  refine (dats m 0 c).arrAt_eq_of_covers 4 _ (by decide +kernel) fun t hf y => ?_
  obtain ⟨r, e, rfl⟩ : ∃ (r : Fin 1024) (e : Fin 1024), y = ix2 r e := ⟨_, _, eq_ix2 y⟩
  have hj : ((cfg0.win 4).blk t).view.emb (ix2 r e) = (ix2 (tok t r) (col t e) : S4096x7168.Idx) := by
    funext a
    fin_cases a <;> refine Fin.ext ?_ <;> blk_simp [at4] <;> simp [ix2, tok, col, Nat.mul_comm]
  rw [hj]
  blk_simp
  rw [after4]
  refine (wideT_at _ _ r e).trans (Finset.sum_congr rfl fun d _ => ?_)
  exact congrArg₂ (fun x y : EReal => x * y) (rowsAt_at m c t r d) (blk2 m c t e d)

theorem array5 : (dats m 0 c).arrAt 5 cfg0.N = resF m c := by
  refine (dats m 0 c).arrAt_eq_of_covers 5 _ (by decide +kernel) fun t hf y => ?_
  obtain ⟨r, e, rfl⟩ : ∃ (r : Fin 1024) (e : Fin 128), y = ix2 r e := ⟨_, _, eq_ix2 y⟩
  have hj : ((cfg0.win 5).blk t).view.emb (ix2 r e) = (ix2 (tok t r) e : S4096x128.Idx) := by
    funext a
    fin_cases a <;> refine Fin.ext ?_ <;> blk_simp [at5] <;> simp [ix2, tok, Nat.mul_comm]
  rw [hj]
  blk_simp
  rw [after5]
  refine (narrowT_at _ _ r e).trans (Finset.sum_congr rfl fun d _ => ?_)
  exact congrArg₂ (fun x y : EReal => x * y) (rowsAt_at m c t r d) (blk3 m c t e d)

theorem array6 : (dats m 0 c).arrAt 6 cfg0.N = resH m c := by
  refine (dats m 0 c).arrAt_eq_of_covers 6 _ (by decide +kernel) fun t hf y => ?_
  obtain ⟨r, d, rfl⟩ : ∃ (r : Fin 1024) (d : Fin 1024), y = ix2 r d := ⟨_, _, eq_ix2 y⟩
  have hj : ((cfg0.win 6).blk t).view.emb (ix2 r d) = (ix2 (tok t r) d : S4096x1024.Idx) := by
    funext a
    fin_cases a <;> refine Fin.ext ?_ <;> blk_simp [at6] <;> simp [ix2, tok, Nat.mul_comm]
  rw [hj]
  blk_simp
  rw [after6]
  exact rowsAt_at m c t r d

end Cert.Kernel5Ideal.Gen

end
-- ==== Proof.FwdRef.lean ====
module

public import proofs.«01_k».proof.Proof.Gen.Reference5Ideal.Run
public import proofs.«01_k».proof.Proof.RowNorm
public import Idealize.ShloMosaic.Lib.Pointwise

/-! The reference's normalised rows and their projection, read at an entry. -/

@[expose] public section

set_option maxRecDepth 16384

noncomputable section

namespace Cert.Reference5Ideal.Value
open Idealize.ShloMosaic Idealize.ShloMosaic.TcCoe Idealize.SL.Sem Residual Cert.Reference5Ideal Cert.Reference5Ideal.Gen

variable (x : FVec Ideal S4096x1024 .f32) (g : FVec Ideal S1x1024 .f32) (w : FVec Ideal S1024x7184 .f32)

/-- The texts of the rows, of the projection and of its two parts. -/
def normText : FVec Ideal S4096x1024 .f32 := (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ g shapeCasts_S1x1024_S1024))))

def projText : FVec Ideal S4096x7184 .f32 := Host.dotGeneral dot_S4096x1024_S1024x7184_S4096x7184_1_0_0_1_n_n none (normText x g) w

def wideText : FVec Ideal S4096x7168 .f32 := concatenate S4096x7168 1 [⟨S4096x3072, (extractStridedSlice S4096x3072 ![0, 0] (projText x g w) slices_S4096x7184_S4096x3072_0_0)⟩, ⟨S4096x4096, (extractStridedSlice S4096x4096 ![0, 3088] (projText x g w) slices_S4096x7184_S4096x4096_0_3088)⟩] concatenates_S4096x3072_S4096x4096_S4096x7168_d1

def narrowText : FVec Ideal S4096x128 .f32 := pad S4096x128 ![0, 0] ![0, 112] ![0, 0] (extractStridedSlice S4096x16 ![0, 3072] (projText x g w) slices_S4096x7184_S4096x16_0_3072) (sitofp .f32 (constantI S_ 32 0#32)) pads_S4096x16_S4096x128_000_01120 h_S_

theorem normText_at (k : Fin 4096) (d : Fin 1024) :
    (normText x g (ix2 k d) : EReal) = x (ix2 k d) * rowR (fun e => x (ix2 k e)) * g (ix2 0 d) := by
  pointwise [normText, rowR, rowV]

theorem projText_at (k : Fin 4096) (e : Fin 7184) :
    (projText x g w (ix2 k e) : EReal) = ∑ d : Fin 1024, (normText x g (ix2 k d) : EReal) * w (ix2 d e) := by
  pointwise [projText]

theorem wideText_at (k : Fin 4096) (e : Fin 7168) :
    (wideText x g w (ix2 k e) : EReal) = if h : e.val < 3072 then projText x g w (ix2 k ⟨e.val, by omega⟩)
      else projText x g w (ix2 k ⟨3088 + (e.val - 3072), by omega⟩) := by
  pointwise [wideText]

theorem zero_word : (FloatOps.sitofp .f32 (0#32) : Ideal .f32) = (0 : EReal) := by
  show ((((0#32 : BitVec 32).toInt : ℝ)) : EReal) = 0
  simp

theorem narrowText_at (k : Fin 4096) (e : Fin 128) :
    (narrowText x g w (ix2 k e) : EReal) = if e.val < 16 then projText x g w (ix2 k ⟨3072 + e.val, by omega⟩) else (0 : EReal) := by
  pointwise [narrowText]
  rw [zero_word]; rfl

end Cert.Reference5Ideal.Value

end
-- ==== Proof.Forward.lean ====
module

public import proofs.«01_k».proof.Proof.FwdArrays
public import proofs.«01_k».proof.Proof.FwdRef
public import proofs.«01_k».proof.Proof.Gen.Kernel5
public import proofs.«01_k».proof.Defs

/-! The input projection: frames, and equality with the reference. -/

@[expose] public section

noncomputable section

namespace Cert.Proof

open Idealize.ShloMosaic Idealize.ShloMosaic.TcCoe Idealize.SL.Sem

local instance forwardIdeal : Cert.Kernel5Ideal.Facts := Cert.Kernel5Ideal.Gen.facts
local instance forwardReference : Cert.Reference5Ideal.Facts := Cert.Reference5Ideal.Gen.facts
local instance forwardWords : Cert.Kernel5.Facts := Cert.Kernel5.Gen.facts

theorem frame_forward_ideal : Cert.quiescent_Kernel5Ideal := fun m ρ _ =>
  (θ_run Cert.Kernel5Ideal.defs _ _).mono (fun _ h => ⟨fun c => (h.1 c).2.2.2, h.2⟩) (Cert.Kernel5Ideal.Gen.frame_blocks (F := Ideal) m ρ)

set_option maxHeartbeats 4000000 in
/-- The two programs have one table of bodies. -/
theorem forward_table {F : FTy → Type} [FloatOps F] : Cert.Kernel5.defs (F := F) = Cert.Kernel5Ideal.defs := by
  refine congrArg (Pipeline.defs Cert.Kernel5Ideal.pcfgs) (congrArg Defs.onTc ?_)
  funext l x
  match l, x with
  | 0, (t, s) => rfl

set_option maxHeartbeats 4000000 in
/-- The call at words: the same run. -/
theorem frame_forward_bits : Cert.quiescent_Kernel5 := fun m ρ _ => by
  have h := (θ_run Cert.Kernel5Ideal.defs _ _).mono (fun _ h => And.intro (fun c => (h.1 c).2.2.2) h.2) (Cert.Kernel5Ideal.Gen.frame_blocks (F := Bits) m ρ)
  rw [← forward_table] at h
  exact h

theorem frame_forward_reference : Cert.quiescent_Reference5Ideal := fun m ρ _ =>
  (θ_run Cert.Reference5Ideal.defs _ _).mono
    (fun r h => ⟨fun c => (h c).2.2.2, sem_eq_zero_of_no_sems (by decide) r.2⟩)
    (Cert.Reference5Ideal.Value.run (F := Ideal) m ρ)

theorem forward_text : Cert.preserves_Kernel5_Kernel5Ideal := trivial

/-- The call's three results are the reference's, for all arguments. -/
theorem same_forward : Cert.algebraic_Kernel5Ideal_Reference5Ideal := by
  intro m ρ m' ρ' _ hargs
  refine ⟨fun c => Cert.Kernel5Ideal.Gen.resZ m c, fun c => Cert.Kernel5Ideal.Gen.resF m c, fun c => Cert.Kernel5Ideal.Gen.resH m c, ?_, ?_⟩
  · exact (θ_run Cert.Kernel5Ideal.defs _ _).mono
      (fun r h c => ⟨(h.1 c).1.trans (Cert.Kernel5Ideal.Gen.array4 m c), (h.1 c).2.1.trans (Cert.Kernel5Ideal.Gen.array5 m c),
        (h.1 c).2.2.1.trans (Cert.Kernel5Ideal.Gen.array6 m c), (h.1 c).2.2.2⟩)
      (Cert.Kernel5Ideal.Gen.frame_blocks (F := Ideal) m ρ)
  · refine (θ_run Cert.Reference5Ideal.defs _ _).mono (fun r h c => ⟨(h c).1.trans ?_, (h c).2.1.trans ?_, (h c).2.2.1.trans ?_, (h c).2.2.2⟩)
      (Cert.Reference5Ideal.Value.run (F := Ideal) m' ρ')
    · obtain ⟨ax, ag, aw⟩ := hargs c
      funext j
      obtain ⟨k, e, rfl⟩ : ∃ (k : Fin 4096) (e : Fin 7168), j = ix2 k e := ⟨_, _, eq_ix2 j⟩
      refine (Cert.Reference5Ideal.Value.wideText_at _ _ _ k e).trans ?_
      rw [ax, ag, aw]
      have hn := fun d => Cert.Reference5Ideal.Value.normText_at (m ((c.tc : Thread _ _).loc Cert.Kernel5Ideal.main_arg0)) (m ((c.tc : Thread _ _).loc Cert.Kernel5Ideal.main_arg1)) k d
      by_cases h : e.val < 3072
      · rw [dif_pos h]
        refine (Cert.Reference5Ideal.Value.projText_at _ _ _ k _).trans (Finset.sum_congr rfl fun d _ => ?_)
        refine congrArg₂ (fun x y : EReal => x * y) (hn d) ?_
        exact (show Cert.Kernel5Ideal.Gen.wideC m c e d = Cert.Kernel5Ideal.Gen.wA m c (ix2 d ⟨e.val, by omega⟩) from dif_pos h).symm
      · rw [dif_neg h]
        refine (Cert.Reference5Ideal.Value.projText_at _ _ _ k _).trans (Finset.sum_congr rfl fun d _ => ?_)
        refine congrArg₂ (fun x y : EReal => x * y) (hn d) ?_
        exact (show Cert.Kernel5Ideal.Gen.wideC m c e d = Cert.Kernel5Ideal.Gen.wA m c (ix2 d ⟨3088 + (e.val - 3072), by omega⟩) from dif_neg h).symm
    · obtain ⟨ax, ag, aw⟩ := hargs c
      funext j
      obtain ⟨k, e, rfl⟩ : ∃ (k : Fin 4096) (e : Fin 128), j = ix2 k e := ⟨_, _, eq_ix2 j⟩
      refine (Cert.Reference5Ideal.Value.narrowText_at _ _ _ k e).trans ?_
      rw [ax, ag, aw]
      have hn := fun d => Cert.Reference5Ideal.Value.normText_at (m ((c.tc : Thread _ _).loc Cert.Kernel5Ideal.main_arg0)) (m ((c.tc : Thread _ _).loc Cert.Kernel5Ideal.main_arg1)) k d
      by_cases h : e.val < 16
      · rw [if_pos h]
        refine (Cert.Reference5Ideal.Value.projText_at _ _ _ k _).trans (Finset.sum_congr rfl fun d _ => ?_)
        refine congrArg₂ (fun x y : EReal => x * y) (hn d) ?_
        unfold Cert.Kernel5Ideal.Gen.narrowC
        exact (if_pos h).symm
      · rw [if_neg h]
        refine (Finset.sum_eq_zero fun d _ => ?_).symm
        refine (congrArg (fun y : EReal => _ * y) (show Cert.Kernel5Ideal.Gen.narrowC m c e d = 0 from ?_)).trans (mul_zero _)
        unfold Cert.Kernel5Ideal.Gen.narrowC
        exact if_neg h
    · obtain ⟨ax, ag, aw⟩ := hargs c
      funext j
      obtain ⟨k, d, rfl⟩ : ∃ (k : Fin 4096) (d : Fin 1024), j = ix2 k d := ⟨_, _, eq_ix2 j⟩
      refine (show _ = Cert.Reference5Ideal.Value.normText _ _ (ix2 k d) from rfl).trans ((Cert.Reference5Ideal.Value.normText_at _ _ k d).trans ?_)
      rw [ax, ag]
      rfl

end Cert.Proof

end
-- ==== Proof.lean ====
/-
  The certificate's claim: the programs' frames, the kernel's named constant, the four gradients of the
  attention, the gradient of a section of the input projection's weight, the gradients of the
  residual stream and of the norm's scale, the output projection with its gradients and the loss, and
  the input projection of the normalised rows.
-/
module

public import proofs.«01_k».proof.Proof.Frames
public import proofs.«01_k».proof.Proof.Value
public import proofs.«01_k».proof.Proof.Weight
public import proofs.«01_k».proof.Proof.Input
public import proofs.«01_k».proof.Proof.Output
public import proofs.«01_k».proof.Proof.Forward

@[expose] public section

namespace Cert.Proof

open Idealize.ShloMosaic Idealize.SL.Sem

local instance : Cert.KernelIdeal.Facts := Cert.KernelIdeal.Gen.facts
local instance : Cert.ReferenceIdeal.Facts := Cert.ReferenceIdeal.Gen.facts
local instance : Cert.Pre_finite.Facts := Cert.Pre_finite.Gen.facts

local instance : Cert.Kernel2Ideal.Facts := Cert.Kernel2Ideal.Gen.facts
local instance weightReferenceFacts : Cert.Reference2Ideal.Facts := Cert.Reference2Ideal.Gen.facts

local instance inputIdealFacts : Cert.Kernel3Ideal.Facts := Cert.Kernel3Ideal.Gen.facts
local instance inputReferenceFacts : Cert.Reference3Ideal.Facts := Cert.Reference3Ideal.Gen.facts

local instance outputIdealFacts : Cert.Kernel4Ideal.Facts := Cert.Kernel4Ideal.Gen.facts
local instance outputReferenceFacts : Cert.Reference4Ideal.Facts := Cert.Reference4Ideal.Gen.facts

local instance forwardIdealFacts : Cert.Kernel5Ideal.Facts := Cert.Kernel5Ideal.Gen.facts
local instance forwardReferenceFacts : Cert.Reference5Ideal.Facts := Cert.Reference5Ideal.Gen.facts

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts,
    frame_bits, frame_ideal, fun m g _ => frame_ideal m g trivial, frame_reference, fun m g _ => frame_reference m g trivial,
    frame_weight_bits, frame_weight_ideal, frame_weight_reference,
    frame_input_bits, frame_input_ideal, frame_input_reference,
    frame_output_bits, frame_output_ideal, frame_output_reference,
    frame_forward_bits, frame_forward_ideal, frame_forward_reference,
    mask_named, same_gradients, same_text, same_weight, input_text, same_input,
    output_text, same_output, forward_text, same_forward⟩

end Cert.Proof

end
